-- ==== Defs.lean ====
def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_Factor (m : (ℓ : Loc Cert.Factor.nD Cert.Factor.τ Cert.Factor.sig) → Buf (Elt Bits) ℓ) : Prop :=
  True

def Pre_FactorIdeal (m : (ℓ : Loc Cert.FactorIdeal.nD Cert.FactorIdeal.τ Cert.FactorIdeal.sig) → Buf (Elt Ideal) ℓ) : Prop :=
  True

def Pre_FactorIdeal_full_rank [hPre_full_rank : Cert.Pre_full_rank.Facts] (m : (ℓ : Loc Cert.FactorIdeal.nD Cert.FactorIdeal.τ Cert.FactorIdeal.sig) → Buf (Elt Ideal) ℓ) : Prop :=
  ∀ c : Dev Cert.FactorIdeal.nD,
    (Cert.Pre_full_rank.fn (F := Ideal) (m ((c.tc : Thread Cert.FactorIdeal.nD Cert.FactorIdeal.τ).loc Cert.FactorIdeal.main_arg0)) (m ((c.tc : Thread Cert.FactorIdeal.nD Cert.FactorIdeal.τ).loc Cert.FactorIdeal.main_arg1)) (m ((c.tc : Thread Cert.FactorIdeal.nD Cert.FactorIdeal.τ).loc Cert.FactorIdeal.main_arg2))) = (fun _ => 1#1)

def Pre_Backward (m : (ℓ : Loc Cert.Backward.nD Cert.Backward.τ Cert.Backward.sig) → Buf (Elt Bits) ℓ) : Prop :=
  True

def Pre_BackwardIdeal (m : (ℓ : Loc Cert.BackwardIdeal.nD Cert.BackwardIdeal.τ Cert.BackwardIdeal.sig) → Buf (Elt Ideal) ℓ) : Prop :=
  True

def Pre_BackwardIdeal_finite [hPre_finite : Cert.Pre_finite.Facts] (m : (ℓ : Loc Cert.BackwardIdeal.nD Cert.BackwardIdeal.τ Cert.BackwardIdeal.sig) → Buf (Elt Ideal) ℓ) : Prop :=
  ∀ c : Dev Cert.BackwardIdeal.nD,
    (Cert.Pre_finite.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3))) = (fun _ => 1#1)

def Pre_RefForwardIdeal (m : (ℓ : Loc Cert.RefForwardIdeal.nD Cert.RefForwardIdeal.τ Cert.RefForwardIdeal.sig) → Buf (Elt Ideal) ℓ) : Prop :=
  True

def Pre_RefFactorIdeal (m : (ℓ : Loc Cert.RefFactorIdeal.nD Cert.RefFactorIdeal.τ Cert.RefFactorIdeal.sig) → Buf (Elt Ideal) ℓ) : Prop :=
  True

def Pre_RefFactorIdeal_full_rank [hPre_full_rank : Cert.Pre_full_rank.Facts] (m : (ℓ : Loc Cert.RefFactorIdeal.nD Cert.RefFactorIdeal.τ Cert.RefFactorIdeal.sig) → Buf (Elt Ideal) ℓ) : Prop :=
  ∀ c : Dev Cert.RefFactorIdeal.nD,
    (Cert.Pre_full_rank.fn (F := Ideal) (m ((c.tc : Thread Cert.RefFactorIdeal.nD Cert.RefFactorIdeal.τ).loc Cert.RefFactorIdeal.main_arg0)) (m ((c.tc : Thread Cert.RefFactorIdeal.nD Cert.RefFactorIdeal.τ).loc Cert.RefFactorIdeal.main_arg1)) (m ((c.tc : Thread Cert.RefFactorIdeal.nD Cert.RefFactorIdeal.τ).loc Cert.RefFactorIdeal.main_arg2))) = (fun _ => 1#1)

def Pre_RefBackwardIdeal (m : (ℓ : Loc Cert.RefBackwardIdeal.nD Cert.RefBackwardIdeal.τ Cert.RefBackwardIdeal.sig) → Buf (Elt Ideal) ℓ) : Prop :=
  True

def Pre_RefBackwardIdeal_finite [hPre_finite : Cert.Pre_finite.Facts] (m : (ℓ : Loc Cert.RefBackwardIdeal.nD Cert.RefBackwardIdeal.τ Cert.RefBackwardIdeal.sig) → Buf (Elt Ideal) ℓ) : Prop :=
  ∀ c : Dev Cert.RefBackwardIdeal.nD,
    (Cert.Pre_finite.fn (F := Ideal) (m ((c.tc : Thread Cert.RefBackwardIdeal.nD Cert.RefBackwardIdeal.τ).loc Cert.RefBackwardIdeal.main_arg0)) (m ((c.tc : Thread Cert.RefBackwardIdeal.nD Cert.RefBackwardIdeal.τ).loc Cert.RefBackwardIdeal.main_arg1)) (m ((c.tc : Thread Cert.RefBackwardIdeal.nD Cert.RefBackwardIdeal.τ).loc Cert.RefBackwardIdeal.main_arg2)) (m ((c.tc : Thread Cert.RefBackwardIdeal.nD Cert.RefBackwardIdeal.τ).loc Cert.RefBackwardIdeal.main_arg3))) = (fun _ => 1#1)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_Factor [hFactor : Cert.Factor.Facts] : Prop :=
  ∀ (m : (ℓ : Loc Cert.Factor.nD Cert.Factor.τ Cert.Factor.sig) → Buf (Elt Bits) ℓ) (g : Dev Cert.Factor.nD → PrngReg), Pre_Factor m →
    θ_run (Cert.Factor.defs (F := Bits)) (onTc (τ := Cert.Factor.τ) (Cert.Factor.main (F := Bits))) ⟨m, fun _ => 0, g⟩ (fun r => (∀ c : Dev Cert.Factor.nD,
      r.2.mem ((c.tc : Thread Cert.Factor.nD Cert.Factor.τ).loc Cert.Factor.main_arg0) = m ((c.tc : Thread Cert.Factor.nD Cert.Factor.τ).loc Cert.Factor.main_arg0)
      ∧ r.2.mem ((c.tc : Thread Cert.Factor.nD Cert.Factor.τ).loc Cert.Factor.main_arg1) = m ((c.tc : Thread Cert.Factor.nD Cert.Factor.τ).loc Cert.Factor.main_arg1)
      ∧ r.2.mem ((c.tc : Thread Cert.Factor.nD Cert.Factor.τ).loc Cert.Factor.main_arg2) = m ((c.tc : Thread Cert.Factor.nD Cert.Factor.τ).loc Cert.Factor.main_arg2))
      ∧ r.2.sem = fun _ => 0)

def quiescent_FactorIdeal [hFactorIdeal : Cert.FactorIdeal.Facts] : Prop :=
  ∀ (m : (ℓ : Loc Cert.FactorIdeal.nD Cert.FactorIdeal.τ Cert.FactorIdeal.sig) → Buf (Elt Ideal) ℓ) (g : Dev Cert.FactorIdeal.nD → PrngReg), Pre_FactorIdeal m →
    θ_run (Cert.FactorIdeal.defs (F := Ideal)) (onTc (τ := Cert.FactorIdeal.τ) (Cert.FactorIdeal.main (F := Ideal))) ⟨m, fun _ => 0, g⟩ (fun r => (∀ c : Dev Cert.FactorIdeal.nD,
      r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0)
      ∧ r.2.mem ((c.tc : Thread Cert.FactorIdeal.nD Cert.FactorIdeal.τ).loc Cert.FactorIdeal.main_arg1) = m ((c.tc : Thread Cert.FactorIdeal.nD Cert.FactorIdeal.τ).loc Cert.FactorIdeal.main_arg1)
      ∧ r.2.mem ((c.tc : Thread Cert.FactorIdeal.nD Cert.FactorIdeal.τ).loc Cert.FactorIdeal.main_arg2) = m ((c.tc : Thread Cert.FactorIdeal.nD Cert.FactorIdeal.τ).loc Cert.FactorIdeal.main_arg2))
      ∧ r.2.sem = fun _ => 0)

def quiescent_FactorIdeal_pre_full_rank [hFactorIdeal : Cert.FactorIdeal.Facts] [hPre_full_rank : Cert.Pre_full_rank.Facts] : Prop :=
  ∀ (m : (ℓ : Loc Cert.FactorIdeal.nD Cert.FactorIdeal.τ Cert.FactorIdeal.sig) → Buf (Elt Ideal) ℓ) (g : Dev Cert.FactorIdeal.nD → PrngReg), Pre_FactorIdeal_full_rank m →
    θ_run (Cert.FactorIdeal.defs (F := Ideal)) (onTc (τ := Cert.FactorIdeal.τ) (Cert.FactorIdeal.main (F := Ideal))) ⟨m, fun _ => 0, g⟩ (fun r => (∀ c : Dev Cert.FactorIdeal.nD,
      r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0)
      ∧ r.2.mem ((c.tc : Thread Cert.FactorIdeal.nD Cert.FactorIdeal.τ).loc Cert.FactorIdeal.main_arg1) = m ((c.tc : Thread Cert.FactorIdeal.nD Cert.FactorIdeal.τ).loc Cert.FactorIdeal.main_arg1)
      ∧ r.2.mem ((c.tc : Thread Cert.FactorIdeal.nD Cert.FactorIdeal.τ).loc Cert.FactorIdeal.main_arg2) = m ((c.tc : Thread Cert.FactorIdeal.nD Cert.FactorIdeal.τ).loc Cert.FactorIdeal.main_arg2))
      ∧ r.2.sem = fun _ => 0)

def quiescent_Backward [hBackward : Cert.Backward.Facts] : Prop :=
  ∀ (m : (ℓ : Loc Cert.Backward.nD Cert.Backward.τ Cert.Backward.sig) → Buf (Elt Bits) ℓ) (g : Dev Cert.Backward.nD → PrngReg), Pre_Backward m →
    θ_run (Cert.Backward.defs (F := Bits)) (onTc (τ := Cert.Backward.τ) (Cert.Backward.main (F := Bits))) ⟨m, fun _ => 0, g⟩ (fun r => (∀ c : Dev Cert.Backward.nD,
      r.2.mem ((c.tc : Thread Cert.Backward.nD Cert.Backward.τ).loc Cert.Backward.main_arg0) = m ((c.tc : Thread Cert.Backward.nD Cert.Backward.τ).loc Cert.Backward.main_arg0)
      ∧ r.2.mem ((c.tc : Thread Cert.Backward.nD Cert.Backward.τ).loc Cert.Backward.main_arg1) = m ((c.tc : Thread Cert.Backward.nD Cert.Backward.τ).loc Cert.Backward.main_arg1)
      ∧ r.2.mem ((c.tc : Thread Cert.Backward.nD Cert.Backward.τ).loc Cert.Backward.main_arg2) = m ((c.tc : Thread Cert.Backward.nD Cert.Backward.τ).loc Cert.Backward.main_arg2)
      ∧ r.2.mem ((c.tc : Thread Cert.Backward.nD Cert.Backward.τ).loc Cert.Backward.main_arg3) = m ((c.tc : Thread Cert.Backward.nD Cert.Backward.τ).loc Cert.Backward.main_arg3))
      ∧ r.2.sem = fun _ => 0)

def quiescent_BackwardIdeal [hBackwardIdeal : Cert.BackwardIdeal.Facts] : Prop :=
  ∀ (m : (ℓ : Loc Cert.BackwardIdeal.nD Cert.BackwardIdeal.τ Cert.BackwardIdeal.sig) → Buf (Elt Ideal) ℓ) (g : Dev Cert.BackwardIdeal.nD → PrngReg), Pre_BackwardIdeal m →
    θ_run (Cert.BackwardIdeal.defs (F := Ideal)) (onTc (τ := Cert.BackwardIdeal.τ) (Cert.BackwardIdeal.main (F := Ideal))) ⟨m, fun _ => 0, g⟩ (fun r => (∀ c : Dev Cert.BackwardIdeal.nD,
      r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
      ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
      ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
      ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3))
      ∧ r.2.sem = fun _ => 0)

def quiescent_BackwardIdeal_pre_finite [hBackwardIdeal : Cert.BackwardIdeal.Facts] [hPre_finite : Cert.Pre_finite.Facts] : Prop :=
  ∀ (m : (ℓ : Loc Cert.BackwardIdeal.nD Cert.BackwardIdeal.τ Cert.BackwardIdeal.sig) → Buf (Elt Ideal) ℓ) (g : Dev Cert.BackwardIdeal.nD → PrngReg), Pre_BackwardIdeal_finite m →
    θ_run (Cert.BackwardIdeal.defs (F := Ideal)) (onTc (τ := Cert.BackwardIdeal.τ) (Cert.BackwardIdeal.main (F := Ideal))) ⟨m, fun _ => 0, g⟩ (fun r => (∀ c : Dev Cert.BackwardIdeal.nD,
      r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
      ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
      ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
      ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3))
      ∧ r.2.sem = fun _ => 0)

def quiescent_RefForwardIdeal [hRefForwardIdeal : Cert.RefForwardIdeal.Facts] : Prop :=
  ∀ (m : (ℓ : Loc Cert.RefForwardIdeal.nD Cert.RefForwardIdeal.τ Cert.RefForwardIdeal.sig) → Buf (Elt Ideal) ℓ) (g : Dev Cert.RefForwardIdeal.nD → PrngReg), Pre_RefForwardIdeal m →
    θ_run (Cert.RefForwardIdeal.defs (F := Ideal)) (onTc (τ := Cert.RefForwardIdeal.τ) (Cert.RefForwardIdeal.main (F := Ideal))) ⟨m, fun _ => 0, g⟩ (fun r => (∀ c : Dev Cert.RefForwardIdeal.nD,
      r.2.mem ((c.tc : Thread Cert.RefForwardIdeal.nD Cert.RefForwardIdeal.τ).loc Cert.RefForwardIdeal.main_arg0) = m ((c.tc : Thread Cert.RefForwardIdeal.nD Cert.RefForwardIdeal.τ).loc Cert.RefForwardIdeal.main_arg0)
      ∧ r.2.mem ((c.tc : Thread Cert.RefForwardIdeal.nD Cert.RefForwardIdeal.τ).loc Cert.RefForwardIdeal.main_arg1) = m ((c.tc : Thread Cert.RefForwardIdeal.nD Cert.RefForwardIdeal.τ).loc Cert.RefForwardIdeal.main_arg1)
      ∧ r.2.mem ((c.tc : Thread Cert.RefForwardIdeal.nD Cert.RefForwardIdeal.τ).loc Cert.RefForwardIdeal.main_arg2) = m ((c.tc : Thread Cert.RefForwardIdeal.nD Cert.RefForwardIdeal.τ).loc Cert.RefForwardIdeal.main_arg2))
      ∧ r.2.sem = fun _ => 0)

def quiescent_RefFactorIdeal [hRefFactorIdeal : Cert.RefFactorIdeal.Facts] : Prop :=
  ∀ (m : (ℓ : Loc Cert.RefFactorIdeal.nD Cert.RefFactorIdeal.τ Cert.RefFactorIdeal.sig) → Buf (Elt Ideal) ℓ) (g : Dev Cert.RefFactorIdeal.nD → PrngReg), Pre_RefFactorIdeal m →
    θ_run (Cert.RefFactorIdeal.defs (F := Ideal)) (onTc (τ := Cert.RefFactorIdeal.τ) (Cert.RefFactorIdeal.main (F := Ideal))) ⟨m, fun _ => 0, g⟩ (fun r => (∀ c : Dev Cert.RefFactorIdeal.nD,
      r.2.mem ((c.tc : Thread Cert.RefFactorIdeal.nD Cert.RefFactorIdeal.τ).loc Cert.RefFactorIdeal.main_arg0) = m ((c.tc : Thread Cert.RefFactorIdeal.nD Cert.RefFactorIdeal.τ).loc Cert.RefFactorIdeal.main_arg0)
      ∧ r.2.mem ((c.tc : Thread Cert.RefFactorIdeal.nD Cert.RefFactorIdeal.τ).loc Cert.RefFactorIdeal.main_arg1) = m ((c.tc : Thread Cert.RefFactorIdeal.nD Cert.RefFactorIdeal.τ).loc Cert.RefFactorIdeal.main_arg1)
      ∧ r.2.mem ((c.tc : Thread Cert.RefFactorIdeal.nD Cert.RefFactorIdeal.τ).loc Cert.RefFactorIdeal.main_arg2) = m ((c.tc : Thread Cert.RefFactorIdeal.nD Cert.RefFactorIdeal.τ).loc Cert.RefFactorIdeal.main_arg2))
      ∧ r.2.sem = fun _ => 0)

def quiescent_RefFactorIdeal_pre_full_rank [hRefFactorIdeal : Cert.RefFactorIdeal.Facts] [hPre_full_rank : Cert.Pre_full_rank.Facts] : Prop :=
  ∀ (m : (ℓ : Loc Cert.RefFactorIdeal.nD Cert.RefFactorIdeal.τ Cert.RefFactorIdeal.sig) → Buf (Elt Ideal) ℓ) (g : Dev Cert.RefFactorIdeal.nD → PrngReg), Pre_RefFactorIdeal_full_rank m →
    θ_run (Cert.RefFactorIdeal.defs (F := Ideal)) (onTc (τ := Cert.RefFactorIdeal.τ) (Cert.RefFactorIdeal.main (F := Ideal))) ⟨m, fun _ => 0, g⟩ (fun r => (∀ c : Dev Cert.RefFactorIdeal.nD,
      r.2.mem ((c.tc : Thread Cert.RefFactorIdeal.nD Cert.RefFactorIdeal.τ).loc Cert.RefFactorIdeal.main_arg0) = m ((c.tc : Thread Cert.RefFactorIdeal.nD Cert.RefFactorIdeal.τ).loc Cert.RefFactorIdeal.main_arg0)
      ∧ r.2.mem ((c.tc : Thread Cert.RefFactorIdeal.nD Cert.RefFactorIdeal.τ).loc Cert.RefFactorIdeal.main_arg1) = m ((c.tc : Thread Cert.RefFactorIdeal.nD Cert.RefFactorIdeal.τ).loc Cert.RefFactorIdeal.main_arg1)
      ∧ r.2.mem ((c.tc : Thread Cert.RefFactorIdeal.nD Cert.RefFactorIdeal.τ).loc Cert.RefFactorIdeal.main_arg2) = m ((c.tc : Thread Cert.RefFactorIdeal.nD Cert.RefFactorIdeal.τ).loc Cert.RefFactorIdeal.main_arg2))
      ∧ r.2.sem = fun _ => 0)

def quiescent_RefBackwardIdeal [hRefBackwardIdeal : Cert.RefBackwardIdeal.Facts] : Prop :=
  ∀ (m : (ℓ : Loc Cert.RefBackwardIdeal.nD Cert.RefBackwardIdeal.τ Cert.RefBackwardIdeal.sig) → Buf (Elt Ideal) ℓ) (g : Dev Cert.RefBackwardIdeal.nD → PrngReg), Pre_RefBackwardIdeal m →
    θ_run (Cert.RefBackwardIdeal.defs (F := Ideal)) (onTc (τ := Cert.RefBackwardIdeal.τ) (Cert.RefBackwardIdeal.main (F := Ideal))) ⟨m, fun _ => 0, g⟩ (fun r => (∀ c : Dev Cert.RefBackwardIdeal.nD,
      r.2.mem ((c.tc : Thread Cert.RefBackwardIdeal.nD Cert.RefBackwardIdeal.τ).loc Cert.RefBackwardIdeal.main_arg0) = m ((c.tc : Thread Cert.RefBackwardIdeal.nD Cert.RefBackwardIdeal.τ).loc Cert.RefBackwardIdeal.main_arg0)
      ∧ r.2.mem ((c.tc : Thread Cert.RefBackwardIdeal.nD Cert.RefBackwardIdeal.τ).loc Cert.RefBackwardIdeal.main_arg1) = m ((c.tc : Thread Cert.RefBackwardIdeal.nD Cert.RefBackwardIdeal.τ).loc Cert.RefBackwardIdeal.main_arg1)
      ∧ r.2.mem ((c.tc : Thread Cert.RefBackwardIdeal.nD Cert.RefBackwardIdeal.τ).loc Cert.RefBackwardIdeal.main_arg2) = m ((c.tc : Thread Cert.RefBackwardIdeal.nD Cert.RefBackwardIdeal.τ).loc Cert.RefBackwardIdeal.main_arg2)
      ∧ r.2.mem ((c.tc : Thread Cert.RefBackwardIdeal.nD Cert.RefBackwardIdeal.τ).loc Cert.RefBackwardIdeal.main_arg3) = m ((c.tc : Thread Cert.RefBackwardIdeal.nD Cert.RefBackwardIdeal.τ).loc Cert.RefBackwardIdeal.main_arg3))
      ∧ r.2.sem = fun _ => 0)

def quiescent_RefBackwardIdeal_pre_finite [hRefBackwardIdeal : Cert.RefBackwardIdeal.Facts] [hPre_finite : Cert.Pre_finite.Facts] : Prop :=
  ∀ (m : (ℓ : Loc Cert.RefBackwardIdeal.nD Cert.RefBackwardIdeal.τ Cert.RefBackwardIdeal.sig) → Buf (Elt Ideal) ℓ) (g : Dev Cert.RefBackwardIdeal.nD → PrngReg), Pre_RefBackwardIdeal_finite m →
    θ_run (Cert.RefBackwardIdeal.defs (F := Ideal)) (onTc (τ := Cert.RefBackwardIdeal.τ) (Cert.RefBackwardIdeal.main (F := Ideal))) ⟨m, fun _ => 0, g⟩ (fun r => (∀ c : Dev Cert.RefBackwardIdeal.nD,
      r.2.mem ((c.tc : Thread Cert.RefBackwardIdeal.nD Cert.RefBackwardIdeal.τ).loc Cert.RefBackwardIdeal.main_arg0) = m ((c.tc : Thread Cert.RefBackwardIdeal.nD Cert.RefBackwardIdeal.τ).loc Cert.RefBackwardIdeal.main_arg0)
      ∧ r.2.mem ((c.tc : Thread Cert.RefBackwardIdeal.nD Cert.RefBackwardIdeal.τ).loc Cert.RefBackwardIdeal.main_arg1) = m ((c.tc : Thread Cert.RefBackwardIdeal.nD Cert.RefBackwardIdeal.τ).loc Cert.RefBackwardIdeal.main_arg1)
      ∧ r.2.mem ((c.tc : Thread Cert.RefBackwardIdeal.nD Cert.RefBackwardIdeal.τ).loc Cert.RefBackwardIdeal.main_arg2) = m ((c.tc : Thread Cert.RefBackwardIdeal.nD Cert.RefBackwardIdeal.τ).loc Cert.RefBackwardIdeal.main_arg2)
      ∧ r.2.mem ((c.tc : Thread Cert.RefBackwardIdeal.nD Cert.RefBackwardIdeal.τ).loc Cert.RefBackwardIdeal.main_arg3) = m ((c.tc : Thread Cert.RefBackwardIdeal.nD Cert.RefBackwardIdeal.τ).loc Cert.RefBackwardIdeal.main_arg3))
      ∧ r.2.sem = fun _ => 0)

def preserves_Forward_ForwardIdeal : Prop :=
  IdealRules.bf16_pack.Statement Cert.ForwardIdeal.S56x512
  ∧ IdealRules.bf16_pack.Statement Cert.ForwardIdeal.S56x56

def preserves_Factor_FactorIdeal : Prop :=
  IdealRules.bf16_pack.Statement Cert.FactorIdeal.S56x512
  ∧ IdealRules.bf16_pack.Statement Cert.FactorIdeal.S56x56

def preserves_Backward_BackwardIdeal : Prop :=
  IdealRules.bf16_pack.Statement Cert.BackwardIdeal.S56x512

def algebraic_ForwardIdeal_RefForwardIdeal [hForwardIdeal : Cert.ForwardIdeal.Facts] [hRefForwardIdeal : Cert.RefForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.RefForwardIdeal.nD Cert.RefForwardIdeal.τ Cert.RefForwardIdeal.sig) → Buf (Elt Ideal) ℓ) (g' : Dev Cert.RefForwardIdeal.nD → PrngReg), Pre_ForwardIdeal m →
    (∀ c : Dev Cert.ForwardIdeal.nD,
      m' ((c.tc : Thread Cert.RefForwardIdeal.nD Cert.RefForwardIdeal.τ).loc Cert.RefForwardIdeal.main_arg0) = m ((c.tc : Thread Cert.ForwardIdeal.nD Cert.ForwardIdeal.τ).loc Cert.ForwardIdeal.main_arg0)
      ∧ m' ((c.tc : Thread Cert.RefForwardIdeal.nD Cert.RefForwardIdeal.τ).loc Cert.RefForwardIdeal.main_arg1) = m ((c.tc : Thread Cert.ForwardIdeal.nD Cert.ForwardIdeal.τ).loc Cert.ForwardIdeal.main_arg1)
      ∧ m' ((c.tc : Thread Cert.RefForwardIdeal.nD Cert.RefForwardIdeal.τ).loc Cert.RefForwardIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v2_0)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v2_0) = v0 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.RefForwardIdeal.defs (F := Ideal)) (onTc (τ := Cert.RefForwardIdeal.τ) (Cert.RefForwardIdeal.main (F := Ideal))) ⟨m', fun _ => 0, g'⟩ (fun r => ∀ c : Dev Cert.RefForwardIdeal.nD,
          r.2.mem ((c.tc : Thread Cert.RefForwardIdeal.nD Cert.RefForwardIdeal.τ).loc Cert.RefForwardIdeal.main_v5) = v0 c
          ∧ r.2.mem ((c.tc : Thread Cert.RefForwardIdeal.nD Cert.RefForwardIdeal.τ).loc Cert.RefForwardIdeal.main_arg0) = m' ((c.tc : Thread Cert.RefForwardIdeal.nD Cert.RefForwardIdeal.τ).loc Cert.RefForwardIdeal.main_arg0)
          ∧ r.2.mem ((c.tc : Thread Cert.RefForwardIdeal.nD Cert.RefForwardIdeal.τ).loc Cert.RefForwardIdeal.main_arg1) = m' ((c.tc : Thread Cert.RefForwardIdeal.nD Cert.RefForwardIdeal.τ).loc Cert.RefForwardIdeal.main_arg1)
          ∧ r.2.mem ((c.tc : Thread Cert.RefForwardIdeal.nD Cert.RefForwardIdeal.τ).loc Cert.RefForwardIdeal.main_arg2) = m' ((c.tc : Thread Cert.RefForwardIdeal.nD Cert.RefForwardIdeal.τ).loc Cert.RefForwardIdeal.main_arg2))

def algebraic_FactorIdeal_RefFactorIdeal_pre_full_rank [hFactorIdeal : Cert.FactorIdeal.Facts] [hRefFactorIdeal : Cert.RefFactorIdeal.Facts] [hPre_full_rank : Cert.Pre_full_rank.Facts] : Prop :=
  ∀ (m : (ℓ : Loc Cert.FactorIdeal.nD Cert.FactorIdeal.τ Cert.FactorIdeal.sig) → Buf (Elt Ideal) ℓ) (g : Dev Cert.FactorIdeal.nD → PrngReg)
    (m' : (ℓ : Loc Cert.RefFactorIdeal.nD Cert.RefFactorIdeal.τ Cert.RefFactorIdeal.sig) → Buf (Elt Ideal) ℓ) (g' : Dev Cert.RefFactorIdeal.nD → PrngReg), Pre_FactorIdeal_full_rank m →
    (∀ c : Dev Cert.FactorIdeal.nD,
      m' ((c.tc : Thread Cert.RefFactorIdeal.nD Cert.RefFactorIdeal.τ).loc Cert.RefFactorIdeal.main_arg0) = m ((c.tc : Thread Cert.FactorIdeal.nD Cert.FactorIdeal.τ).loc Cert.FactorIdeal.main_arg0)
      ∧ m' ((c.tc : Thread Cert.RefFactorIdeal.nD Cert.RefFactorIdeal.τ).loc Cert.RefFactorIdeal.main_arg1) = m ((c.tc : Thread Cert.FactorIdeal.nD Cert.FactorIdeal.τ).loc Cert.FactorIdeal.main_arg1)
      ∧ m' ((c.tc : Thread Cert.RefFactorIdeal.nD Cert.RefFactorIdeal.τ).loc Cert.RefFactorIdeal.main_arg2) = m ((c.tc : Thread Cert.FactorIdeal.nD Cert.FactorIdeal.τ).loc Cert.FactorIdeal.main_arg2)) →
    ∃ (v0 : (c : Dev Cert.FactorIdeal.nD) → Buf (Elt Ideal) ((c.tc : Thread Cert.FactorIdeal.nD Cert.FactorIdeal.τ).loc Cert.FactorIdeal.main_v2_1)),
      θ_run (Cert.FactorIdeal.defs (F := Ideal)) (onTc (τ := Cert.FactorIdeal.τ) (Cert.FactorIdeal.main (F := Ideal))) ⟨m, fun _ => 0, g⟩ (fun r => ∀ c : Dev Cert.FactorIdeal.nD,
          r.2.mem ((c.tc : Thread Cert.FactorIdeal.nD Cert.FactorIdeal.τ).loc Cert.FactorIdeal.main_v2_1) = v0 c
          ∧ r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0)
          ∧ r.2.mem ((c.tc : Thread Cert.FactorIdeal.nD Cert.FactorIdeal.τ).loc Cert.FactorIdeal.main_arg1) = m ((c.tc : Thread Cert.FactorIdeal.nD Cert.FactorIdeal.τ).loc Cert.FactorIdeal.main_arg1)
          ∧ r.2.mem ((c.tc : Thread Cert.FactorIdeal.nD Cert.FactorIdeal.τ).loc Cert.FactorIdeal.main_arg2) = m ((c.tc : Thread Cert.FactorIdeal.nD Cert.FactorIdeal.τ).loc Cert.FactorIdeal.main_arg2))
      ∧ θ_run (Cert.RefFactorIdeal.defs (F := Ideal)) (onTc (τ := Cert.RefFactorIdeal.τ) (Cert.RefFactorIdeal.main (F := Ideal))) ⟨m', fun _ => 0, g'⟩ (fun r => ∀ c : Dev Cert.RefFactorIdeal.nD,
          r.2.mem ((c.tc : Thread Cert.RefFactorIdeal.nD Cert.RefFactorIdeal.τ).loc Cert.RefFactorIdeal.main_v28) = v0 c
          ∧ r.2.mem ((c.tc : Thread Cert.RefFactorIdeal.nD Cert.RefFactorIdeal.τ).loc Cert.RefFactorIdeal.main_arg0) = m' ((c.tc : Thread Cert.RefFactorIdeal.nD Cert.RefFactorIdeal.τ).loc Cert.RefFactorIdeal.main_arg0)
          ∧ r.2.mem ((c.tc : Thread Cert.RefFactorIdeal.nD Cert.RefFactorIdeal.τ).loc Cert.RefFactorIdeal.main_arg1) = m' ((c.tc : Thread Cert.RefFactorIdeal.nD Cert.RefFactorIdeal.τ).loc Cert.RefFactorIdeal.main_arg1)
          ∧ r.2.mem ((c.tc : Thread Cert.RefFactorIdeal.nD Cert.RefFactorIdeal.τ).loc Cert.RefFactorIdeal.main_arg2) = m' ((c.tc : Thread Cert.RefFactorIdeal.nD Cert.RefFactorIdeal.τ).loc Cert.RefFactorIdeal.main_arg2))

def algebraic_BackwardIdeal_RefBackwardIdeal_pre_finite [hBackwardIdeal : Cert.BackwardIdeal.Facts] [hRefBackwardIdeal : Cert.RefBackwardIdeal.Facts] [hPre_finite : Cert.Pre_finite.Facts] : Prop :=
  ∀ (m : (ℓ : Loc Cert.BackwardIdeal.nD Cert.BackwardIdeal.τ Cert.BackwardIdeal.sig) → Buf (Elt Ideal) ℓ) (g : Dev Cert.BackwardIdeal.nD → PrngReg)
    (m' : (ℓ : Loc Cert.RefBackwardIdeal.nD Cert.RefBackwardIdeal.τ Cert.RefBackwardIdeal.sig) → Buf (Elt Ideal) ℓ) (g' : Dev Cert.RefBackwardIdeal.nD → PrngReg), Pre_BackwardIdeal_finite m →
    (∀ c : Dev Cert.BackwardIdeal.nD,
      m' ((c.tc : Thread Cert.RefBackwardIdeal.nD Cert.RefBackwardIdeal.τ).loc Cert.RefBackwardIdeal.main_arg0) = m ((c.tc : Thread Cert.BackwardIdeal.nD Cert.BackwardIdeal.τ).loc Cert.BackwardIdeal.main_arg0)
      ∧ m' ((c.tc : Thread Cert.RefBackwardIdeal.nD Cert.RefBackwardIdeal.τ).loc Cert.RefBackwardIdeal.main_arg1) = m ((c.tc : Thread Cert.BackwardIdeal.nD Cert.BackwardIdeal.τ).loc Cert.BackwardIdeal.main_arg1)
      ∧ m' ((c.tc : Thread Cert.RefBackwardIdeal.nD Cert.RefBackwardIdeal.τ).loc Cert.RefBackwardIdeal.main_arg2) = m ((c.tc : Thread Cert.BackwardIdeal.nD Cert.BackwardIdeal.τ).loc Cert.BackwardIdeal.main_arg2)
      ∧ m' ((c.tc : Thread Cert.RefBackwardIdeal.nD Cert.RefBackwardIdeal.τ).loc Cert.RefBackwardIdeal.main_arg3) = m ((c.tc : Thread Cert.BackwardIdeal.nD Cert.BackwardIdeal.τ).loc Cert.BackwardIdeal.main_arg3)) →
    ∃ (v0 : (c : Dev Cert.BackwardIdeal.nD) → Buf (Elt Ideal) ((c.tc : Thread Cert.BackwardIdeal.nD Cert.BackwardIdeal.τ).loc Cert.BackwardIdeal.main_v1_0)) (v1 : (c : Dev Cert.BackwardIdeal.nD) → Buf (Elt Ideal) ((c.tc : Thread Cert.BackwardIdeal.nD Cert.BackwardIdeal.τ).loc Cert.BackwardIdeal.main_v1_1)),
      θ_run (Cert.BackwardIdeal.defs (F := Ideal)) (onTc (τ := Cert.BackwardIdeal.τ) (Cert.BackwardIdeal.main (F := Ideal))) ⟨m, fun _ => 0, g⟩ (fun r => ∀ c : Dev Cert.BackwardIdeal.nD,
          r.2.mem ((c.tc : Thread Cert.BackwardIdeal.nD Cert.BackwardIdeal.τ).loc Cert.BackwardIdeal.main_v1_0) = v0 c
          ∧ r.2.mem ((c.tc : Thread Cert.BackwardIdeal.nD Cert.BackwardIdeal.τ).loc Cert.BackwardIdeal.main_v1_1) = v1 c
          ∧ r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
          ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
          ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
          ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3))
      ∧ θ_run (Cert.RefBackwardIdeal.defs (F := Ideal)) (onTc (τ := Cert.RefBackwardIdeal.τ) (Cert.RefBackwardIdeal.main (F := Ideal))) ⟨m', fun _ => 0, g'⟩ (fun r => ∀ c : Dev Cert.RefBackwardIdeal.nD,
          r.2.mem ((c.tc : Thread Cert.RefBackwardIdeal.nD Cert.RefBackwardIdeal.τ).loc Cert.RefBackwardIdeal.main_v12) = v0 c
          ∧ r.2.mem ((c.tc : Thread Cert.RefBackwardIdeal.nD Cert.RefBackwardIdeal.τ).loc Cert.RefBackwardIdeal.main_v16) = v1 c
          ∧ r.2.mem ((c.tc : Thread Cert.RefBackwardIdeal.nD Cert.RefBackwardIdeal.τ).loc Cert.RefBackwardIdeal.main_arg0) = m' ((c.tc : Thread Cert.RefBackwardIdeal.nD Cert.RefBackwardIdeal.τ).loc Cert.RefBackwardIdeal.main_arg0)
          ∧ r.2.mem ((c.tc : Thread Cert.RefBackwardIdeal.nD Cert.RefBackwardIdeal.τ).loc Cert.RefBackwardIdeal.main_arg1) = m' ((c.tc : Thread Cert.RefBackwardIdeal.nD Cert.RefBackwardIdeal.τ).loc Cert.RefBackwardIdeal.main_arg1)
          ∧ r.2.mem ((c.tc : Thread Cert.RefBackwardIdeal.nD Cert.RefBackwardIdeal.τ).loc Cert.RefBackwardIdeal.main_arg2) = m' ((c.tc : Thread Cert.RefBackwardIdeal.nD Cert.RefBackwardIdeal.τ).loc Cert.RefBackwardIdeal.main_arg2)
          ∧ r.2.mem ((c.tc : Thread Cert.RefBackwardIdeal.nD Cert.RefBackwardIdeal.τ).loc Cert.RefBackwardIdeal.main_arg3) = m' ((c.tc : Thread Cert.RefBackwardIdeal.nD Cert.RefBackwardIdeal.τ).loc Cert.RefBackwardIdeal.main_arg3))

def Claim : Prop :=
  ∃ (hForward : Cert.Forward.Facts) (hForwardIdeal : Cert.ForwardIdeal.Facts) (hFactor : Cert.Factor.Facts) (hFactorIdeal : Cert.FactorIdeal.Facts) (hBackward : Cert.Backward.Facts) (hBackwardIdeal : Cert.BackwardIdeal.Facts) (hRefForwardIdeal : Cert.RefForwardIdeal.Facts) (hRefFactorIdeal : Cert.RefFactorIdeal.Facts) (hRefBackwardIdeal : Cert.RefBackwardIdeal.Facts) (hPre_full_rank : Cert.Pre_full_rank.Facts) (hPre_finite : Cert.Pre_finite.Facts),
    quiescent_Forward (hForward := hForward)
    ∧ quiescent_ForwardIdeal (hForwardIdeal := hForwardIdeal)
    ∧ quiescent_Factor (hFactor := hFactor)
    ∧ quiescent_FactorIdeal (hFactorIdeal := hFactorIdeal)
    ∧ quiescent_FactorIdeal_pre_full_rank (hFactorIdeal := hFactorIdeal) (hPre_full_rank := hPre_full_rank)
    ∧ quiescent_Backward (hBackward := hBackward)
    ∧ quiescent_BackwardIdeal (hBackwardIdeal := hBackwardIdeal)
    ∧ quiescent_BackwardIdeal_pre_finite (hBackwardIdeal := hBackwardIdeal) (hPre_finite := hPre_finite)
    ∧ quiescent_RefForwardIdeal (hRefForwardIdeal := hRefForwardIdeal)
    ∧ quiescent_RefFactorIdeal (hRefFactorIdeal := hRefFactorIdeal)
    ∧ quiescent_RefFactorIdeal_pre_full_rank (hRefFactorIdeal := hRefFactorIdeal) (hPre_full_rank := hPre_full_rank)
    ∧ quiescent_RefBackwardIdeal (hRefBackwardIdeal := hRefBackwardIdeal)
    ∧ quiescent_RefBackwardIdeal_pre_finite (hRefBackwardIdeal := hRefBackwardIdeal) (hPre_finite := hPre_finite)
    ∧ preserves_Forward_ForwardIdeal
    ∧ preserves_Factor_FactorIdeal
    ∧ preserves_Backward_BackwardIdeal
    ∧ algebraic_ForwardIdeal_RefForwardIdeal (hForwardIdeal := hForwardIdeal) (hRefForwardIdeal := hRefForwardIdeal)
    ∧ algebraic_FactorIdeal_RefFactorIdeal_pre_full_rank (hFactorIdeal := hFactorIdeal) (hRefFactorIdeal := hRefFactorIdeal) (hPre_full_rank := hPre_full_rank)
    ∧ algebraic_BackwardIdeal_RefBackwardIdeal_pre_finite (hBackwardIdeal := hBackwardIdeal) (hRefBackwardIdeal := hRefBackwardIdeal) (hPre_finite := hPre_finite)
-- ==== Pre_finite.lean ====
abbrev S1x704x524288 : Shape := ⟨3, ![1, 704, 524288]⟩
abbrev S1x524288 : Shape := ⟨2, ![1, 524288]⟩
abbrev S56x524288 : Shape := ⟨2, ![56, 524288]⟩
abbrev S168x168 : Shape := ⟨2, ![168, 168]⟩
abbrev S_ : Shape := ⟨0, ![]⟩

class Facts : Prop where
  bcast_S_S56x524288 : S_.BroadcastsInDim S56x524288 (![] : Fin 0 → Fin S56x524288.rank)
  reducesTo_S56x524288_S_d0_1 : S56x524288.ReducesTo [0, 1] S_
  h_S_ : 0 < S_.numel
  bcast_S_S168x168 : S_.BroadcastsInDim S168x168 (![] : Fin 0 → Fin S168x168.rank)
  reducesTo_S168x168_S_d0_1 : S168x168.ReducesTo [0, 1] S_

variable [Facts]

def fn {F : FTy → Type} [FloatOps F] (main_arg0 : IVec S1x704x524288 8) (main_arg1 : FVec F S1x524288 .f32) (main_arg2 : FVec F S56x524288 .f32) (main_arg3 : FVec F S168x168 .bf16) : IVec S_ 1 :=
  let main_v0 : FVec F S56x524288 .f32 := Host.absf main_arg2
  let main_cst : FVec F S_ .f32 := constant S_ .f32 0x7F800000#32
  let main_v1 : FVec F S56x524288 .f32 := broadcastInDim S56x524288 ![] bcast_S_S56x524288 main_cst
  let main_v2 : IVec S56x524288 1 := cmpf .olt main_v0 main_v1
  let main_c : IVec S_ 1 := constantI S_ 1 1#1
  let main_v3 : IVec S_ 1 := (fun x v => Host.reduce IntOp.andi x v reducesTo_S56x524288_S_d0_1 h_S_) main_v2 main_c
  let main_v4 : FVec F S168x168 .bf16 := Host.absf main_arg3
  let main_cst_0 : FVec F S_ .bf16 := constant S_ .bf16 0x7F80#16
  let main_v5 : FVec F S168x168 .bf16 := broadcastInDim S168x168 ![] bcast_S_S168x168 main_cst_0
  let main_v6 : IVec S168x168 1 := cmpf .olt main_v4 main_v5
  let main_c_1 : IVec S_ 1 := constantI S_ 1 1#1
  let main_v7 : IVec S_ 1 := (fun x v => Host.reduce IntOp.andi x v reducesTo_S168x168_S_d0_1 h_S_) main_v6 main_c_1
  let main_v8 : IVec S_ 1 := andi main_v3 main_v7
  main_v8
-- ==== Pre_full_rank.lean ====
abbrev S1x704x524288 : Shape := ⟨3, ![1, 704, 524288]⟩
abbrev S1x524288 : Shape := ⟨2, ![1, 524288]⟩
abbrev S704x56 : Shape := ⟨2, ![704, 56]⟩
abbrev S704x524288 : Shape := ⟨2, ![704, 524288]⟩
abbrev S56x524288 : Shape := ⟨2, ![56, 524288]⟩
abbrev S56x56 : Shape := ⟨2, ![56, 56]⟩
abbrev S1x1 : Shape := ⟨2, ![1, 1]⟩
abbrev S_ : Shape := ⟨0, ![]⟩
abbrev S56x1 : Shape := ⟨2, ![56, 1]⟩
abbrev S1x56 : Shape := ⟨2, ![1, 56]⟩

class Facts : Prop where
  shapeCasts_S1x704x524288_S704x524288 : S1x704x524288.ShapeCasts S704x524288
  natLt_8_32 : 8 < 32
  bcast_S1x524288_S56x524288_0_1 : S1x524288.BroadcastsInDim S56x524288 (![0, 1] : Fin 2 → Fin S56x524288.rank)
  slices_S56x56_S1x1_0_0 : S56x56.Slices ![0, 0] S1x1
  bcast_S_S1x1 : S_.BroadcastsInDim S1x1 (![] : Fin 0 → Fin S1x1.rank)
  reducesTo_S1x1_S_d0_1 : S1x1.ReducesTo [0, 1] S_
  h_S_ : 0 < S_.numel
  slices_S56x56_S56x1_0_0 : S56x56.Slices ![0, 0] S56x1
  slices_S56x56_S1x56_0_0 : S56x56.Slices ![0, 0] S1x56
  bcast_S56x1_S56x56_0_1 : S56x1.BroadcastsInDim S56x56 (![0, 1] : Fin 2 → Fin S56x56.rank)
  bcast_S1x56_S56x56_0_1 : S1x56.BroadcastsInDim S56x56 (![0, 1] : Fin 2 → Fin S56x56.rank)
  bcast_S1x1_S56x56_0_1 : S1x1.BroadcastsInDim S56x56 (![0, 1] : Fin 2 → Fin S56x56.rank)
  slices_S56x56_S1x1_1_1 : S56x56.Slices ![1, 1] S1x1
  slices_S56x56_S56x1_0_1 : S56x56.Slices ![0, 1] S56x1
  slices_S56x56_S1x56_1_0 : S56x56.Slices ![1, 0] S1x56
  slices_S56x56_S1x1_2_2 : S56x56.Slices ![2, 2] S1x1
  slices_S56x56_S56x1_0_2 : S56x56.Slices ![0, 2] S56x1
  slices_S56x56_S1x56_2_0 : S56x56.Slices ![2, 0] S1x56
  slices_S56x56_S1x1_3_3 : S56x56.Slices ![3, 3] S1x1
  slices_S56x56_S56x1_0_3 : S56x56.Slices ![0, 3] S56x1
  slices_S56x56_S1x56_3_0 : S56x56.Slices ![3, 0] S1x56
  slices_S56x56_S1x1_4_4 : S56x56.Slices ![4, 4] S1x1
  slices_S56x56_S56x1_0_4 : S56x56.Slices ![0, 4] S56x1
  slices_S56x56_S1x56_4_0 : S56x56.Slices ![4, 0] S1x56
  slices_S56x56_S1x1_5_5 : S56x56.Slices ![5, 5] S1x1
  slices_S56x56_S56x1_0_5 : S56x56.Slices ![0, 5] S56x1
  slices_S56x56_S1x56_5_0 : S56x56.Slices ![5, 0] S1x56
  slices_S56x56_S1x1_6_6 : S56x56.Slices ![6, 6] S1x1
  slices_S56x56_S56x1_0_6 : S56x56.Slices ![0, 6] S56x1
  slices_S56x56_S1x56_6_0 : S56x56.Slices ![6, 0] S1x56
  slices_S56x56_S1x1_7_7 : S56x56.Slices ![7, 7] S1x1
  slices_S56x56_S56x1_0_7 : S56x56.Slices ![0, 7] S56x1
  slices_S56x56_S1x56_7_0 : S56x56.Slices ![7, 0] S1x56
  slices_S56x56_S1x1_8_8 : S56x56.Slices ![8, 8] S1x1
  slices_S56x56_S56x1_0_8 : S56x56.Slices ![0, 8] S56x1
  slices_S56x56_S1x56_8_0 : S56x56.Slices ![8, 0] S1x56
  slices_S56x56_S1x1_9_9 : S56x56.Slices ![9, 9] S1x1
  slices_S56x56_S56x1_0_9 : S56x56.Slices ![0, 9] S56x1
  slices_S56x56_S1x56_9_0 : S56x56.Slices ![9, 0] S1x56
  slices_S56x56_S1x1_10_10 : S56x56.Slices ![10, 10] S1x1
  slices_S56x56_S56x1_0_10 : S56x56.Slices ![0, 10] S56x1
  slices_S56x56_S1x56_10_0 : S56x56.Slices ![10, 0] S1x56
  slices_S56x56_S1x1_11_11 : S56x56.Slices ![11, 11] S1x1
  slices_S56x56_S56x1_0_11 : S56x56.Slices ![0, 11] S56x1
  slices_S56x56_S1x56_11_0 : S56x56.Slices ![11, 0] S1x56
  slices_S56x56_S1x1_12_12 : S56x56.Slices ![12, 12] S1x1
  slices_S56x56_S56x1_0_12 : S56x56.Slices ![0, 12] S56x1
  slices_S56x56_S1x56_12_0 : S56x56.Slices ![12, 0] S1x56
  slices_S56x56_S1x1_13_13 : S56x56.Slices ![13, 13] S1x1
  slices_S56x56_S56x1_0_13 : S56x56.Slices ![0, 13] S56x1
  slices_S56x56_S1x56_13_0 : S56x56.Slices ![13, 0] S1x56
  slices_S56x56_S1x1_14_14 : S56x56.Slices ![14, 14] S1x1
  slices_S56x56_S56x1_0_14 : S56x56.Slices ![0, 14] S56x1
  slices_S56x56_S1x56_14_0 : S56x56.Slices ![14, 0] S1x56
  slices_S56x56_S1x1_15_15 : S56x56.Slices ![15, 15] S1x1
  slices_S56x56_S56x1_0_15 : S56x56.Slices ![0, 15] S56x1
  slices_S56x56_S1x56_15_0 : S56x56.Slices ![15, 0] S1x56
  slices_S56x56_S1x1_16_16 : S56x56.Slices ![16, 16] S1x1
  slices_S56x56_S56x1_0_16 : S56x56.Slices ![0, 16] S56x1
  slices_S56x56_S1x56_16_0 : S56x56.Slices ![16, 0] S1x56
  slices_S56x56_S1x1_17_17 : S56x56.Slices ![17, 17] S1x1
  slices_S56x56_S56x1_0_17 : S56x56.Slices ![0, 17] S56x1
  slices_S56x56_S1x56_17_0 : S56x56.Slices ![17, 0] S1x56
  slices_S56x56_S1x1_18_18 : S56x56.Slices ![18, 18] S1x1
  slices_S56x56_S56x1_0_18 : S56x56.Slices ![0, 18] S56x1
  slices_S56x56_S1x56_18_0 : S56x56.Slices ![18, 0] S1x56
  slices_S56x56_S1x1_19_19 : S56x56.Slices ![19, 19] S1x1
  slices_S56x56_S56x1_0_19 : S56x56.Slices ![0, 19] S56x1
  slices_S56x56_S1x56_19_0 : S56x56.Slices ![19, 0] S1x56
  slices_S56x56_S1x1_20_20 : S56x56.Slices ![20, 20] S1x1
  slices_S56x56_S56x1_0_20 : S56x56.Slices ![0, 20] S56x1
  slices_S56x56_S1x56_20_0 : S56x56.Slices ![20, 0] S1x56
  slices_S56x56_S1x1_21_21 : S56x56.Slices ![21, 21] S1x1
  slices_S56x56_S56x1_0_21 : S56x56.Slices ![0, 21] S56x1
  slices_S56x56_S1x56_21_0 : S56x56.Slices ![21, 0] S1x56
  slices_S56x56_S1x1_22_22 : S56x56.Slices ![22, 22] S1x1
  slices_S56x56_S56x1_0_22 : S56x56.Slices ![0, 22] S56x1
  slices_S56x56_S1x56_22_0 : S56x56.Slices ![22, 0] S1x56
  slices_S56x56_S1x1_23_23 : S56x56.Slices ![23, 23] S1x1
  slices_S56x56_S56x1_0_23 : S56x56.Slices ![0, 23] S56x1
  slices_S56x56_S1x56_23_0 : S56x56.Slices ![23, 0] S1x56
  slices_S56x56_S1x1_24_24 : S56x56.Slices ![24, 24] S1x1
  slices_S56x56_S56x1_0_24 : S56x56.Slices ![0, 24] S56x1
  slices_S56x56_S1x56_24_0 : S56x56.Slices ![24, 0] S1x56
  slices_S56x56_S1x1_25_25 : S56x56.Slices ![25, 25] S1x1
  slices_S56x56_S56x1_0_25 : S56x56.Slices ![0, 25] S56x1
  slices_S56x56_S1x56_25_0 : S56x56.Slices ![25, 0] S1x56
  slices_S56x56_S1x1_26_26 : S56x56.Slices ![26, 26] S1x1
  slices_S56x56_S56x1_0_26 : S56x56.Slices ![0, 26] S56x1
  slices_S56x56_S1x56_26_0 : S56x56.Slices ![26, 0] S1x56
  slices_S56x56_S1x1_27_27 : S56x56.Slices ![27, 27] S1x1
  slices_S56x56_S56x1_0_27 : S56x56.Slices ![0, 27] S56x1
  slices_S56x56_S1x56_27_0 : S56x56.Slices ![27, 0] S1x56
  slices_S56x56_S1x1_28_28 : S56x56.Slices ![28, 28] S1x1
  slices_S56x56_S56x1_0_28 : S56x56.Slices ![0, 28] S56x1
  slices_S56x56_S1x56_28_0 : S56x56.Slices ![28, 0] S1x56
  slices_S56x56_S1x1_29_29 : S56x56.Slices ![29, 29] S1x1
  slices_S56x56_S56x1_0_29 : S56x56.Slices ![0, 29] S56x1
  slices_S56x56_S1x56_29_0 : S56x56.Slices ![29, 0] S1x56
  slices_S56x56_S1x1_30_30 : S56x56.Slices ![30, 30] S1x1
  slices_S56x56_S56x1_0_30 : S56x56.Slices ![0, 30] S56x1
  slices_S56x56_S1x56_30_0 : S56x56.Slices ![30, 0] S1x56
  slices_S56x56_S1x1_31_31 : S56x56.Slices ![31, 31] S1x1
  slices_S56x56_S56x1_0_31 : S56x56.Slices ![0, 31] S56x1
  slices_S56x56_S1x56_31_0 : S56x56.Slices ![31, 0] S1x56
  slices_S56x56_S1x1_32_32 : S56x56.Slices ![32, 32] S1x1
  slices_S56x56_S56x1_0_32 : S56x56.Slices ![0, 32] S56x1
  slices_S56x56_S1x56_32_0 : S56x56.Slices ![32, 0] S1x56
  slices_S56x56_S1x1_33_33 : S56x56.Slices ![33, 33] S1x1
  slices_S56x56_S56x1_0_33 : S56x56.Slices ![0, 33] S56x1
  slices_S56x56_S1x56_33_0 : S56x56.Slices ![33, 0] S1x56
  slices_S56x56_S1x1_34_34 : S56x56.Slices ![34, 34] S1x1
  slices_S56x56_S56x1_0_34 : S56x56.Slices ![0, 34] S56x1
  slices_S56x56_S1x56_34_0 : S56x56.Slices ![34, 0] S1x56
  slices_S56x56_S1x1_35_35 : S56x56.Slices ![35, 35] S1x1
  slices_S56x56_S56x1_0_35 : S56x56.Slices ![0, 35] S56x1
  slices_S56x56_S1x56_35_0 : S56x56.Slices ![35, 0] S1x56
  slices_S56x56_S1x1_36_36 : S56x56.Slices ![36, 36] S1x1
  slices_S56x56_S56x1_0_36 : S56x56.Slices ![0, 36] S56x1
  slices_S56x56_S1x56_36_0 : S56x56.Slices ![36, 0] S1x56
  slices_S56x56_S1x1_37_37 : S56x56.Slices ![37, 37] S1x1
  slices_S56x56_S56x1_0_37 : S56x56.Slices ![0, 37] S56x1
  slices_S56x56_S1x56_37_0 : S56x56.Slices ![37, 0] S1x56
  slices_S56x56_S1x1_38_38 : S56x56.Slices ![38, 38] S1x1
  slices_S56x56_S56x1_0_38 : S56x56.Slices ![0, 38] S56x1
  slices_S56x56_S1x56_38_0 : S56x56.Slices ![38, 0] S1x56
  slices_S56x56_S1x1_39_39 : S56x56.Slices ![39, 39] S1x1
  slices_S56x56_S56x1_0_39 : S56x56.Slices ![0, 39] S56x1
  slices_S56x56_S1x56_39_0 : S56x56.Slices ![39, 0] S1x56
  slices_S56x56_S1x1_40_40 : S56x56.Slices ![40, 40] S1x1
  slices_S56x56_S56x1_0_40 : S56x56.Slices ![0, 40] S56x1
  slices_S56x56_S1x56_40_0 : S56x56.Slices ![40, 0] S1x56
  slices_S56x56_S1x1_41_41 : S56x56.Slices ![41, 41] S1x1
  slices_S56x56_S56x1_0_41 : S56x56.Slices ![0, 41] S56x1
  slices_S56x56_S1x56_41_0 : S56x56.Slices ![41, 0] S1x56
  slices_S56x56_S1x1_42_42 : S56x56.Slices ![42, 42] S1x1
  slices_S56x56_S56x1_0_42 : S56x56.Slices ![0, 42] S56x1
  slices_S56x56_S1x56_42_0 : S56x56.Slices ![42, 0] S1x56
  slices_S56x56_S1x1_43_43 : S56x56.Slices ![43, 43] S1x1
  slices_S56x56_S56x1_0_43 : S56x56.Slices ![0, 43] S56x1
  slices_S56x56_S1x56_43_0 : S56x56.Slices ![43, 0] S1x56
  slices_S56x56_S1x1_44_44 : S56x56.Slices ![44, 44] S1x1
  slices_S56x56_S56x1_0_44 : S56x56.Slices ![0, 44] S56x1
  slices_S56x56_S1x56_44_0 : S56x56.Slices ![44, 0] S1x56
  slices_S56x56_S1x1_45_45 : S56x56.Slices ![45, 45] S1x1
  slices_S56x56_S56x1_0_45 : S56x56.Slices ![0, 45] S56x1
  slices_S56x56_S1x56_45_0 : S56x56.Slices ![45, 0] S1x56
  slices_S56x56_S1x1_46_46 : S56x56.Slices ![46, 46] S1x1
  slices_S56x56_S56x1_0_46 : S56x56.Slices ![0, 46] S56x1
  slices_S56x56_S1x56_46_0 : S56x56.Slices ![46, 0] S1x56
  slices_S56x56_S1x1_47_47 : S56x56.Slices ![47, 47] S1x1
  slices_S56x56_S56x1_0_47 : S56x56.Slices ![0, 47] S56x1
  slices_S56x56_S1x56_47_0 : S56x56.Slices ![47, 0] S1x56
  slices_S56x56_S1x1_48_48 : S56x56.Slices ![48, 48] S1x1
  slices_S56x56_S56x1_0_48 : S56x56.Slices ![0, 48] S56x1
  slices_S56x56_S1x56_48_0 : S56x56.Slices ![48, 0] S1x56
  slices_S56x56_S1x1_49_49 : S56x56.Slices ![49, 49] S1x1
  slices_S56x56_S56x1_0_49 : S56x56.Slices ![0, 49] S56x1
  slices_S56x56_S1x56_49_0 : S56x56.Slices ![49, 0] S1x56
  slices_S56x56_S1x1_50_50 : S56x56.Slices ![50, 50] S1x1
  slices_S56x56_S56x1_0_50 : S56x56.Slices ![0, 50] S56x1
  slices_S56x56_S1x56_50_0 : S56x56.Slices ![50, 0] S1x56
  slices_S56x56_S1x1_51_51 : S56x56.Slices ![51, 51] S1x1
  slices_S56x56_S56x1_0_51 : S56x56.Slices ![0, 51] S56x1
  slices_S56x56_S1x56_51_0 : S56x56.Slices ![51, 0] S1x56
  slices_S56x56_S1x1_52_52 : S56x56.Slices ![52, 52] S1x1
  slices_S56x56_S56x1_0_52 : S56x56.Slices ![0, 52] S56x1
  slices_S56x56_S1x56_52_0 : S56x56.Slices ![52, 0] S1x56
  slices_S56x56_S1x1_53_53 : S56x56.Slices ![53, 53] S1x1
  slices_S56x56_S56x1_0_53 : S56x56.Slices ![0, 53] S56x1
  slices_S56x56_S1x56_53_0 : S56x56.Slices ![53, 0] S1x56
  slices_S56x56_S1x1_54_54 : S56x56.Slices ![54, 54] S1x1
  slices_S56x56_S56x1_0_54 : S56x56.Slices ![0, 54] S56x1
  slices_S56x56_S1x56_54_0 : S56x56.Slices ![54, 0] S1x56
  slices_S56x56_S1x1_55_55 : S56x56.Slices ![55, 55] S1x1
  slices_S56x56_S56x1_0_55 : S56x56.Slices ![0, 55] S56x1
  slices_S56x56_S1x56_55_0 : S56x56.Slices ![55, 0] S1x56
  dot_S704x56_S704x524288_S56x524288_0_0_1_1_n_n_wf : DotDims.WF S704x56 S704x524288 S56x524288 [0] [0] [1] [1] [] []
  dot_S56x524288_S56x524288_S56x56_1_1_0_0_n_n_wf : DotDims.WF S56x524288 S56x524288 S56x56 [1] [1] [0] [0] [] []

variable [Facts]

def dot_S704x56_S704x524288_S56x524288_0_0_1_1_n_n : DotDims S704x56 S704x524288 S56x524288 where
  lhsContracting := [0]
  rhsContracting := [0]
  lhsNonContracting := [1]
  rhsNonContracting := [1]
  lhsBatch := []
  rhsBatch := []
  wf := dot_S704x56_S704x524288_S56x524288_0_0_1_1_n_n_wf
def dot_S56x524288_S56x524288_S56x56_1_1_0_0_n_n : DotDims S56x524288 S56x524288 S56x56 where
  lhsContracting := [1]
  rhsContracting := [1]
  lhsNonContracting := [0]
  rhsNonContracting := [0]
  lhsBatch := []
  rhsBatch := []
  wf := dot_S56x524288_S56x524288_S56x56_1_1_0_0_n_n_wf
def fn_part35 {F : FTy → Type} [FloatOps F] (main_v721 : FVec F S56x56 .f32) (main_v722 : FVec F S1x1 .f32) (main_v726 : IVec S_ 1) : IVec S_ 1 :=
  let main_v727 : FVec F S56x1 .f32 := (extractStridedSlice S56x1 ![0, 55] · slices_S56x56_S56x1_0_55) main_v721
  let main_v728 : FVec F S1x56 .f32 := (extractStridedSlice S1x56 ![55, 0] · slices_S56x56_S1x56_55_0) main_v721
  let main_v729 : FVec F S56x56 .f32 := broadcastInDim S56x56 ![0, 1] bcast_S56x1_S56x56_0_1 main_v727
  let main_v730 : FVec F S56x56 .f32 := broadcastInDim S56x56 ![0, 1] bcast_S1x56_S56x56_0_1 main_v728
  let main_v731 : FVec F S56x56 .f32 := mulf main_v729 main_v730
  let main_v732 : FVec F S56x56 .f32 := broadcastInDim S56x56 ![0, 1] bcast_S1x1_S56x56_0_1 main_v722
  let main_v733 : FVec F S56x56 .f32 := Host.divf main_v731 main_v732
  let main_v734 : FVec F S56x56 .f32 := subf main_v721 main_v733
  main_v726

def fn_part34 {F : FTy → Type} [FloatOps F] (main_v695 : FVec F S56x56 .f32) (main_v700 : IVec S_ 1) (main_v705 : FVec F S56x56 .f32) (main_v706 : FVec F S56x56 .f32) : IVec S_ 1 :=
  let main_v707 : FVec F S56x56 .f32 := Host.divf main_v705 main_v706
  let main_v708 : FVec F S56x56 .f32 := subf main_v695 main_v707
  let main_v709 : FVec F S1x1 .f32 := (extractStridedSlice S1x1 ![54, 54] · slices_S56x56_S1x1_54_54) main_v708
  let main_cst_107 : FVec F S_ .f32 := constant S_ .f32 0x00000000#32
  let main_v710 : FVec F S1x1 .f32 := broadcastInDim S1x1 ![] bcast_S_S1x1 main_cst_107
  let main_v711 : IVec S1x1 1 := cmpf .ogt main_v709 main_v710
  let main_c_108 : IVec S_ 1 := constantI S_ 1 1#1
  let main_v712 : IVec S_ 1 := (fun x v => Host.reduce IntOp.andi x v reducesTo_S1x1_S_d0_1 h_S_) main_v711 main_c_108
  let main_v713 : IVec S_ 1 := andi main_v700 main_v712
  let main_v714 : FVec F S56x1 .f32 := (extractStridedSlice S56x1 ![0, 54] · slices_S56x56_S56x1_0_54) main_v708
  let main_v715 : FVec F S1x56 .f32 := (extractStridedSlice S1x56 ![54, 0] · slices_S56x56_S1x56_54_0) main_v708
  let main_v716 : FVec F S56x56 .f32 := broadcastInDim S56x56 ![0, 1] bcast_S56x1_S56x56_0_1 main_v714
  let main_v717 : FVec F S56x56 .f32 := broadcastInDim S56x56 ![0, 1] bcast_S1x56_S56x56_0_1 main_v715
  let main_v718 : FVec F S56x56 .f32 := mulf main_v716 main_v717
  let main_v719 : FVec F S56x56 .f32 := broadcastInDim S56x56 ![0, 1] bcast_S1x1_S56x56_0_1 main_v709
  let main_v720 : FVec F S56x56 .f32 := Host.divf main_v718 main_v719
  let main_v721 : FVec F S56x56 .f32 := subf main_v708 main_v720
  let main_v722 : FVec F S1x1 .f32 := (extractStridedSlice S1x1 ![55, 55] · slices_S56x56_S1x1_55_55) main_v721
  let main_cst_109 : FVec F S_ .f32 := constant S_ .f32 0x00000000#32
  let main_v723 : FVec F S1x1 .f32 := broadcastInDim S1x1 ![] bcast_S_S1x1 main_cst_109
  let main_v724 : IVec S1x1 1 := cmpf .ogt main_v722 main_v723
  let main_c_110 : IVec S_ 1 := constantI S_ 1 1#1
  let main_v725 : IVec S_ 1 := (fun x v => Host.reduce IntOp.andi x v reducesTo_S1x1_S_d0_1 h_S_) main_v724 main_c_110
  let main_v726 : IVec S_ 1 := andi main_v713 main_v725
  fn_part35 (F := F) main_v721 main_v722 main_v726

def fn_part33 {F : FTy → Type} [FloatOps F] (main_v674 : IVec S_ 1) (main_v682 : FVec F S56x56 .f32) (main_v683 : FVec F S1x1 .f32) (main_v685 : IVec S1x1 1) : IVec S_ 1 :=
  let main_c_104 : IVec S_ 1 := constantI S_ 1 1#1
  let main_v686 : IVec S_ 1 := (fun x v => Host.reduce IntOp.andi x v reducesTo_S1x1_S_d0_1 h_S_) main_v685 main_c_104
  let main_v687 : IVec S_ 1 := andi main_v674 main_v686
  let main_v688 : FVec F S56x1 .f32 := (extractStridedSlice S56x1 ![0, 52] · slices_S56x56_S56x1_0_52) main_v682
  let main_v689 : FVec F S1x56 .f32 := (extractStridedSlice S1x56 ![52, 0] · slices_S56x56_S1x56_52_0) main_v682
  let main_v690 : FVec F S56x56 .f32 := broadcastInDim S56x56 ![0, 1] bcast_S56x1_S56x56_0_1 main_v688
  let main_v691 : FVec F S56x56 .f32 := broadcastInDim S56x56 ![0, 1] bcast_S1x56_S56x56_0_1 main_v689
  let main_v692 : FVec F S56x56 .f32 := mulf main_v690 main_v691
  let main_v693 : FVec F S56x56 .f32 := broadcastInDim S56x56 ![0, 1] bcast_S1x1_S56x56_0_1 main_v683
  let main_v694 : FVec F S56x56 .f32 := Host.divf main_v692 main_v693
  let main_v695 : FVec F S56x56 .f32 := subf main_v682 main_v694
  let main_v696 : FVec F S1x1 .f32 := (extractStridedSlice S1x1 ![53, 53] · slices_S56x56_S1x1_53_53) main_v695
  let main_cst_105 : FVec F S_ .f32 := constant S_ .f32 0x00000000#32
  let main_v697 : FVec F S1x1 .f32 := broadcastInDim S1x1 ![] bcast_S_S1x1 main_cst_105
  let main_v698 : IVec S1x1 1 := cmpf .ogt main_v696 main_v697
  let main_c_106 : IVec S_ 1 := constantI S_ 1 1#1
  let main_v699 : IVec S_ 1 := (fun x v => Host.reduce IntOp.andi x v reducesTo_S1x1_S_d0_1 h_S_) main_v698 main_c_106
  let main_v700 : IVec S_ 1 := andi main_v687 main_v699
  let main_v701 : FVec F S56x1 .f32 := (extractStridedSlice S56x1 ![0, 53] · slices_S56x56_S56x1_0_53) main_v695
  let main_v702 : FVec F S1x56 .f32 := (extractStridedSlice S1x56 ![53, 0] · slices_S56x56_S1x56_53_0) main_v695
  let main_v703 : FVec F S56x56 .f32 := broadcastInDim S56x56 ![0, 1] bcast_S56x1_S56x56_0_1 main_v701
  let main_v704 : FVec F S56x56 .f32 := broadcastInDim S56x56 ![0, 1] bcast_S1x56_S56x56_0_1 main_v702
  let main_v705 : FVec F S56x56 .f32 := mulf main_v703 main_v704
  let main_v706 : FVec F S56x56 .f32 := broadcastInDim S56x56 ![0, 1] bcast_S1x1_S56x56_0_1 main_v696
  fn_part34 (F := F) main_v695 main_v700 main_v705 main_v706

def fn_part32 {F : FTy → Type} [FloatOps F] (main_v656 : FVec F S56x56 .f32) (main_v657 : FVec F S1x1 .f32) (main_v661 : IVec S_ 1) (main_v663 : FVec F S1x56 .f32) (main_v664 : FVec F S56x56 .f32) : IVec S_ 1 :=
  let main_v665 : FVec F S56x56 .f32 := broadcastInDim S56x56 ![0, 1] bcast_S1x56_S56x56_0_1 main_v663
  let main_v666 : FVec F S56x56 .f32 := mulf main_v664 main_v665
  let main_v667 : FVec F S56x56 .f32 := broadcastInDim S56x56 ![0, 1] bcast_S1x1_S56x56_0_1 main_v657
  let main_v668 : FVec F S56x56 .f32 := Host.divf main_v666 main_v667
  let main_v669 : FVec F S56x56 .f32 := subf main_v656 main_v668
  let main_v670 : FVec F S1x1 .f32 := (extractStridedSlice S1x1 ![51, 51] · slices_S56x56_S1x1_51_51) main_v669
  let main_cst_101 : FVec F S_ .f32 := constant S_ .f32 0x00000000#32
  let main_v671 : FVec F S1x1 .f32 := broadcastInDim S1x1 ![] bcast_S_S1x1 main_cst_101
  let main_v672 : IVec S1x1 1 := cmpf .ogt main_v670 main_v671
  let main_c_102 : IVec S_ 1 := constantI S_ 1 1#1
  let main_v673 : IVec S_ 1 := (fun x v => Host.reduce IntOp.andi x v reducesTo_S1x1_S_d0_1 h_S_) main_v672 main_c_102
  let main_v674 : IVec S_ 1 := andi main_v661 main_v673
  let main_v675 : FVec F S56x1 .f32 := (extractStridedSlice S56x1 ![0, 51] · slices_S56x56_S56x1_0_51) main_v669
  let main_v676 : FVec F S1x56 .f32 := (extractStridedSlice S1x56 ![51, 0] · slices_S56x56_S1x56_51_0) main_v669
  let main_v677 : FVec F S56x56 .f32 := broadcastInDim S56x56 ![0, 1] bcast_S56x1_S56x56_0_1 main_v675
  let main_v678 : FVec F S56x56 .f32 := broadcastInDim S56x56 ![0, 1] bcast_S1x56_S56x56_0_1 main_v676
  let main_v679 : FVec F S56x56 .f32 := mulf main_v677 main_v678
  let main_v680 : FVec F S56x56 .f32 := broadcastInDim S56x56 ![0, 1] bcast_S1x1_S56x56_0_1 main_v670
  let main_v681 : FVec F S56x56 .f32 := Host.divf main_v679 main_v680
  let main_v682 : FVec F S56x56 .f32 := subf main_v669 main_v681
  let main_v683 : FVec F S1x1 .f32 := (extractStridedSlice S1x1 ![52, 52] · slices_S56x56_S1x1_52_52) main_v682
  let main_cst_103 : FVec F S_ .f32 := constant S_ .f32 0x00000000#32
  let main_v684 : FVec F S1x1 .f32 := broadcastInDim S1x1 ![] bcast_S_S1x1 main_cst_103
  let main_v685 : IVec S1x1 1 := cmpf .ogt main_v683 main_v684
  fn_part33 (F := F) main_v674 main_v682 main_v683 main_v685

def fn_part31 {F : FTy → Type} [FloatOps F] (main_v635 : IVec S_ 1) (main_v643 : FVec F S56x56 .f32) (main_v644 : FVec F S1x1 .f32) : IVec S_ 1 :=
  let main_cst_97 : FVec F S_ .f32 := constant S_ .f32 0x00000000#32
  let main_v645 : FVec F S1x1 .f32 := broadcastInDim S1x1 ![] bcast_S_S1x1 main_cst_97
  let main_v646 : IVec S1x1 1 := cmpf .ogt main_v644 main_v645
  let main_c_98 : IVec S_ 1 := constantI S_ 1 1#1
  let main_v647 : IVec S_ 1 := (fun x v => Host.reduce IntOp.andi x v reducesTo_S1x1_S_d0_1 h_S_) main_v646 main_c_98
  let main_v648 : IVec S_ 1 := andi main_v635 main_v647
  let main_v649 : FVec F S56x1 .f32 := (extractStridedSlice S56x1 ![0, 49] · slices_S56x56_S56x1_0_49) main_v643
  let main_v650 : FVec F S1x56 .f32 := (extractStridedSlice S1x56 ![49, 0] · slices_S56x56_S1x56_49_0) main_v643
  let main_v651 : FVec F S56x56 .f32 := broadcastInDim S56x56 ![0, 1] bcast_S56x1_S56x56_0_1 main_v649
  let main_v652 : FVec F S56x56 .f32 := broadcastInDim S56x56 ![0, 1] bcast_S1x56_S56x56_0_1 main_v650
  let main_v653 : FVec F S56x56 .f32 := mulf main_v651 main_v652
  let main_v654 : FVec F S56x56 .f32 := broadcastInDim S56x56 ![0, 1] bcast_S1x1_S56x56_0_1 main_v644
  let main_v655 : FVec F S56x56 .f32 := Host.divf main_v653 main_v654
  let main_v656 : FVec F S56x56 .f32 := subf main_v643 main_v655
  let main_v657 : FVec F S1x1 .f32 := (extractStridedSlice S1x1 ![50, 50] · slices_S56x56_S1x1_50_50) main_v656
  let main_cst_99 : FVec F S_ .f32 := constant S_ .f32 0x00000000#32
  let main_v658 : FVec F S1x1 .f32 := broadcastInDim S1x1 ![] bcast_S_S1x1 main_cst_99
  let main_v659 : IVec S1x1 1 := cmpf .ogt main_v657 main_v658
  let main_c_100 : IVec S_ 1 := constantI S_ 1 1#1
  let main_v660 : IVec S_ 1 := (fun x v => Host.reduce IntOp.andi x v reducesTo_S1x1_S_d0_1 h_S_) main_v659 main_c_100
  let main_v661 : IVec S_ 1 := andi main_v648 main_v660
  let main_v662 : FVec F S56x1 .f32 := (extractStridedSlice S56x1 ![0, 50] · slices_S56x56_S56x1_0_50) main_v656
  let main_v663 : FVec F S1x56 .f32 := (extractStridedSlice S1x56 ![50, 0] · slices_S56x56_S1x56_50_0) main_v656
  let main_v664 : FVec F S56x56 .f32 := broadcastInDim S56x56 ![0, 1] bcast_S56x1_S56x56_0_1 main_v662
  fn_part32 (F := F) main_v656 main_v657 main_v661 main_v663 main_v664

def fn_part30 {F : FTy → Type} [FloatOps F] (main_v617 : FVec F S56x56 .f32) (main_v618 : FVec F S1x1 .f32) (main_v622 : IVec S_ 1) : IVec S_ 1 :=
  let main_v623 : FVec F S56x1 .f32 := (extractStridedSlice S56x1 ![0, 47] · slices_S56x56_S56x1_0_47) main_v617
  let main_v624 : FVec F S1x56 .f32 := (extractStridedSlice S1x56 ![47, 0] · slices_S56x56_S1x56_47_0) main_v617
  let main_v625 : FVec F S56x56 .f32 := broadcastInDim S56x56 ![0, 1] bcast_S56x1_S56x56_0_1 main_v623
  let main_v626 : FVec F S56x56 .f32 := broadcastInDim S56x56 ![0, 1] bcast_S1x56_S56x56_0_1 main_v624
  let main_v627 : FVec F S56x56 .f32 := mulf main_v625 main_v626
  let main_v628 : FVec F S56x56 .f32 := broadcastInDim S56x56 ![0, 1] bcast_S1x1_S56x56_0_1 main_v618
  let main_v629 : FVec F S56x56 .f32 := Host.divf main_v627 main_v628
  let main_v630 : FVec F S56x56 .f32 := subf main_v617 main_v629
  let main_v631 : FVec F S1x1 .f32 := (extractStridedSlice S1x1 ![48, 48] · slices_S56x56_S1x1_48_48) main_v630
  let main_cst_95 : FVec F S_ .f32 := constant S_ .f32 0x00000000#32
  let main_v632 : FVec F S1x1 .f32 := broadcastInDim S1x1 ![] bcast_S_S1x1 main_cst_95
  let main_v633 : IVec S1x1 1 := cmpf .ogt main_v631 main_v632
  let main_c_96 : IVec S_ 1 := constantI S_ 1 1#1
  let main_v634 : IVec S_ 1 := (fun x v => Host.reduce IntOp.andi x v reducesTo_S1x1_S_d0_1 h_S_) main_v633 main_c_96
  let main_v635 : IVec S_ 1 := andi main_v622 main_v634
  let main_v636 : FVec F S56x1 .f32 := (extractStridedSlice S56x1 ![0, 48] · slices_S56x56_S56x1_0_48) main_v630
  let main_v637 : FVec F S1x56 .f32 := (extractStridedSlice S1x56 ![48, 0] · slices_S56x56_S1x56_48_0) main_v630
  let main_v638 : FVec F S56x56 .f32 := broadcastInDim S56x56 ![0, 1] bcast_S56x1_S56x56_0_1 main_v636
  let main_v639 : FVec F S56x56 .f32 := broadcastInDim S56x56 ![0, 1] bcast_S1x56_S56x56_0_1 main_v637
  let main_v640 : FVec F S56x56 .f32 := mulf main_v638 main_v639
  let main_v641 : FVec F S56x56 .f32 := broadcastInDim S56x56 ![0, 1] bcast_S1x1_S56x56_0_1 main_v631
  let main_v642 : FVec F S56x56 .f32 := Host.divf main_v640 main_v641
  let main_v643 : FVec F S56x56 .f32 := subf main_v630 main_v642
  let main_v644 : FVec F S1x1 .f32 := (extractStridedSlice S1x1 ![49, 49] · slices_S56x56_S1x1_49_49) main_v643
  fn_part31 (F := F) main_v635 main_v643 main_v644

def fn_part29 {F : FTy → Type} [FloatOps F] (main_v591 : FVec F S56x56 .f32) (main_v596 : IVec S_ 1) (main_v601 : FVec F S56x56 .f32) (main_v602 : FVec F S56x56 .f32) : IVec S_ 1 :=
  let main_v603 : FVec F S56x56 .f32 := Host.divf main_v601 main_v602
  let main_v604 : FVec F S56x56 .f32 := subf main_v591 main_v603
  let main_v605 : FVec F S1x1 .f32 := (extractStridedSlice S1x1 ![46, 46] · slices_S56x56_S1x1_46_46) main_v604
  let main_cst_91 : FVec F S_ .f32 := constant S_ .f32 0x00000000#32
  let main_v606 : FVec F S1x1 .f32 := broadcastInDim S1x1 ![] bcast_S_S1x1 main_cst_91
  let main_v607 : IVec S1x1 1 := cmpf .ogt main_v605 main_v606
  let main_c_92 : IVec S_ 1 := constantI S_ 1 1#1
  let main_v608 : IVec S_ 1 := (fun x v => Host.reduce IntOp.andi x v reducesTo_S1x1_S_d0_1 h_S_) main_v607 main_c_92
  let main_v609 : IVec S_ 1 := andi main_v596 main_v608
  let main_v610 : FVec F S56x1 .f32 := (extractStridedSlice S56x1 ![0, 46] · slices_S56x56_S56x1_0_46) main_v604
  let main_v611 : FVec F S1x56 .f32 := (extractStridedSlice S1x56 ![46, 0] · slices_S56x56_S1x56_46_0) main_v604
  let main_v612 : FVec F S56x56 .f32 := broadcastInDim S56x56 ![0, 1] bcast_S56x1_S56x56_0_1 main_v610
  let main_v613 : FVec F S56x56 .f32 := broadcastInDim S56x56 ![0, 1] bcast_S1x56_S56x56_0_1 main_v611
  let main_v614 : FVec F S56x56 .f32 := mulf main_v612 main_v613
  let main_v615 : FVec F S56x56 .f32 := broadcastInDim S56x56 ![0, 1] bcast_S1x1_S56x56_0_1 main_v605
  let main_v616 : FVec F S56x56 .f32 := Host.divf main_v614 main_v615
  let main_v617 : FVec F S56x56 .f32 := subf main_v604 main_v616
  let main_v618 : FVec F S1x1 .f32 := (extractStridedSlice S1x1 ![47, 47] · slices_S56x56_S1x1_47_47) main_v617
  let main_cst_93 : FVec F S_ .f32 := constant S_ .f32 0x00000000#32
  let main_v619 : FVec F S1x1 .f32 := broadcastInDim S1x1 ![] bcast_S_S1x1 main_cst_93
  let main_v620 : IVec S1x1 1 := cmpf .ogt main_v618 main_v619
  let main_c_94 : IVec S_ 1 := constantI S_ 1 1#1
  let main_v621 : IVec S_ 1 := (fun x v => Host.reduce IntOp.andi x v reducesTo_S1x1_S_d0_1 h_S_) main_v620 main_c_94
  let main_v622 : IVec S_ 1 := andi main_v609 main_v621
  fn_part30 (F := F) main_v617 main_v618 main_v622

def fn_part28 {F : FTy → Type} [FloatOps F] (main_v570 : IVec S_ 1) (main_v578 : FVec F S56x56 .f32) (main_v579 : FVec F S1x1 .f32) (main_v581 : IVec S1x1 1) : IVec S_ 1 :=
  let main_c_88 : IVec S_ 1 := constantI S_ 1 1#1
  let main_v582 : IVec S_ 1 := (fun x v => Host.reduce IntOp.andi x v reducesTo_S1x1_S_d0_1 h_S_) main_v581 main_c_88
  let main_v583 : IVec S_ 1 := andi main_v570 main_v582
  let main_v584 : FVec F S56x1 .f32 := (extractStridedSlice S56x1 ![0, 44] · slices_S56x56_S56x1_0_44) main_v578
  let main_v585 : FVec F S1x56 .f32 := (extractStridedSlice S1x56 ![44, 0] · slices_S56x56_S1x56_44_0) main_v578
  let main_v586 : FVec F S56x56 .f32 := broadcastInDim S56x56 ![0, 1] bcast_S56x1_S56x56_0_1 main_v584
  let main_v587 : FVec F S56x56 .f32 := broadcastInDim S56x56 ![0, 1] bcast_S1x56_S56x56_0_1 main_v585
  let main_v588 : FVec F S56x56 .f32 := mulf main_v586 main_v587
  let main_v589 : FVec F S56x56 .f32 := broadcastInDim S56x56 ![0, 1] bcast_S1x1_S56x56_0_1 main_v579
  let main_v590 : FVec F S56x56 .f32 := Host.divf main_v588 main_v589
  let main_v591 : FVec F S56x56 .f32 := subf main_v578 main_v590
  let main_v592 : FVec F S1x1 .f32 := (extractStridedSlice S1x1 ![45, 45] · slices_S56x56_S1x1_45_45) main_v591
  let main_cst_89 : FVec F S_ .f32 := constant S_ .f32 0x00000000#32
  let main_v593 : FVec F S1x1 .f32 := broadcastInDim S1x1 ![] bcast_S_S1x1 main_cst_89
  let main_v594 : IVec S1x1 1 := cmpf .ogt main_v592 main_v593
  let main_c_90 : IVec S_ 1 := constantI S_ 1 1#1
  let main_v595 : IVec S_ 1 := (fun x v => Host.reduce IntOp.andi x v reducesTo_S1x1_S_d0_1 h_S_) main_v594 main_c_90
  let main_v596 : IVec S_ 1 := andi main_v583 main_v595
  let main_v597 : FVec F S56x1 .f32 := (extractStridedSlice S56x1 ![0, 45] · slices_S56x56_S56x1_0_45) main_v591
  let main_v598 : FVec F S1x56 .f32 := (extractStridedSlice S1x56 ![45, 0] · slices_S56x56_S1x56_45_0) main_v591
  let main_v599 : FVec F S56x56 .f32 := broadcastInDim S56x56 ![0, 1] bcast_S56x1_S56x56_0_1 main_v597
  let main_v600 : FVec F S56x56 .f32 := broadcastInDim S56x56 ![0, 1] bcast_S1x56_S56x56_0_1 main_v598
  let main_v601 : FVec F S56x56 .f32 := mulf main_v599 main_v600
  let main_v602 : FVec F S56x56 .f32 := broadcastInDim S56x56 ![0, 1] bcast_S1x1_S56x56_0_1 main_v592
  fn_part29 (F := F) main_v591 main_v596 main_v601 main_v602

def fn_part27 {F : FTy → Type} [FloatOps F] (main_v552 : FVec F S56x56 .f32) (main_v553 : FVec F S1x1 .f32) (main_v557 : IVec S_ 1) (main_v559 : FVec F S1x56 .f32) (main_v560 : FVec F S56x56 .f32) : IVec S_ 1 :=
  let main_v561 : FVec F S56x56 .f32 := broadcastInDim S56x56 ![0, 1] bcast_S1x56_S56x56_0_1 main_v559
  let main_v562 : FVec F S56x56 .f32 := mulf main_v560 main_v561
  let main_v563 : FVec F S56x56 .f32 := broadcastInDim S56x56 ![0, 1] bcast_S1x1_S56x56_0_1 main_v553
  let main_v564 : FVec F S56x56 .f32 := Host.divf main_v562 main_v563
  let main_v565 : FVec F S56x56 .f32 := subf main_v552 main_v564
  let main_v566 : FVec F S1x1 .f32 := (extractStridedSlice S1x1 ![43, 43] · slices_S56x56_S1x1_43_43) main_v565
  let main_cst_85 : FVec F S_ .f32 := constant S_ .f32 0x00000000#32
  let main_v567 : FVec F S1x1 .f32 := broadcastInDim S1x1 ![] bcast_S_S1x1 main_cst_85
  let main_v568 : IVec S1x1 1 := cmpf .ogt main_v566 main_v567
  let main_c_86 : IVec S_ 1 := constantI S_ 1 1#1
  let main_v569 : IVec S_ 1 := (fun x v => Host.reduce IntOp.andi x v reducesTo_S1x1_S_d0_1 h_S_) main_v568 main_c_86
  let main_v570 : IVec S_ 1 := andi main_v557 main_v569
  let main_v571 : FVec F S56x1 .f32 := (extractStridedSlice S56x1 ![0, 43] · slices_S56x56_S56x1_0_43) main_v565
  let main_v572 : FVec F S1x56 .f32 := (extractStridedSlice S1x56 ![43, 0] · slices_S56x56_S1x56_43_0) main_v565
  let main_v573 : FVec F S56x56 .f32 := broadcastInDim S56x56 ![0, 1] bcast_S56x1_S56x56_0_1 main_v571
  let main_v574 : FVec F S56x56 .f32 := broadcastInDim S56x56 ![0, 1] bcast_S1x56_S56x56_0_1 main_v572
  let main_v575 : FVec F S56x56 .f32 := mulf main_v573 main_v574
  let main_v576 : FVec F S56x56 .f32 := broadcastInDim S56x56 ![0, 1] bcast_S1x1_S56x56_0_1 main_v566
  let main_v577 : FVec F S56x56 .f32 := Host.divf main_v575 main_v576
  let main_v578 : FVec F S56x56 .f32 := subf main_v565 main_v577
  let main_v579 : FVec F S1x1 .f32 := (extractStridedSlice S1x1 ![44, 44] · slices_S56x56_S1x1_44_44) main_v578
  let main_cst_87 : FVec F S_ .f32 := constant S_ .f32 0x00000000#32
  let main_v580 : FVec F S1x1 .f32 := broadcastInDim S1x1 ![] bcast_S_S1x1 main_cst_87
  let main_v581 : IVec S1x1 1 := cmpf .ogt main_v579 main_v580
  fn_part28 (F := F) main_v570 main_v578 main_v579 main_v581

def fn_part26 {F : FTy → Type} [FloatOps F] (main_v531 : IVec S_ 1) (main_v539 : FVec F S56x56 .f32) (main_v540 : FVec F S1x1 .f32) : IVec S_ 1 :=
  let main_cst_81 : FVec F S_ .f32 := constant S_ .f32 0x00000000#32
  let main_v541 : FVec F S1x1 .f32 := broadcastInDim S1x1 ![] bcast_S_S1x1 main_cst_81
  let main_v542 : IVec S1x1 1 := cmpf .ogt main_v540 main_v541
  let main_c_82 : IVec S_ 1 := constantI S_ 1 1#1
  let main_v543 : IVec S_ 1 := (fun x v => Host.reduce IntOp.andi x v reducesTo_S1x1_S_d0_1 h_S_) main_v542 main_c_82
  let main_v544 : IVec S_ 1 := andi main_v531 main_v543
  let main_v545 : FVec F S56x1 .f32 := (extractStridedSlice S56x1 ![0, 41] · slices_S56x56_S56x1_0_41) main_v539
  let main_v546 : FVec F S1x56 .f32 := (extractStridedSlice S1x56 ![41, 0] · slices_S56x56_S1x56_41_0) main_v539
  let main_v547 : FVec F S56x56 .f32 := broadcastInDim S56x56 ![0, 1] bcast_S56x1_S56x56_0_1 main_v545
  let main_v548 : FVec F S56x56 .f32 := broadcastInDim S56x56 ![0, 1] bcast_S1x56_S56x56_0_1 main_v546
  let main_v549 : FVec F S56x56 .f32 := mulf main_v547 main_v548
  let main_v550 : FVec F S56x56 .f32 := broadcastInDim S56x56 ![0, 1] bcast_S1x1_S56x56_0_1 main_v540
  let main_v551 : FVec F S56x56 .f32 := Host.divf main_v549 main_v550
  let main_v552 : FVec F S56x56 .f32 := subf main_v539 main_v551
  let main_v553 : FVec F S1x1 .f32 := (extractStridedSlice S1x1 ![42, 42] · slices_S56x56_S1x1_42_42) main_v552
  let main_cst_83 : FVec F S_ .f32 := constant S_ .f32 0x00000000#32
  let main_v554 : FVec F S1x1 .f32 := broadcastInDim S1x1 ![] bcast_S_S1x1 main_cst_83
  let main_v555 : IVec S1x1 1 := cmpf .ogt main_v553 main_v554
  let main_c_84 : IVec S_ 1 := constantI S_ 1 1#1
  let main_v556 : IVec S_ 1 := (fun x v => Host.reduce IntOp.andi x v reducesTo_S1x1_S_d0_1 h_S_) main_v555 main_c_84
  let main_v557 : IVec S_ 1 := andi main_v544 main_v556
  let main_v558 : FVec F S56x1 .f32 := (extractStridedSlice S56x1 ![0, 42] · slices_S56x56_S56x1_0_42) main_v552
  let main_v559 : FVec F S1x56 .f32 := (extractStridedSlice S1x56 ![42, 0] · slices_S56x56_S1x56_42_0) main_v552
  let main_v560 : FVec F S56x56 .f32 := broadcastInDim S56x56 ![0, 1] bcast_S56x1_S56x56_0_1 main_v558
  fn_part27 (F := F) main_v552 main_v553 main_v557 main_v559 main_v560

def fn_part25 {F : FTy → Type} [FloatOps F] (main_v513 : FVec F S56x56 .f32) (main_v514 : FVec F S1x1 .f32) (main_v518 : IVec S_ 1) : IVec S_ 1 :=
  let main_v519 : FVec F S56x1 .f32 := (extractStridedSlice S56x1 ![0, 39] · slices_S56x56_S56x1_0_39) main_v513
  let main_v520 : FVec F S1x56 .f32 := (extractStridedSlice S1x56 ![39, 0] · slices_S56x56_S1x56_39_0) main_v513
  let main_v521 : FVec F S56x56 .f32 := broadcastInDim S56x56 ![0, 1] bcast_S56x1_S56x56_0_1 main_v519
  let main_v522 : FVec F S56x56 .f32 := broadcastInDim S56x56 ![0, 1] bcast_S1x56_S56x56_0_1 main_v520
  let main_v523 : FVec F S56x56 .f32 := mulf main_v521 main_v522
  let main_v524 : FVec F S56x56 .f32 := broadcastInDim S56x56 ![0, 1] bcast_S1x1_S56x56_0_1 main_v514
  let main_v525 : FVec F S56x56 .f32 := Host.divf main_v523 main_v524
  let main_v526 : FVec F S56x56 .f32 := subf main_v513 main_v525
  let main_v527 : FVec F S1x1 .f32 := (extractStridedSlice S1x1 ![40, 40] · slices_S56x56_S1x1_40_40) main_v526
  let main_cst_79 : FVec F S_ .f32 := constant S_ .f32 0x00000000#32
  let main_v528 : FVec F S1x1 .f32 := broadcastInDim S1x1 ![] bcast_S_S1x1 main_cst_79
  let main_v529 : IVec S1x1 1 := cmpf .ogt main_v527 main_v528
  let main_c_80 : IVec S_ 1 := constantI S_ 1 1#1
  let main_v530 : IVec S_ 1 := (fun x v => Host.reduce IntOp.andi x v reducesTo_S1x1_S_d0_1 h_S_) main_v529 main_c_80
  let main_v531 : IVec S_ 1 := andi main_v518 main_v530
  let main_v532 : FVec F S56x1 .f32 := (extractStridedSlice S56x1 ![0, 40] · slices_S56x56_S56x1_0_40) main_v526
  let main_v533 : FVec F S1x56 .f32 := (extractStridedSlice S1x56 ![40, 0] · slices_S56x56_S1x56_40_0) main_v526
  let main_v534 : FVec F S56x56 .f32 := broadcastInDim S56x56 ![0, 1] bcast_S56x1_S56x56_0_1 main_v532
  let main_v535 : FVec F S56x56 .f32 := broadcastInDim S56x56 ![0, 1] bcast_S1x56_S56x56_0_1 main_v533
  let main_v536 : FVec F S56x56 .f32 := mulf main_v534 main_v535
  let main_v537 : FVec F S56x56 .f32 := broadcastInDim S56x56 ![0, 1] bcast_S1x1_S56x56_0_1 main_v527
  let main_v538 : FVec F S56x56 .f32 := Host.divf main_v536 main_v537
  let main_v539 : FVec F S56x56 .f32 := subf main_v526 main_v538
  let main_v540 : FVec F S1x1 .f32 := (extractStridedSlice S1x1 ![41, 41] · slices_S56x56_S1x1_41_41) main_v539
  fn_part26 (F := F) main_v531 main_v539 main_v540

def fn_part24 {F : FTy → Type} [FloatOps F] (main_v487 : FVec F S56x56 .f32) (main_v492 : IVec S_ 1) (main_v497 : FVec F S56x56 .f32) (main_v498 : FVec F S56x56 .f32) : IVec S_ 1 :=
  let main_v499 : FVec F S56x56 .f32 := Host.divf main_v497 main_v498
  let main_v500 : FVec F S56x56 .f32 := subf main_v487 main_v499
  let main_v501 : FVec F S1x1 .f32 := (extractStridedSlice S1x1 ![38, 38] · slices_S56x56_S1x1_38_38) main_v500
  let main_cst_75 : FVec F S_ .f32 := constant S_ .f32 0x00000000#32
  let main_v502 : FVec F S1x1 .f32 := broadcastInDim S1x1 ![] bcast_S_S1x1 main_cst_75
  let main_v503 : IVec S1x1 1 := cmpf .ogt main_v501 main_v502
  let main_c_76 : IVec S_ 1 := constantI S_ 1 1#1
  let main_v504 : IVec S_ 1 := (fun x v => Host.reduce IntOp.andi x v reducesTo_S1x1_S_d0_1 h_S_) main_v503 main_c_76
  let main_v505 : IVec S_ 1 := andi main_v492 main_v504
  let main_v506 : FVec F S56x1 .f32 := (extractStridedSlice S56x1 ![0, 38] · slices_S56x56_S56x1_0_38) main_v500
  let main_v507 : FVec F S1x56 .f32 := (extractStridedSlice S1x56 ![38, 0] · slices_S56x56_S1x56_38_0) main_v500
  let main_v508 : FVec F S56x56 .f32 := broadcastInDim S56x56 ![0, 1] bcast_S56x1_S56x56_0_1 main_v506
  let main_v509 : FVec F S56x56 .f32 := broadcastInDim S56x56 ![0, 1] bcast_S1x56_S56x56_0_1 main_v507
  let main_v510 : FVec F S56x56 .f32 := mulf main_v508 main_v509
  let main_v511 : FVec F S56x56 .f32 := broadcastInDim S56x56 ![0, 1] bcast_S1x1_S56x56_0_1 main_v501
  let main_v512 : FVec F S56x56 .f32 := Host.divf main_v510 main_v511
  let main_v513 : FVec F S56x56 .f32 := subf main_v500 main_v512
  let main_v514 : FVec F S1x1 .f32 := (extractStridedSlice S1x1 ![39, 39] · slices_S56x56_S1x1_39_39) main_v513
  let main_cst_77 : FVec F S_ .f32 := constant S_ .f32 0x00000000#32
  let main_v515 : FVec F S1x1 .f32 := broadcastInDim S1x1 ![] bcast_S_S1x1 main_cst_77
  let main_v516 : IVec S1x1 1 := cmpf .ogt main_v514 main_v515
  let main_c_78 : IVec S_ 1 := constantI S_ 1 1#1
  let main_v517 : IVec S_ 1 := (fun x v => Host.reduce IntOp.andi x v reducesTo_S1x1_S_d0_1 h_S_) main_v516 main_c_78
  let main_v518 : IVec S_ 1 := andi main_v505 main_v517
  fn_part25 (F := F) main_v513 main_v514 main_v518

def fn_part23 {F : FTy → Type} [FloatOps F] (main_v466 : IVec S_ 1) (main_v474 : FVec F S56x56 .f32) (main_v475 : FVec F S1x1 .f32) (main_v477 : IVec S1x1 1) : IVec S_ 1 :=
  let main_c_72 : IVec S_ 1 := constantI S_ 1 1#1
  let main_v478 : IVec S_ 1 := (fun x v => Host.reduce IntOp.andi x v reducesTo_S1x1_S_d0_1 h_S_) main_v477 main_c_72
  let main_v479 : IVec S_ 1 := andi main_v466 main_v478
  let main_v480 : FVec F S56x1 .f32 := (extractStridedSlice S56x1 ![0, 36] · slices_S56x56_S56x1_0_36) main_v474
  let main_v481 : FVec F S1x56 .f32 := (extractStridedSlice S1x56 ![36, 0] · slices_S56x56_S1x56_36_0) main_v474
  let main_v482 : FVec F S56x56 .f32 := broadcastInDim S56x56 ![0, 1] bcast_S56x1_S56x56_0_1 main_v480
  let main_v483 : FVec F S56x56 .f32 := broadcastInDim S56x56 ![0, 1] bcast_S1x56_S56x56_0_1 main_v481
  let main_v484 : FVec F S56x56 .f32 := mulf main_v482 main_v483
  let main_v485 : FVec F S56x56 .f32 := broadcastInDim S56x56 ![0, 1] bcast_S1x1_S56x56_0_1 main_v475
  let main_v486 : FVec F S56x56 .f32 := Host.divf main_v484 main_v485
  let main_v487 : FVec F S56x56 .f32 := subf main_v474 main_v486
  let main_v488 : FVec F S1x1 .f32 := (extractStridedSlice S1x1 ![37, 37] · slices_S56x56_S1x1_37_37) main_v487
  let main_cst_73 : FVec F S_ .f32 := constant S_ .f32 0x00000000#32
  let main_v489 : FVec F S1x1 .f32 := broadcastInDim S1x1 ![] bcast_S_S1x1 main_cst_73
  let main_v490 : IVec S1x1 1 := cmpf .ogt main_v488 main_v489
  let main_c_74 : IVec S_ 1 := constantI S_ 1 1#1
  let main_v491 : IVec S_ 1 := (fun x v => Host.reduce IntOp.andi x v reducesTo_S1x1_S_d0_1 h_S_) main_v490 main_c_74
  let main_v492 : IVec S_ 1 := andi main_v479 main_v491
  let main_v493 : FVec F S56x1 .f32 := (extractStridedSlice S56x1 ![0, 37] · slices_S56x56_S56x1_0_37) main_v487
  let main_v494 : FVec F S1x56 .f32 := (extractStridedSlice S1x56 ![37, 0] · slices_S56x56_S1x56_37_0) main_v487
  let main_v495 : FVec F S56x56 .f32 := broadcastInDim S56x56 ![0, 1] bcast_S56x1_S56x56_0_1 main_v493
  let main_v496 : FVec F S56x56 .f32 := broadcastInDim S56x56 ![0, 1] bcast_S1x56_S56x56_0_1 main_v494
  let main_v497 : FVec F S56x56 .f32 := mulf main_v495 main_v496
  let main_v498 : FVec F S56x56 .f32 := broadcastInDim S56x56 ![0, 1] bcast_S1x1_S56x56_0_1 main_v488
  fn_part24 (F := F) main_v487 main_v492 main_v497 main_v498

def fn_part22 {F : FTy → Type} [FloatOps F] (main_v448 : FVec F S56x56 .f32) (main_v449 : FVec F S1x1 .f32) (main_v453 : IVec S_ 1) (main_v455 : FVec F S1x56 .f32) (main_v456 : FVec F S56x56 .f32) : IVec S_ 1 :=
  let main_v457 : FVec F S56x56 .f32 := broadcastInDim S56x56 ![0, 1] bcast_S1x56_S56x56_0_1 main_v455
  let main_v458 : FVec F S56x56 .f32 := mulf main_v456 main_v457
  let main_v459 : FVec F S56x56 .f32 := broadcastInDim S56x56 ![0, 1] bcast_S1x1_S56x56_0_1 main_v449
  let main_v460 : FVec F S56x56 .f32 := Host.divf main_v458 main_v459
  let main_v461 : FVec F S56x56 .f32 := subf main_v448 main_v460
  let main_v462 : FVec F S1x1 .f32 := (extractStridedSlice S1x1 ![35, 35] · slices_S56x56_S1x1_35_35) main_v461
  let main_cst_69 : FVec F S_ .f32 := constant S_ .f32 0x00000000#32
  let main_v463 : FVec F S1x1 .f32 := broadcastInDim S1x1 ![] bcast_S_S1x1 main_cst_69
  let main_v464 : IVec S1x1 1 := cmpf .ogt main_v462 main_v463
  let main_c_70 : IVec S_ 1 := constantI S_ 1 1#1
  let main_v465 : IVec S_ 1 := (fun x v => Host.reduce IntOp.andi x v reducesTo_S1x1_S_d0_1 h_S_) main_v464 main_c_70
  let main_v466 : IVec S_ 1 := andi main_v453 main_v465
  let main_v467 : FVec F S56x1 .f32 := (extractStridedSlice S56x1 ![0, 35] · slices_S56x56_S56x1_0_35) main_v461
  let main_v468 : FVec F S1x56 .f32 := (extractStridedSlice S1x56 ![35, 0] · slices_S56x56_S1x56_35_0) main_v461
  let main_v469 : FVec F S56x56 .f32 := broadcastInDim S56x56 ![0, 1] bcast_S56x1_S56x56_0_1 main_v467
  let main_v470 : FVec F S56x56 .f32 := broadcastInDim S56x56 ![0, 1] bcast_S1x56_S56x56_0_1 main_v468
  let main_v471 : FVec F S56x56 .f32 := mulf main_v469 main_v470
  let main_v472 : FVec F S56x56 .f32 := broadcastInDim S56x56 ![0, 1] bcast_S1x1_S56x56_0_1 main_v462
  let main_v473 : FVec F S56x56 .f32 := Host.divf main_v471 main_v472
  let main_v474 : FVec F S56x56 .f32 := subf main_v461 main_v473
  let main_v475 : FVec F S1x1 .f32 := (extractStridedSlice S1x1 ![36, 36] · slices_S56x56_S1x1_36_36) main_v474
  let main_cst_71 : FVec F S_ .f32 := constant S_ .f32 0x00000000#32
  let main_v476 : FVec F S1x1 .f32 := broadcastInDim S1x1 ![] bcast_S_S1x1 main_cst_71
  let main_v477 : IVec S1x1 1 := cmpf .ogt main_v475 main_v476
  fn_part23 (F := F) main_v466 main_v474 main_v475 main_v477

def fn_part21 {F : FTy → Type} [FloatOps F] (main_v427 : IVec S_ 1) (main_v435 : FVec F S56x56 .f32) (main_v436 : FVec F S1x1 .f32) : IVec S_ 1 :=
  let main_cst_65 : FVec F S_ .f32 := constant S_ .f32 0x00000000#32
  let main_v437 : FVec F S1x1 .f32 := broadcastInDim S1x1 ![] bcast_S_S1x1 main_cst_65
  let main_v438 : IVec S1x1 1 := cmpf .ogt main_v436 main_v437
  let main_c_66 : IVec S_ 1 := constantI S_ 1 1#1
  let main_v439 : IVec S_ 1 := (fun x v => Host.reduce IntOp.andi x v reducesTo_S1x1_S_d0_1 h_S_) main_v438 main_c_66
  let main_v440 : IVec S_ 1 := andi main_v427 main_v439
  let main_v441 : FVec F S56x1 .f32 := (extractStridedSlice S56x1 ![0, 33] · slices_S56x56_S56x1_0_33) main_v435
  let main_v442 : FVec F S1x56 .f32 := (extractStridedSlice S1x56 ![33, 0] · slices_S56x56_S1x56_33_0) main_v435
  let main_v443 : FVec F S56x56 .f32 := broadcastInDim S56x56 ![0, 1] bcast_S56x1_S56x56_0_1 main_v441
  let main_v444 : FVec F S56x56 .f32 := broadcastInDim S56x56 ![0, 1] bcast_S1x56_S56x56_0_1 main_v442
  let main_v445 : FVec F S56x56 .f32 := mulf main_v443 main_v444
  let main_v446 : FVec F S56x56 .f32 := broadcastInDim S56x56 ![0, 1] bcast_S1x1_S56x56_0_1 main_v436
  let main_v447 : FVec F S56x56 .f32 := Host.divf main_v445 main_v446
  let main_v448 : FVec F S56x56 .f32 := subf main_v435 main_v447
  let main_v449 : FVec F S1x1 .f32 := (extractStridedSlice S1x1 ![34, 34] · slices_S56x56_S1x1_34_34) main_v448
  let main_cst_67 : FVec F S_ .f32 := constant S_ .f32 0x00000000#32
  let main_v450 : FVec F S1x1 .f32 := broadcastInDim S1x1 ![] bcast_S_S1x1 main_cst_67
  let main_v451 : IVec S1x1 1 := cmpf .ogt main_v449 main_v450
  let main_c_68 : IVec S_ 1 := constantI S_ 1 1#1
  let main_v452 : IVec S_ 1 := (fun x v => Host.reduce IntOp.andi x v reducesTo_S1x1_S_d0_1 h_S_) main_v451 main_c_68
  let main_v453 : IVec S_ 1 := andi main_v440 main_v452
  let main_v454 : FVec F S56x1 .f32 := (extractStridedSlice S56x1 ![0, 34] · slices_S56x56_S56x1_0_34) main_v448
  let main_v455 : FVec F S1x56 .f32 := (extractStridedSlice S1x56 ![34, 0] · slices_S56x56_S1x56_34_0) main_v448
  let main_v456 : FVec F S56x56 .f32 := broadcastInDim S56x56 ![0, 1] bcast_S56x1_S56x56_0_1 main_v454
  fn_part22 (F := F) main_v448 main_v449 main_v453 main_v455 main_v456

def fn_part20 {F : FTy → Type} [FloatOps F] (main_v409 : FVec F S56x56 .f32) (main_v410 : FVec F S1x1 .f32) (main_v414 : IVec S_ 1) : IVec S_ 1 :=
  let main_v415 : FVec F S56x1 .f32 := (extractStridedSlice S56x1 ![0, 31] · slices_S56x56_S56x1_0_31) main_v409
  let main_v416 : FVec F S1x56 .f32 := (extractStridedSlice S1x56 ![31, 0] · slices_S56x56_S1x56_31_0) main_v409
  let main_v417 : FVec F S56x56 .f32 := broadcastInDim S56x56 ![0, 1] bcast_S56x1_S56x56_0_1 main_v415
  let main_v418 : FVec F S56x56 .f32 := broadcastInDim S56x56 ![0, 1] bcast_S1x56_S56x56_0_1 main_v416
  let main_v419 : FVec F S56x56 .f32 := mulf main_v417 main_v418
  let main_v420 : FVec F S56x56 .f32 := broadcastInDim S56x56 ![0, 1] bcast_S1x1_S56x56_0_1 main_v410
  let main_v421 : FVec F S56x56 .f32 := Host.divf main_v419 main_v420
  let main_v422 : FVec F S56x56 .f32 := subf main_v409 main_v421
  let main_v423 : FVec F S1x1 .f32 := (extractStridedSlice S1x1 ![32, 32] · slices_S56x56_S1x1_32_32) main_v422
  let main_cst_63 : FVec F S_ .f32 := constant S_ .f32 0x00000000#32
  let main_v424 : FVec F S1x1 .f32 := broadcastInDim S1x1 ![] bcast_S_S1x1 main_cst_63
  let main_v425 : IVec S1x1 1 := cmpf .ogt main_v423 main_v424
  let main_c_64 : IVec S_ 1 := constantI S_ 1 1#1
  let main_v426 : IVec S_ 1 := (fun x v => Host.reduce IntOp.andi x v reducesTo_S1x1_S_d0_1 h_S_) main_v425 main_c_64
  let main_v427 : IVec S_ 1 := andi main_v414 main_v426
  let main_v428 : FVec F S56x1 .f32 := (extractStridedSlice S56x1 ![0, 32] · slices_S56x56_S56x1_0_32) main_v422
  let main_v429 : FVec F S1x56 .f32 := (extractStridedSlice S1x56 ![32, 0] · slices_S56x56_S1x56_32_0) main_v422
  let main_v430 : FVec F S56x56 .f32 := broadcastInDim S56x56 ![0, 1] bcast_S56x1_S56x56_0_1 main_v428
  let main_v431 : FVec F S56x56 .f32 := broadcastInDim S56x56 ![0, 1] bcast_S1x56_S56x56_0_1 main_v429
  let main_v432 : FVec F S56x56 .f32 := mulf main_v430 main_v431
  let main_v433 : FVec F S56x56 .f32 := broadcastInDim S56x56 ![0, 1] bcast_S1x1_S56x56_0_1 main_v423
  let main_v434 : FVec F S56x56 .f32 := Host.divf main_v432 main_v433
  let main_v435 : FVec F S56x56 .f32 := subf main_v422 main_v434
  let main_v436 : FVec F S1x1 .f32 := (extractStridedSlice S1x1 ![33, 33] · slices_S56x56_S1x1_33_33) main_v435
  fn_part21 (F := F) main_v427 main_v435 main_v436

def fn_part19 {F : FTy → Type} [FloatOps F] (main_v383 : FVec F S56x56 .f32) (main_v388 : IVec S_ 1) (main_v393 : FVec F S56x56 .f32) (main_v394 : FVec F S56x56 .f32) : IVec S_ 1 :=
  let main_v395 : FVec F S56x56 .f32 := Host.divf main_v393 main_v394
  let main_v396 : FVec F S56x56 .f32 := subf main_v383 main_v395
  let main_v397 : FVec F S1x1 .f32 := (extractStridedSlice S1x1 ![30, 30] · slices_S56x56_S1x1_30_30) main_v396
  let main_cst_59 : FVec F S_ .f32 := constant S_ .f32 0x00000000#32
  let main_v398 : FVec F S1x1 .f32 := broadcastInDim S1x1 ![] bcast_S_S1x1 main_cst_59
  let main_v399 : IVec S1x1 1 := cmpf .ogt main_v397 main_v398
  let main_c_60 : IVec S_ 1 := constantI S_ 1 1#1
  let main_v400 : IVec S_ 1 := (fun x v => Host.reduce IntOp.andi x v reducesTo_S1x1_S_d0_1 h_S_) main_v399 main_c_60
  let main_v401 : IVec S_ 1 := andi main_v388 main_v400
  let main_v402 : FVec F S56x1 .f32 := (extractStridedSlice S56x1 ![0, 30] · slices_S56x56_S56x1_0_30) main_v396
  let main_v403 : FVec F S1x56 .f32 := (extractStridedSlice S1x56 ![30, 0] · slices_S56x56_S1x56_30_0) main_v396
  let main_v404 : FVec F S56x56 .f32 := broadcastInDim S56x56 ![0, 1] bcast_S56x1_S56x56_0_1 main_v402
  let main_v405 : FVec F S56x56 .f32 := broadcastInDim S56x56 ![0, 1] bcast_S1x56_S56x56_0_1 main_v403
  let main_v406 : FVec F S56x56 .f32 := mulf main_v404 main_v405
  let main_v407 : FVec F S56x56 .f32 := broadcastInDim S56x56 ![0, 1] bcast_S1x1_S56x56_0_1 main_v397
  let main_v408 : FVec F S56x56 .f32 := Host.divf main_v406 main_v407
  let main_v409 : FVec F S56x56 .f32 := subf main_v396 main_v408
  let main_v410 : FVec F S1x1 .f32 := (extractStridedSlice S1x1 ![31, 31] · slices_S56x56_S1x1_31_31) main_v409
  let main_cst_61 : FVec F S_ .f32 := constant S_ .f32 0x00000000#32
  let main_v411 : FVec F S1x1 .f32 := broadcastInDim S1x1 ![] bcast_S_S1x1 main_cst_61
  let main_v412 : IVec S1x1 1 := cmpf .ogt main_v410 main_v411
  let main_c_62 : IVec S_ 1 := constantI S_ 1 1#1
  let main_v413 : IVec S_ 1 := (fun x v => Host.reduce IntOp.andi x v reducesTo_S1x1_S_d0_1 h_S_) main_v412 main_c_62
  let main_v414 : IVec S_ 1 := andi main_v401 main_v413
  fn_part20 (F := F) main_v409 main_v410 main_v414

def fn_part18 {F : FTy → Type} [FloatOps F] (main_v362 : IVec S_ 1) (main_v370 : FVec F S56x56 .f32) (main_v371 : FVec F S1x1 .f32) (main_v373 : IVec S1x1 1) : IVec S_ 1 :=
  let main_c_56 : IVec S_ 1 := constantI S_ 1 1#1
  let main_v374 : IVec S_ 1 := (fun x v => Host.reduce IntOp.andi x v reducesTo_S1x1_S_d0_1 h_S_) main_v373 main_c_56
  let main_v375 : IVec S_ 1 := andi main_v362 main_v374
  let main_v376 : FVec F S56x1 .f32 := (extractStridedSlice S56x1 ![0, 28] · slices_S56x56_S56x1_0_28) main_v370
  let main_v377 : FVec F S1x56 .f32 := (extractStridedSlice S1x56 ![28, 0] · slices_S56x56_S1x56_28_0) main_v370
  let main_v378 : FVec F S56x56 .f32 := broadcastInDim S56x56 ![0, 1] bcast_S56x1_S56x56_0_1 main_v376
  let main_v379 : FVec F S56x56 .f32 := broadcastInDim S56x56 ![0, 1] bcast_S1x56_S56x56_0_1 main_v377
  let main_v380 : FVec F S56x56 .f32 := mulf main_v378 main_v379
  let main_v381 : FVec F S56x56 .f32 := broadcastInDim S56x56 ![0, 1] bcast_S1x1_S56x56_0_1 main_v371
  let main_v382 : FVec F S56x56 .f32 := Host.divf main_v380 main_v381
  let main_v383 : FVec F S56x56 .f32 := subf main_v370 main_v382
  let main_v384 : FVec F S1x1 .f32 := (extractStridedSlice S1x1 ![29, 29] · slices_S56x56_S1x1_29_29) main_v383
  let main_cst_57 : FVec F S_ .f32 := constant S_ .f32 0x00000000#32
  let main_v385 : FVec F S1x1 .f32 := broadcastInDim S1x1 ![] bcast_S_S1x1 main_cst_57
  let main_v386 : IVec S1x1 1 := cmpf .ogt main_v384 main_v385
  let main_c_58 : IVec S_ 1 := constantI S_ 1 1#1
  let main_v387 : IVec S_ 1 := (fun x v => Host.reduce IntOp.andi x v reducesTo_S1x1_S_d0_1 h_S_) main_v386 main_c_58
  let main_v388 : IVec S_ 1 := andi main_v375 main_v387
  let main_v389 : FVec F S56x1 .f32 := (extractStridedSlice S56x1 ![0, 29] · slices_S56x56_S56x1_0_29) main_v383
  let main_v390 : FVec F S1x56 .f32 := (extractStridedSlice S1x56 ![29, 0] · slices_S56x56_S1x56_29_0) main_v383
  let main_v391 : FVec F S56x56 .f32 := broadcastInDim S56x56 ![0, 1] bcast_S56x1_S56x56_0_1 main_v389
  let main_v392 : FVec F S56x56 .f32 := broadcastInDim S56x56 ![0, 1] bcast_S1x56_S56x56_0_1 main_v390
  let main_v393 : FVec F S56x56 .f32 := mulf main_v391 main_v392
  let main_v394 : FVec F S56x56 .f32 := broadcastInDim S56x56 ![0, 1] bcast_S1x1_S56x56_0_1 main_v384
  fn_part19 (F := F) main_v383 main_v388 main_v393 main_v394

def fn_part17 {F : FTy → Type} [FloatOps F] (main_v344 : FVec F S56x56 .f32) (main_v345 : FVec F S1x1 .f32) (main_v349 : IVec S_ 1) (main_v351 : FVec F S1x56 .f32) (main_v352 : FVec F S56x56 .f32) : IVec S_ 1 :=
  let main_v353 : FVec F S56x56 .f32 := broadcastInDim S56x56 ![0, 1] bcast_S1x56_S56x56_0_1 main_v351
  let main_v354 : FVec F S56x56 .f32 := mulf main_v352 main_v353
  let main_v355 : FVec F S56x56 .f32 := broadcastInDim S56x56 ![0, 1] bcast_S1x1_S56x56_0_1 main_v345
  let main_v356 : FVec F S56x56 .f32 := Host.divf main_v354 main_v355
  let main_v357 : FVec F S56x56 .f32 := subf main_v344 main_v356
  let main_v358 : FVec F S1x1 .f32 := (extractStridedSlice S1x1 ![27, 27] · slices_S56x56_S1x1_27_27) main_v357
  let main_cst_53 : FVec F S_ .f32 := constant S_ .f32 0x00000000#32
  let main_v359 : FVec F S1x1 .f32 := broadcastInDim S1x1 ![] bcast_S_S1x1 main_cst_53
  let main_v360 : IVec S1x1 1 := cmpf .ogt main_v358 main_v359
  let main_c_54 : IVec S_ 1 := constantI S_ 1 1#1
  let main_v361 : IVec S_ 1 := (fun x v => Host.reduce IntOp.andi x v reducesTo_S1x1_S_d0_1 h_S_) main_v360 main_c_54
  let main_v362 : IVec S_ 1 := andi main_v349 main_v361
  let main_v363 : FVec F S56x1 .f32 := (extractStridedSlice S56x1 ![0, 27] · slices_S56x56_S56x1_0_27) main_v357
  let main_v364 : FVec F S1x56 .f32 := (extractStridedSlice S1x56 ![27, 0] · slices_S56x56_S1x56_27_0) main_v357
  let main_v365 : FVec F S56x56 .f32 := broadcastInDim S56x56 ![0, 1] bcast_S56x1_S56x56_0_1 main_v363
  let main_v366 : FVec F S56x56 .f32 := broadcastInDim S56x56 ![0, 1] bcast_S1x56_S56x56_0_1 main_v364
  let main_v367 : FVec F S56x56 .f32 := mulf main_v365 main_v366
  let main_v368 : FVec F S56x56 .f32 := broadcastInDim S56x56 ![0, 1] bcast_S1x1_S56x56_0_1 main_v358
  let main_v369 : FVec F S56x56 .f32 := Host.divf main_v367 main_v368
  let main_v370 : FVec F S56x56 .f32 := subf main_v357 main_v369
  let main_v371 : FVec F S1x1 .f32 := (extractStridedSlice S1x1 ![28, 28] · slices_S56x56_S1x1_28_28) main_v370
  let main_cst_55 : FVec F S_ .f32 := constant S_ .f32 0x00000000#32
  let main_v372 : FVec F S1x1 .f32 := broadcastInDim S1x1 ![] bcast_S_S1x1 main_cst_55
  let main_v373 : IVec S1x1 1 := cmpf .ogt main_v371 main_v372
  fn_part18 (F := F) main_v362 main_v370 main_v371 main_v373

def fn_part16 {F : FTy → Type} [FloatOps F] (main_v323 : IVec S_ 1) (main_v331 : FVec F S56x56 .f32) (main_v332 : FVec F S1x1 .f32) : IVec S_ 1 :=
  let main_cst_49 : FVec F S_ .f32 := constant S_ .f32 0x00000000#32
  let main_v333 : FVec F S1x1 .f32 := broadcastInDim S1x1 ![] bcast_S_S1x1 main_cst_49
  let main_v334 : IVec S1x1 1 := cmpf .ogt main_v332 main_v333
  let main_c_50 : IVec S_ 1 := constantI S_ 1 1#1
  let main_v335 : IVec S_ 1 := (fun x v => Host.reduce IntOp.andi x v reducesTo_S1x1_S_d0_1 h_S_) main_v334 main_c_50
  let main_v336 : IVec S_ 1 := andi main_v323 main_v335
  let main_v337 : FVec F S56x1 .f32 := (extractStridedSlice S56x1 ![0, 25] · slices_S56x56_S56x1_0_25) main_v331
  let main_v338 : FVec F S1x56 .f32 := (extractStridedSlice S1x56 ![25, 0] · slices_S56x56_S1x56_25_0) main_v331
  let main_v339 : FVec F S56x56 .f32 := broadcastInDim S56x56 ![0, 1] bcast_S56x1_S56x56_0_1 main_v337
  let main_v340 : FVec F S56x56 .f32 := broadcastInDim S56x56 ![0, 1] bcast_S1x56_S56x56_0_1 main_v338
  let main_v341 : FVec F S56x56 .f32 := mulf main_v339 main_v340
  let main_v342 : FVec F S56x56 .f32 := broadcastInDim S56x56 ![0, 1] bcast_S1x1_S56x56_0_1 main_v332
  let main_v343 : FVec F S56x56 .f32 := Host.divf main_v341 main_v342
  let main_v344 : FVec F S56x56 .f32 := subf main_v331 main_v343
  let main_v345 : FVec F S1x1 .f32 := (extractStridedSlice S1x1 ![26, 26] · slices_S56x56_S1x1_26_26) main_v344
  let main_cst_51 : FVec F S_ .f32 := constant S_ .f32 0x00000000#32
  let main_v346 : FVec F S1x1 .f32 := broadcastInDim S1x1 ![] bcast_S_S1x1 main_cst_51
  let main_v347 : IVec S1x1 1 := cmpf .ogt main_v345 main_v346
  let main_c_52 : IVec S_ 1 := constantI S_ 1 1#1
  let main_v348 : IVec S_ 1 := (fun x v => Host.reduce IntOp.andi x v reducesTo_S1x1_S_d0_1 h_S_) main_v347 main_c_52
  let main_v349 : IVec S_ 1 := andi main_v336 main_v348
  let main_v350 : FVec F S56x1 .f32 := (extractStridedSlice S56x1 ![0, 26] · slices_S56x56_S56x1_0_26) main_v344
  let main_v351 : FVec F S1x56 .f32 := (extractStridedSlice S1x56 ![26, 0] · slices_S56x56_S1x56_26_0) main_v344
  let main_v352 : FVec F S56x56 .f32 := broadcastInDim S56x56 ![0, 1] bcast_S56x1_S56x56_0_1 main_v350
  fn_part17 (F := F) main_v344 main_v345 main_v349 main_v351 main_v352

def fn_part15 {F : FTy → Type} [FloatOps F] (main_v305 : FVec F S56x56 .f32) (main_v306 : FVec F S1x1 .f32) (main_v310 : IVec S_ 1) : IVec S_ 1 :=
  let main_v311 : FVec F S56x1 .f32 := (extractStridedSlice S56x1 ![0, 23] · slices_S56x56_S56x1_0_23) main_v305
  let main_v312 : FVec F S1x56 .f32 := (extractStridedSlice S1x56 ![23, 0] · slices_S56x56_S1x56_23_0) main_v305
  let main_v313 : FVec F S56x56 .f32 := broadcastInDim S56x56 ![0, 1] bcast_S56x1_S56x56_0_1 main_v311
  let main_v314 : FVec F S56x56 .f32 := broadcastInDim S56x56 ![0, 1] bcast_S1x56_S56x56_0_1 main_v312
  let main_v315 : FVec F S56x56 .f32 := mulf main_v313 main_v314
  let main_v316 : FVec F S56x56 .f32 := broadcastInDim S56x56 ![0, 1] bcast_S1x1_S56x56_0_1 main_v306
  let main_v317 : FVec F S56x56 .f32 := Host.divf main_v315 main_v316
  let main_v318 : FVec F S56x56 .f32 := subf main_v305 main_v317
  let main_v319 : FVec F S1x1 .f32 := (extractStridedSlice S1x1 ![24, 24] · slices_S56x56_S1x1_24_24) main_v318
  let main_cst_47 : FVec F S_ .f32 := constant S_ .f32 0x00000000#32
  let main_v320 : FVec F S1x1 .f32 := broadcastInDim S1x1 ![] bcast_S_S1x1 main_cst_47
  let main_v321 : IVec S1x1 1 := cmpf .ogt main_v319 main_v320
  let main_c_48 : IVec S_ 1 := constantI S_ 1 1#1
  let main_v322 : IVec S_ 1 := (fun x v => Host.reduce IntOp.andi x v reducesTo_S1x1_S_d0_1 h_S_) main_v321 main_c_48
  let main_v323 : IVec S_ 1 := andi main_v310 main_v322
  let main_v324 : FVec F S56x1 .f32 := (extractStridedSlice S56x1 ![0, 24] · slices_S56x56_S56x1_0_24) main_v318
  let main_v325 : FVec F S1x56 .f32 := (extractStridedSlice S1x56 ![24, 0] · slices_S56x56_S1x56_24_0) main_v318
  let main_v326 : FVec F S56x56 .f32 := broadcastInDim S56x56 ![0, 1] bcast_S56x1_S56x56_0_1 main_v324
  let main_v327 : FVec F S56x56 .f32 := broadcastInDim S56x56 ![0, 1] bcast_S1x56_S56x56_0_1 main_v325
  let main_v328 : FVec F S56x56 .f32 := mulf main_v326 main_v327
  let main_v329 : FVec F S56x56 .f32 := broadcastInDim S56x56 ![0, 1] bcast_S1x1_S56x56_0_1 main_v319
  let main_v330 : FVec F S56x56 .f32 := Host.divf main_v328 main_v329
  let main_v331 : FVec F S56x56 .f32 := subf main_v318 main_v330
  let main_v332 : FVec F S1x1 .f32 := (extractStridedSlice S1x1 ![25, 25] · slices_S56x56_S1x1_25_25) main_v331
  fn_part16 (F := F) main_v323 main_v331 main_v332

def fn_part14 {F : FTy → Type} [FloatOps F] (main_v279 : FVec F S56x56 .f32) (main_v284 : IVec S_ 1) (main_v289 : FVec F S56x56 .f32) (main_v290 : FVec F S56x56 .f32) : IVec S_ 1 :=
  let main_v291 : FVec F S56x56 .f32 := Host.divf main_v289 main_v290
  let main_v292 : FVec F S56x56 .f32 := subf main_v279 main_v291
  let main_v293 : FVec F S1x1 .f32 := (extractStridedSlice S1x1 ![22, 22] · slices_S56x56_S1x1_22_22) main_v292
  let main_cst_43 : FVec F S_ .f32 := constant S_ .f32 0x00000000#32
  let main_v294 : FVec F S1x1 .f32 := broadcastInDim S1x1 ![] bcast_S_S1x1 main_cst_43
  let main_v295 : IVec S1x1 1 := cmpf .ogt main_v293 main_v294
  let main_c_44 : IVec S_ 1 := constantI S_ 1 1#1
  let main_v296 : IVec S_ 1 := (fun x v => Host.reduce IntOp.andi x v reducesTo_S1x1_S_d0_1 h_S_) main_v295 main_c_44
  let main_v297 : IVec S_ 1 := andi main_v284 main_v296
  let main_v298 : FVec F S56x1 .f32 := (extractStridedSlice S56x1 ![0, 22] · slices_S56x56_S56x1_0_22) main_v292
  let main_v299 : FVec F S1x56 .f32 := (extractStridedSlice S1x56 ![22, 0] · slices_S56x56_S1x56_22_0) main_v292
  let main_v300 : FVec F S56x56 .f32 := broadcastInDim S56x56 ![0, 1] bcast_S56x1_S56x56_0_1 main_v298
  let main_v301 : FVec F S56x56 .f32 := broadcastInDim S56x56 ![0, 1] bcast_S1x56_S56x56_0_1 main_v299
  let main_v302 : FVec F S56x56 .f32 := mulf main_v300 main_v301
  let main_v303 : FVec F S56x56 .f32 := broadcastInDim S56x56 ![0, 1] bcast_S1x1_S56x56_0_1 main_v293
  let main_v304 : FVec F S56x56 .f32 := Host.divf main_v302 main_v303
  let main_v305 : FVec F S56x56 .f32 := subf main_v292 main_v304
  let main_v306 : FVec F S1x1 .f32 := (extractStridedSlice S1x1 ![23, 23] · slices_S56x56_S1x1_23_23) main_v305
  let main_cst_45 : FVec F S_ .f32 := constant S_ .f32 0x00000000#32
  let main_v307 : FVec F S1x1 .f32 := broadcastInDim S1x1 ![] bcast_S_S1x1 main_cst_45
  let main_v308 : IVec S1x1 1 := cmpf .ogt main_v306 main_v307
  let main_c_46 : IVec S_ 1 := constantI S_ 1 1#1
  let main_v309 : IVec S_ 1 := (fun x v => Host.reduce IntOp.andi x v reducesTo_S1x1_S_d0_1 h_S_) main_v308 main_c_46
  let main_v310 : IVec S_ 1 := andi main_v297 main_v309
  fn_part15 (F := F) main_v305 main_v306 main_v310

def fn_part13 {F : FTy → Type} [FloatOps F] (main_v258 : IVec S_ 1) (main_v266 : FVec F S56x56 .f32) (main_v267 : FVec F S1x1 .f32) (main_v269 : IVec S1x1 1) : IVec S_ 1 :=
  let main_c_40 : IVec S_ 1 := constantI S_ 1 1#1
  let main_v270 : IVec S_ 1 := (fun x v => Host.reduce IntOp.andi x v reducesTo_S1x1_S_d0_1 h_S_) main_v269 main_c_40
  let main_v271 : IVec S_ 1 := andi main_v258 main_v270
  let main_v272 : FVec F S56x1 .f32 := (extractStridedSlice S56x1 ![0, 20] · slices_S56x56_S56x1_0_20) main_v266
  let main_v273 : FVec F S1x56 .f32 := (extractStridedSlice S1x56 ![20, 0] · slices_S56x56_S1x56_20_0) main_v266
  let main_v274 : FVec F S56x56 .f32 := broadcastInDim S56x56 ![0, 1] bcast_S56x1_S56x56_0_1 main_v272
  let main_v275 : FVec F S56x56 .f32 := broadcastInDim S56x56 ![0, 1] bcast_S1x56_S56x56_0_1 main_v273
  let main_v276 : FVec F S56x56 .f32 := mulf main_v274 main_v275
  let main_v277 : FVec F S56x56 .f32 := broadcastInDim S56x56 ![0, 1] bcast_S1x1_S56x56_0_1 main_v267
  let main_v278 : FVec F S56x56 .f32 := Host.divf main_v276 main_v277
  let main_v279 : FVec F S56x56 .f32 := subf main_v266 main_v278
  let main_v280 : FVec F S1x1 .f32 := (extractStridedSlice S1x1 ![21, 21] · slices_S56x56_S1x1_21_21) main_v279
  let main_cst_41 : FVec F S_ .f32 := constant S_ .f32 0x00000000#32
  let main_v281 : FVec F S1x1 .f32 := broadcastInDim S1x1 ![] bcast_S_S1x1 main_cst_41
  let main_v282 : IVec S1x1 1 := cmpf .ogt main_v280 main_v281
  let main_c_42 : IVec S_ 1 := constantI S_ 1 1#1
  let main_v283 : IVec S_ 1 := (fun x v => Host.reduce IntOp.andi x v reducesTo_S1x1_S_d0_1 h_S_) main_v282 main_c_42
  let main_v284 : IVec S_ 1 := andi main_v271 main_v283
  let main_v285 : FVec F S56x1 .f32 := (extractStridedSlice S56x1 ![0, 21] · slices_S56x56_S56x1_0_21) main_v279
  let main_v286 : FVec F S1x56 .f32 := (extractStridedSlice S1x56 ![21, 0] · slices_S56x56_S1x56_21_0) main_v279
  let main_v287 : FVec F S56x56 .f32 := broadcastInDim S56x56 ![0, 1] bcast_S56x1_S56x56_0_1 main_v285
  let main_v288 : FVec F S56x56 .f32 := broadcastInDim S56x56 ![0, 1] bcast_S1x56_S56x56_0_1 main_v286
  let main_v289 : FVec F S56x56 .f32 := mulf main_v287 main_v288
  let main_v290 : FVec F S56x56 .f32 := broadcastInDim S56x56 ![0, 1] bcast_S1x1_S56x56_0_1 main_v280
  fn_part14 (F := F) main_v279 main_v284 main_v289 main_v290

def fn_part12 {F : FTy → Type} [FloatOps F] (main_v240 : FVec F S56x56 .f32) (main_v241 : FVec F S1x1 .f32) (main_v245 : IVec S_ 1) (main_v247 : FVec F S1x56 .f32) (main_v248 : FVec F S56x56 .f32) : IVec S_ 1 :=
  let main_v249 : FVec F S56x56 .f32 := broadcastInDim S56x56 ![0, 1] bcast_S1x56_S56x56_0_1 main_v247
  let main_v250 : FVec F S56x56 .f32 := mulf main_v248 main_v249
  let main_v251 : FVec F S56x56 .f32 := broadcastInDim S56x56 ![0, 1] bcast_S1x1_S56x56_0_1 main_v241
  let main_v252 : FVec F S56x56 .f32 := Host.divf main_v250 main_v251
  let main_v253 : FVec F S56x56 .f32 := subf main_v240 main_v252
  let main_v254 : FVec F S1x1 .f32 := (extractStridedSlice S1x1 ![19, 19] · slices_S56x56_S1x1_19_19) main_v253
  let main_cst_37 : FVec F S_ .f32 := constant S_ .f32 0x00000000#32
  let main_v255 : FVec F S1x1 .f32 := broadcastInDim S1x1 ![] bcast_S_S1x1 main_cst_37
  let main_v256 : IVec S1x1 1 := cmpf .ogt main_v254 main_v255
  let main_c_38 : IVec S_ 1 := constantI S_ 1 1#1
  let main_v257 : IVec S_ 1 := (fun x v => Host.reduce IntOp.andi x v reducesTo_S1x1_S_d0_1 h_S_) main_v256 main_c_38
  let main_v258 : IVec S_ 1 := andi main_v245 main_v257
  let main_v259 : FVec F S56x1 .f32 := (extractStridedSlice S56x1 ![0, 19] · slices_S56x56_S56x1_0_19) main_v253
  let main_v260 : FVec F S1x56 .f32 := (extractStridedSlice S1x56 ![19, 0] · slices_S56x56_S1x56_19_0) main_v253
  let main_v261 : FVec F S56x56 .f32 := broadcastInDim S56x56 ![0, 1] bcast_S56x1_S56x56_0_1 main_v259
  let main_v262 : FVec F S56x56 .f32 := broadcastInDim S56x56 ![0, 1] bcast_S1x56_S56x56_0_1 main_v260
  let main_v263 : FVec F S56x56 .f32 := mulf main_v261 main_v262
  let main_v264 : FVec F S56x56 .f32 := broadcastInDim S56x56 ![0, 1] bcast_S1x1_S56x56_0_1 main_v254
  let main_v265 : FVec F S56x56 .f32 := Host.divf main_v263 main_v264
  let main_v266 : FVec F S56x56 .f32 := subf main_v253 main_v265
  let main_v267 : FVec F S1x1 .f32 := (extractStridedSlice S1x1 ![20, 20] · slices_S56x56_S1x1_20_20) main_v266
  let main_cst_39 : FVec F S_ .f32 := constant S_ .f32 0x00000000#32
  let main_v268 : FVec F S1x1 .f32 := broadcastInDim S1x1 ![] bcast_S_S1x1 main_cst_39
  let main_v269 : IVec S1x1 1 := cmpf .ogt main_v267 main_v268
  fn_part13 (F := F) main_v258 main_v266 main_v267 main_v269

def fn_part11 {F : FTy → Type} [FloatOps F] (main_v219 : IVec S_ 1) (main_v227 : FVec F S56x56 .f32) (main_v228 : FVec F S1x1 .f32) : IVec S_ 1 :=
  let main_cst_33 : FVec F S_ .f32 := constant S_ .f32 0x00000000#32
  let main_v229 : FVec F S1x1 .f32 := broadcastInDim S1x1 ![] bcast_S_S1x1 main_cst_33
  let main_v230 : IVec S1x1 1 := cmpf .ogt main_v228 main_v229
  let main_c_34 : IVec S_ 1 := constantI S_ 1 1#1
  let main_v231 : IVec S_ 1 := (fun x v => Host.reduce IntOp.andi x v reducesTo_S1x1_S_d0_1 h_S_) main_v230 main_c_34
  let main_v232 : IVec S_ 1 := andi main_v219 main_v231
  let main_v233 : FVec F S56x1 .f32 := (extractStridedSlice S56x1 ![0, 17] · slices_S56x56_S56x1_0_17) main_v227
  let main_v234 : FVec F S1x56 .f32 := (extractStridedSlice S1x56 ![17, 0] · slices_S56x56_S1x56_17_0) main_v227
  let main_v235 : FVec F S56x56 .f32 := broadcastInDim S56x56 ![0, 1] bcast_S56x1_S56x56_0_1 main_v233
  let main_v236 : FVec F S56x56 .f32 := broadcastInDim S56x56 ![0, 1] bcast_S1x56_S56x56_0_1 main_v234
  let main_v237 : FVec F S56x56 .f32 := mulf main_v235 main_v236
  let main_v238 : FVec F S56x56 .f32 := broadcastInDim S56x56 ![0, 1] bcast_S1x1_S56x56_0_1 main_v228
  let main_v239 : FVec F S56x56 .f32 := Host.divf main_v237 main_v238
  let main_v240 : FVec F S56x56 .f32 := subf main_v227 main_v239
  let main_v241 : FVec F S1x1 .f32 := (extractStridedSlice S1x1 ![18, 18] · slices_S56x56_S1x1_18_18) main_v240
  let main_cst_35 : FVec F S_ .f32 := constant S_ .f32 0x00000000#32
  let main_v242 : FVec F S1x1 .f32 := broadcastInDim S1x1 ![] bcast_S_S1x1 main_cst_35
  let main_v243 : IVec S1x1 1 := cmpf .ogt main_v241 main_v242
  let main_c_36 : IVec S_ 1 := constantI S_ 1 1#1
  let main_v244 : IVec S_ 1 := (fun x v => Host.reduce IntOp.andi x v reducesTo_S1x1_S_d0_1 h_S_) main_v243 main_c_36
  let main_v245 : IVec S_ 1 := andi main_v232 main_v244
  let main_v246 : FVec F S56x1 .f32 := (extractStridedSlice S56x1 ![0, 18] · slices_S56x56_S56x1_0_18) main_v240
  let main_v247 : FVec F S1x56 .f32 := (extractStridedSlice S1x56 ![18, 0] · slices_S56x56_S1x56_18_0) main_v240
  let main_v248 : FVec F S56x56 .f32 := broadcastInDim S56x56 ![0, 1] bcast_S56x1_S56x56_0_1 main_v246
  fn_part12 (F := F) main_v240 main_v241 main_v245 main_v247 main_v248

def fn_part10 {F : FTy → Type} [FloatOps F] (main_v201 : FVec F S56x56 .f32) (main_v202 : FVec F S1x1 .f32) (main_v206 : IVec S_ 1) : IVec S_ 1 :=
  let main_v207 : FVec F S56x1 .f32 := (extractStridedSlice S56x1 ![0, 15] · slices_S56x56_S56x1_0_15) main_v201
  let main_v208 : FVec F S1x56 .f32 := (extractStridedSlice S1x56 ![15, 0] · slices_S56x56_S1x56_15_0) main_v201
  let main_v209 : FVec F S56x56 .f32 := broadcastInDim S56x56 ![0, 1] bcast_S56x1_S56x56_0_1 main_v207
  let main_v210 : FVec F S56x56 .f32 := broadcastInDim S56x56 ![0, 1] bcast_S1x56_S56x56_0_1 main_v208
  let main_v211 : FVec F S56x56 .f32 := mulf main_v209 main_v210
  let main_v212 : FVec F S56x56 .f32 := broadcastInDim S56x56 ![0, 1] bcast_S1x1_S56x56_0_1 main_v202
  let main_v213 : FVec F S56x56 .f32 := Host.divf main_v211 main_v212
  let main_v214 : FVec F S56x56 .f32 := subf main_v201 main_v213
  let main_v215 : FVec F S1x1 .f32 := (extractStridedSlice S1x1 ![16, 16] · slices_S56x56_S1x1_16_16) main_v214
  let main_cst_31 : FVec F S_ .f32 := constant S_ .f32 0x00000000#32
  let main_v216 : FVec F S1x1 .f32 := broadcastInDim S1x1 ![] bcast_S_S1x1 main_cst_31
  let main_v217 : IVec S1x1 1 := cmpf .ogt main_v215 main_v216
  let main_c_32 : IVec S_ 1 := constantI S_ 1 1#1
  let main_v218 : IVec S_ 1 := (fun x v => Host.reduce IntOp.andi x v reducesTo_S1x1_S_d0_1 h_S_) main_v217 main_c_32
  let main_v219 : IVec S_ 1 := andi main_v206 main_v218
  let main_v220 : FVec F S56x1 .f32 := (extractStridedSlice S56x1 ![0, 16] · slices_S56x56_S56x1_0_16) main_v214
  let main_v221 : FVec F S1x56 .f32 := (extractStridedSlice S1x56 ![16, 0] · slices_S56x56_S1x56_16_0) main_v214
  let main_v222 : FVec F S56x56 .f32 := broadcastInDim S56x56 ![0, 1] bcast_S56x1_S56x56_0_1 main_v220
  let main_v223 : FVec F S56x56 .f32 := broadcastInDim S56x56 ![0, 1] bcast_S1x56_S56x56_0_1 main_v221
  let main_v224 : FVec F S56x56 .f32 := mulf main_v222 main_v223
  let main_v225 : FVec F S56x56 .f32 := broadcastInDim S56x56 ![0, 1] bcast_S1x1_S56x56_0_1 main_v215
  let main_v226 : FVec F S56x56 .f32 := Host.divf main_v224 main_v225
  let main_v227 : FVec F S56x56 .f32 := subf main_v214 main_v226
  let main_v228 : FVec F S1x1 .f32 := (extractStridedSlice S1x1 ![17, 17] · slices_S56x56_S1x1_17_17) main_v227
  fn_part11 (F := F) main_v219 main_v227 main_v228

def fn_part9 {F : FTy → Type} [FloatOps F] (main_v175 : FVec F S56x56 .f32) (main_v180 : IVec S_ 1) (main_v185 : FVec F S56x56 .f32) (main_v186 : FVec F S56x56 .f32) : IVec S_ 1 :=
  let main_v187 : FVec F S56x56 .f32 := Host.divf main_v185 main_v186
  let main_v188 : FVec F S56x56 .f32 := subf main_v175 main_v187
  let main_v189 : FVec F S1x1 .f32 := (extractStridedSlice S1x1 ![14, 14] · slices_S56x56_S1x1_14_14) main_v188
  let main_cst_27 : FVec F S_ .f32 := constant S_ .f32 0x00000000#32
  let main_v190 : FVec F S1x1 .f32 := broadcastInDim S1x1 ![] bcast_S_S1x1 main_cst_27
  let main_v191 : IVec S1x1 1 := cmpf .ogt main_v189 main_v190
  let main_c_28 : IVec S_ 1 := constantI S_ 1 1#1
  let main_v192 : IVec S_ 1 := (fun x v => Host.reduce IntOp.andi x v reducesTo_S1x1_S_d0_1 h_S_) main_v191 main_c_28
  let main_v193 : IVec S_ 1 := andi main_v180 main_v192
  let main_v194 : FVec F S56x1 .f32 := (extractStridedSlice S56x1 ![0, 14] · slices_S56x56_S56x1_0_14) main_v188
  let main_v195 : FVec F S1x56 .f32 := (extractStridedSlice S1x56 ![14, 0] · slices_S56x56_S1x56_14_0) main_v188
  let main_v196 : FVec F S56x56 .f32 := broadcastInDim S56x56 ![0, 1] bcast_S56x1_S56x56_0_1 main_v194
  let main_v197 : FVec F S56x56 .f32 := broadcastInDim S56x56 ![0, 1] bcast_S1x56_S56x56_0_1 main_v195
  let main_v198 : FVec F S56x56 .f32 := mulf main_v196 main_v197
  let main_v199 : FVec F S56x56 .f32 := broadcastInDim S56x56 ![0, 1] bcast_S1x1_S56x56_0_1 main_v189
  let main_v200 : FVec F S56x56 .f32 := Host.divf main_v198 main_v199
  let main_v201 : FVec F S56x56 .f32 := subf main_v188 main_v200
  let main_v202 : FVec F S1x1 .f32 := (extractStridedSlice S1x1 ![15, 15] · slices_S56x56_S1x1_15_15) main_v201
  let main_cst_29 : FVec F S_ .f32 := constant S_ .f32 0x00000000#32
  let main_v203 : FVec F S1x1 .f32 := broadcastInDim S1x1 ![] bcast_S_S1x1 main_cst_29
  let main_v204 : IVec S1x1 1 := cmpf .ogt main_v202 main_v203
  let main_c_30 : IVec S_ 1 := constantI S_ 1 1#1
  let main_v205 : IVec S_ 1 := (fun x v => Host.reduce IntOp.andi x v reducesTo_S1x1_S_d0_1 h_S_) main_v204 main_c_30
  let main_v206 : IVec S_ 1 := andi main_v193 main_v205
  fn_part10 (F := F) main_v201 main_v202 main_v206

def fn_part8 {F : FTy → Type} [FloatOps F] (main_v154 : IVec S_ 1) (main_v162 : FVec F S56x56 .f32) (main_v163 : FVec F S1x1 .f32) (main_v165 : IVec S1x1 1) : IVec S_ 1 :=
  let main_c_24 : IVec S_ 1 := constantI S_ 1 1#1
  let main_v166 : IVec S_ 1 := (fun x v => Host.reduce IntOp.andi x v reducesTo_S1x1_S_d0_1 h_S_) main_v165 main_c_24
  let main_v167 : IVec S_ 1 := andi main_v154 main_v166
  let main_v168 : FVec F S56x1 .f32 := (extractStridedSlice S56x1 ![0, 12] · slices_S56x56_S56x1_0_12) main_v162
  let main_v169 : FVec F S1x56 .f32 := (extractStridedSlice S1x56 ![12, 0] · slices_S56x56_S1x56_12_0) main_v162
  let main_v170 : FVec F S56x56 .f32 := broadcastInDim S56x56 ![0, 1] bcast_S56x1_S56x56_0_1 main_v168
  let main_v171 : FVec F S56x56 .f32 := broadcastInDim S56x56 ![0, 1] bcast_S1x56_S56x56_0_1 main_v169
  let main_v172 : FVec F S56x56 .f32 := mulf main_v170 main_v171
  let main_v173 : FVec F S56x56 .f32 := broadcastInDim S56x56 ![0, 1] bcast_S1x1_S56x56_0_1 main_v163
  let main_v174 : FVec F S56x56 .f32 := Host.divf main_v172 main_v173
  let main_v175 : FVec F S56x56 .f32 := subf main_v162 main_v174
  let main_v176 : FVec F S1x1 .f32 := (extractStridedSlice S1x1 ![13, 13] · slices_S56x56_S1x1_13_13) main_v175
  let main_cst_25 : FVec F S_ .f32 := constant S_ .f32 0x00000000#32
  let main_v177 : FVec F S1x1 .f32 := broadcastInDim S1x1 ![] bcast_S_S1x1 main_cst_25
  let main_v178 : IVec S1x1 1 := cmpf .ogt main_v176 main_v177
  let main_c_26 : IVec S_ 1 := constantI S_ 1 1#1
  let main_v179 : IVec S_ 1 := (fun x v => Host.reduce IntOp.andi x v reducesTo_S1x1_S_d0_1 h_S_) main_v178 main_c_26
  let main_v180 : IVec S_ 1 := andi main_v167 main_v179
  let main_v181 : FVec F S56x1 .f32 := (extractStridedSlice S56x1 ![0, 13] · slices_S56x56_S56x1_0_13) main_v175
  let main_v182 : FVec F S1x56 .f32 := (extractStridedSlice S1x56 ![13, 0] · slices_S56x56_S1x56_13_0) main_v175
  let main_v183 : FVec F S56x56 .f32 := broadcastInDim S56x56 ![0, 1] bcast_S56x1_S56x56_0_1 main_v181
  let main_v184 : FVec F S56x56 .f32 := broadcastInDim S56x56 ![0, 1] bcast_S1x56_S56x56_0_1 main_v182
  let main_v185 : FVec F S56x56 .f32 := mulf main_v183 main_v184
  let main_v186 : FVec F S56x56 .f32 := broadcastInDim S56x56 ![0, 1] bcast_S1x1_S56x56_0_1 main_v176
  fn_part9 (F := F) main_v175 main_v180 main_v185 main_v186

def fn_part7 {F : FTy → Type} [FloatOps F] (main_v136 : FVec F S56x56 .f32) (main_v137 : FVec F S1x1 .f32) (main_v141 : IVec S_ 1) (main_v143 : FVec F S1x56 .f32) (main_v144 : FVec F S56x56 .f32) : IVec S_ 1 :=
  let main_v145 : FVec F S56x56 .f32 := broadcastInDim S56x56 ![0, 1] bcast_S1x56_S56x56_0_1 main_v143
  let main_v146 : FVec F S56x56 .f32 := mulf main_v144 main_v145
  let main_v147 : FVec F S56x56 .f32 := broadcastInDim S56x56 ![0, 1] bcast_S1x1_S56x56_0_1 main_v137
  let main_v148 : FVec F S56x56 .f32 := Host.divf main_v146 main_v147
  let main_v149 : FVec F S56x56 .f32 := subf main_v136 main_v148
  let main_v150 : FVec F S1x1 .f32 := (extractStridedSlice S1x1 ![11, 11] · slices_S56x56_S1x1_11_11) main_v149
  let main_cst_21 : FVec F S_ .f32 := constant S_ .f32 0x00000000#32
  let main_v151 : FVec F S1x1 .f32 := broadcastInDim S1x1 ![] bcast_S_S1x1 main_cst_21
  let main_v152 : IVec S1x1 1 := cmpf .ogt main_v150 main_v151
  let main_c_22 : IVec S_ 1 := constantI S_ 1 1#1
  let main_v153 : IVec S_ 1 := (fun x v => Host.reduce IntOp.andi x v reducesTo_S1x1_S_d0_1 h_S_) main_v152 main_c_22
  let main_v154 : IVec S_ 1 := andi main_v141 main_v153
  let main_v155 : FVec F S56x1 .f32 := (extractStridedSlice S56x1 ![0, 11] · slices_S56x56_S56x1_0_11) main_v149
  let main_v156 : FVec F S1x56 .f32 := (extractStridedSlice S1x56 ![11, 0] · slices_S56x56_S1x56_11_0) main_v149
  let main_v157 : FVec F S56x56 .f32 := broadcastInDim S56x56 ![0, 1] bcast_S56x1_S56x56_0_1 main_v155
  let main_v158 : FVec F S56x56 .f32 := broadcastInDim S56x56 ![0, 1] bcast_S1x56_S56x56_0_1 main_v156
  let main_v159 : FVec F S56x56 .f32 := mulf main_v157 main_v158
  let main_v160 : FVec F S56x56 .f32 := broadcastInDim S56x56 ![0, 1] bcast_S1x1_S56x56_0_1 main_v150
  let main_v161 : FVec F S56x56 .f32 := Host.divf main_v159 main_v160
  let main_v162 : FVec F S56x56 .f32 := subf main_v149 main_v161
  let main_v163 : FVec F S1x1 .f32 := (extractStridedSlice S1x1 ![12, 12] · slices_S56x56_S1x1_12_12) main_v162
  let main_cst_23 : FVec F S_ .f32 := constant S_ .f32 0x00000000#32
  let main_v164 : FVec F S1x1 .f32 := broadcastInDim S1x1 ![] bcast_S_S1x1 main_cst_23
  let main_v165 : IVec S1x1 1 := cmpf .ogt main_v163 main_v164
  fn_part8 (F := F) main_v154 main_v162 main_v163 main_v165

def fn_part6 {F : FTy → Type} [FloatOps F] (main_v115 : IVec S_ 1) (main_v123 : FVec F S56x56 .f32) (main_v124 : FVec F S1x1 .f32) : IVec S_ 1 :=
  let main_cst_17 : FVec F S_ .f32 := constant S_ .f32 0x00000000#32
  let main_v125 : FVec F S1x1 .f32 := broadcastInDim S1x1 ![] bcast_S_S1x1 main_cst_17
  let main_v126 : IVec S1x1 1 := cmpf .ogt main_v124 main_v125
  let main_c_18 : IVec S_ 1 := constantI S_ 1 1#1
  let main_v127 : IVec S_ 1 := (fun x v => Host.reduce IntOp.andi x v reducesTo_S1x1_S_d0_1 h_S_) main_v126 main_c_18
  let main_v128 : IVec S_ 1 := andi main_v115 main_v127
  let main_v129 : FVec F S56x1 .f32 := (extractStridedSlice S56x1 ![0, 9] · slices_S56x56_S56x1_0_9) main_v123
  let main_v130 : FVec F S1x56 .f32 := (extractStridedSlice S1x56 ![9, 0] · slices_S56x56_S1x56_9_0) main_v123
  let main_v131 : FVec F S56x56 .f32 := broadcastInDim S56x56 ![0, 1] bcast_S56x1_S56x56_0_1 main_v129
  let main_v132 : FVec F S56x56 .f32 := broadcastInDim S56x56 ![0, 1] bcast_S1x56_S56x56_0_1 main_v130
  let main_v133 : FVec F S56x56 .f32 := mulf main_v131 main_v132
  let main_v134 : FVec F S56x56 .f32 := broadcastInDim S56x56 ![0, 1] bcast_S1x1_S56x56_0_1 main_v124
  let main_v135 : FVec F S56x56 .f32 := Host.divf main_v133 main_v134
  let main_v136 : FVec F S56x56 .f32 := subf main_v123 main_v135
  let main_v137 : FVec F S1x1 .f32 := (extractStridedSlice S1x1 ![10, 10] · slices_S56x56_S1x1_10_10) main_v136
  let main_cst_19 : FVec F S_ .f32 := constant S_ .f32 0x00000000#32
  let main_v138 : FVec F S1x1 .f32 := broadcastInDim S1x1 ![] bcast_S_S1x1 main_cst_19
  let main_v139 : IVec S1x1 1 := cmpf .ogt main_v137 main_v138
  let main_c_20 : IVec S_ 1 := constantI S_ 1 1#1
  let main_v140 : IVec S_ 1 := (fun x v => Host.reduce IntOp.andi x v reducesTo_S1x1_S_d0_1 h_S_) main_v139 main_c_20
  let main_v141 : IVec S_ 1 := andi main_v128 main_v140
  let main_v142 : FVec F S56x1 .f32 := (extractStridedSlice S56x1 ![0, 10] · slices_S56x56_S56x1_0_10) main_v136
  let main_v143 : FVec F S1x56 .f32 := (extractStridedSlice S1x56 ![10, 0] · slices_S56x56_S1x56_10_0) main_v136
  let main_v144 : FVec F S56x56 .f32 := broadcastInDim S56x56 ![0, 1] bcast_S56x1_S56x56_0_1 main_v142
  fn_part7 (F := F) main_v136 main_v137 main_v141 main_v143 main_v144

def fn_part5 {F : FTy → Type} [FloatOps F] (main_v97 : FVec F S56x56 .f32) (main_v98 : FVec F S1x1 .f32) (main_v102 : IVec S_ 1) : IVec S_ 1 :=
  let main_v103 : FVec F S56x1 .f32 := (extractStridedSlice S56x1 ![0, 7] · slices_S56x56_S56x1_0_7) main_v97
  let main_v104 : FVec F S1x56 .f32 := (extractStridedSlice S1x56 ![7, 0] · slices_S56x56_S1x56_7_0) main_v97
  let main_v105 : FVec F S56x56 .f32 := broadcastInDim S56x56 ![0, 1] bcast_S56x1_S56x56_0_1 main_v103
  let main_v106 : FVec F S56x56 .f32 := broadcastInDim S56x56 ![0, 1] bcast_S1x56_S56x56_0_1 main_v104
  let main_v107 : FVec F S56x56 .f32 := mulf main_v105 main_v106
  let main_v108 : FVec F S56x56 .f32 := broadcastInDim S56x56 ![0, 1] bcast_S1x1_S56x56_0_1 main_v98
  let main_v109 : FVec F S56x56 .f32 := Host.divf main_v107 main_v108
  let main_v110 : FVec F S56x56 .f32 := subf main_v97 main_v109
  let main_v111 : FVec F S1x1 .f32 := (extractStridedSlice S1x1 ![8, 8] · slices_S56x56_S1x1_8_8) main_v110
  let main_cst_15 : FVec F S_ .f32 := constant S_ .f32 0x00000000#32
  let main_v112 : FVec F S1x1 .f32 := broadcastInDim S1x1 ![] bcast_S_S1x1 main_cst_15
  let main_v113 : IVec S1x1 1 := cmpf .ogt main_v111 main_v112
  let main_c_16 : IVec S_ 1 := constantI S_ 1 1#1
  let main_v114 : IVec S_ 1 := (fun x v => Host.reduce IntOp.andi x v reducesTo_S1x1_S_d0_1 h_S_) main_v113 main_c_16
  let main_v115 : IVec S_ 1 := andi main_v102 main_v114
  let main_v116 : FVec F S56x1 .f32 := (extractStridedSlice S56x1 ![0, 8] · slices_S56x56_S56x1_0_8) main_v110
  let main_v117 : FVec F S1x56 .f32 := (extractStridedSlice S1x56 ![8, 0] · slices_S56x56_S1x56_8_0) main_v110
  let main_v118 : FVec F S56x56 .f32 := broadcastInDim S56x56 ![0, 1] bcast_S56x1_S56x56_0_1 main_v116
  let main_v119 : FVec F S56x56 .f32 := broadcastInDim S56x56 ![0, 1] bcast_S1x56_S56x56_0_1 main_v117
  let main_v120 : FVec F S56x56 .f32 := mulf main_v118 main_v119
  let main_v121 : FVec F S56x56 .f32 := broadcastInDim S56x56 ![0, 1] bcast_S1x1_S56x56_0_1 main_v111
  let main_v122 : FVec F S56x56 .f32 := Host.divf main_v120 main_v121
  let main_v123 : FVec F S56x56 .f32 := subf main_v110 main_v122
  let main_v124 : FVec F S1x1 .f32 := (extractStridedSlice S1x1 ![9, 9] · slices_S56x56_S1x1_9_9) main_v123
  fn_part6 (F := F) main_v115 main_v123 main_v124

def fn_part4 {F : FTy → Type} [FloatOps F] (main_v71 : FVec F S56x56 .f32) (main_v76 : IVec S_ 1) (main_v81 : FVec F S56x56 .f32) (main_v82 : FVec F S56x56 .f32) : IVec S_ 1 :=
  let main_v83 : FVec F S56x56 .f32 := Host.divf main_v81 main_v82
  let main_v84 : FVec F S56x56 .f32 := subf main_v71 main_v83
  let main_v85 : FVec F S1x1 .f32 := (extractStridedSlice S1x1 ![6, 6] · slices_S56x56_S1x1_6_6) main_v84
  let main_cst_11 : FVec F S_ .f32 := constant S_ .f32 0x00000000#32
  let main_v86 : FVec F S1x1 .f32 := broadcastInDim S1x1 ![] bcast_S_S1x1 main_cst_11
  let main_v87 : IVec S1x1 1 := cmpf .ogt main_v85 main_v86
  let main_c_12 : IVec S_ 1 := constantI S_ 1 1#1
  let main_v88 : IVec S_ 1 := (fun x v => Host.reduce IntOp.andi x v reducesTo_S1x1_S_d0_1 h_S_) main_v87 main_c_12
  let main_v89 : IVec S_ 1 := andi main_v76 main_v88
  let main_v90 : FVec F S56x1 .f32 := (extractStridedSlice S56x1 ![0, 6] · slices_S56x56_S56x1_0_6) main_v84
  let main_v91 : FVec F S1x56 .f32 := (extractStridedSlice S1x56 ![6, 0] · slices_S56x56_S1x56_6_0) main_v84
  let main_v92 : FVec F S56x56 .f32 := broadcastInDim S56x56 ![0, 1] bcast_S56x1_S56x56_0_1 main_v90
  let main_v93 : FVec F S56x56 .f32 := broadcastInDim S56x56 ![0, 1] bcast_S1x56_S56x56_0_1 main_v91
  let main_v94 : FVec F S56x56 .f32 := mulf main_v92 main_v93
  let main_v95 : FVec F S56x56 .f32 := broadcastInDim S56x56 ![0, 1] bcast_S1x1_S56x56_0_1 main_v85
  let main_v96 : FVec F S56x56 .f32 := Host.divf main_v94 main_v95
  let main_v97 : FVec F S56x56 .f32 := subf main_v84 main_v96
  let main_v98 : FVec F S1x1 .f32 := (extractStridedSlice S1x1 ![7, 7] · slices_S56x56_S1x1_7_7) main_v97
  let main_cst_13 : FVec F S_ .f32 := constant S_ .f32 0x00000000#32
  let main_v99 : FVec F S1x1 .f32 := broadcastInDim S1x1 ![] bcast_S_S1x1 main_cst_13
  let main_v100 : IVec S1x1 1 := cmpf .ogt main_v98 main_v99
  let main_c_14 : IVec S_ 1 := constantI S_ 1 1#1
  let main_v101 : IVec S_ 1 := (fun x v => Host.reduce IntOp.andi x v reducesTo_S1x1_S_d0_1 h_S_) main_v100 main_c_14
  let main_v102 : IVec S_ 1 := andi main_v89 main_v101
  fn_part5 (F := F) main_v97 main_v98 main_v102

def fn_part3 {F : FTy → Type} [FloatOps F] (main_v50 : IVec S_ 1) (main_v58 : FVec F S56x56 .f32) (main_v59 : FVec F S1x1 .f32) (main_v61 : IVec S1x1 1) : IVec S_ 1 :=
  let main_c_8 : IVec S_ 1 := constantI S_ 1 1#1
  let main_v62 : IVec S_ 1 := (fun x v => Host.reduce IntOp.andi x v reducesTo_S1x1_S_d0_1 h_S_) main_v61 main_c_8
  let main_v63 : IVec S_ 1 := andi main_v50 main_v62
  let main_v64 : FVec F S56x1 .f32 := (extractStridedSlice S56x1 ![0, 4] · slices_S56x56_S56x1_0_4) main_v58
  let main_v65 : FVec F S1x56 .f32 := (extractStridedSlice S1x56 ![4, 0] · slices_S56x56_S1x56_4_0) main_v58
  let main_v66 : FVec F S56x56 .f32 := broadcastInDim S56x56 ![0, 1] bcast_S56x1_S56x56_0_1 main_v64
  let main_v67 : FVec F S56x56 .f32 := broadcastInDim S56x56 ![0, 1] bcast_S1x56_S56x56_0_1 main_v65
  let main_v68 : FVec F S56x56 .f32 := mulf main_v66 main_v67
  let main_v69 : FVec F S56x56 .f32 := broadcastInDim S56x56 ![0, 1] bcast_S1x1_S56x56_0_1 main_v59
  let main_v70 : FVec F S56x56 .f32 := Host.divf main_v68 main_v69
  let main_v71 : FVec F S56x56 .f32 := subf main_v58 main_v70
  let main_v72 : FVec F S1x1 .f32 := (extractStridedSlice S1x1 ![5, 5] · slices_S56x56_S1x1_5_5) main_v71
  let main_cst_9 : FVec F S_ .f32 := constant S_ .f32 0x00000000#32
  let main_v73 : FVec F S1x1 .f32 := broadcastInDim S1x1 ![] bcast_S_S1x1 main_cst_9
  let main_v74 : IVec S1x1 1 := cmpf .ogt main_v72 main_v73
  let main_c_10 : IVec S_ 1 := constantI S_ 1 1#1
  let main_v75 : IVec S_ 1 := (fun x v => Host.reduce IntOp.andi x v reducesTo_S1x1_S_d0_1 h_S_) main_v74 main_c_10
  let main_v76 : IVec S_ 1 := andi main_v63 main_v75
  let main_v77 : FVec F S56x1 .f32 := (extractStridedSlice S56x1 ![0, 5] · slices_S56x56_S56x1_0_5) main_v71
  let main_v78 : FVec F S1x56 .f32 := (extractStridedSlice S1x56 ![5, 0] · slices_S56x56_S1x56_5_0) main_v71
  let main_v79 : FVec F S56x56 .f32 := broadcastInDim S56x56 ![0, 1] bcast_S56x1_S56x56_0_1 main_v77
  let main_v80 : FVec F S56x56 .f32 := broadcastInDim S56x56 ![0, 1] bcast_S1x56_S56x56_0_1 main_v78
  let main_v81 : FVec F S56x56 .f32 := mulf main_v79 main_v80
  let main_v82 : FVec F S56x56 .f32 := broadcastInDim S56x56 ![0, 1] bcast_S1x1_S56x56_0_1 main_v72
  fn_part4 (F := F) main_v71 main_v76 main_v81 main_v82

def fn_part2 {F : FTy → Type} [FloatOps F] (main_v32 : FVec F S56x56 .f32) (main_v33 : FVec F S1x1 .f32) (main_v37 : IVec S_ 1) (main_v39 : FVec F S1x56 .f32) (main_v40 : FVec F S56x56 .f32) : IVec S_ 1 :=
  let main_v41 : FVec F S56x56 .f32 := broadcastInDim S56x56 ![0, 1] bcast_S1x56_S56x56_0_1 main_v39
  let main_v42 : FVec F S56x56 .f32 := mulf main_v40 main_v41
  let main_v43 : FVec F S56x56 .f32 := broadcastInDim S56x56 ![0, 1] bcast_S1x1_S56x56_0_1 main_v33
  let main_v44 : FVec F S56x56 .f32 := Host.divf main_v42 main_v43
  let main_v45 : FVec F S56x56 .f32 := subf main_v32 main_v44
  let main_v46 : FVec F S1x1 .f32 := (extractStridedSlice S1x1 ![3, 3] · slices_S56x56_S1x1_3_3) main_v45
  let main_cst_5 : FVec F S_ .f32 := constant S_ .f32 0x00000000#32
  let main_v47 : FVec F S1x1 .f32 := broadcastInDim S1x1 ![] bcast_S_S1x1 main_cst_5
  let main_v48 : IVec S1x1 1 := cmpf .ogt main_v46 main_v47
  let main_c_6 : IVec S_ 1 := constantI S_ 1 1#1
  let main_v49 : IVec S_ 1 := (fun x v => Host.reduce IntOp.andi x v reducesTo_S1x1_S_d0_1 h_S_) main_v48 main_c_6
  let main_v50 : IVec S_ 1 := andi main_v37 main_v49
  let main_v51 : FVec F S56x1 .f32 := (extractStridedSlice S56x1 ![0, 3] · slices_S56x56_S56x1_0_3) main_v45
  let main_v52 : FVec F S1x56 .f32 := (extractStridedSlice S1x56 ![3, 0] · slices_S56x56_S1x56_3_0) main_v45
  let main_v53 : FVec F S56x56 .f32 := broadcastInDim S56x56 ![0, 1] bcast_S56x1_S56x56_0_1 main_v51
  let main_v54 : FVec F S56x56 .f32 := broadcastInDim S56x56 ![0, 1] bcast_S1x56_S56x56_0_1 main_v52
  let main_v55 : FVec F S56x56 .f32 := mulf main_v53 main_v54
  let main_v56 : FVec F S56x56 .f32 := broadcastInDim S56x56 ![0, 1] bcast_S1x1_S56x56_0_1 main_v46
  let main_v57 : FVec F S56x56 .f32 := Host.divf main_v55 main_v56
  let main_v58 : FVec F S56x56 .f32 := subf main_v45 main_v57
  let main_v59 : FVec F S1x1 .f32 := (extractStridedSlice S1x1 ![4, 4] · slices_S56x56_S1x1_4_4) main_v58
  let main_cst_7 : FVec F S_ .f32 := constant S_ .f32 0x00000000#32
  let main_v60 : FVec F S1x1 .f32 := broadcastInDim S1x1 ![] bcast_S_S1x1 main_cst_7
  let main_v61 : IVec S1x1 1 := cmpf .ogt main_v59 main_v60
  fn_part3 (F := F) main_v50 main_v58 main_v59 main_v61

def fn_part1 {F : FTy → Type} [FloatOps F] (main_v11 : IVec S_ 1) (main_v19 : FVec F S56x56 .f32) (main_v20 : FVec F S1x1 .f32) : IVec S_ 1 :=
  let main_cst_1 : FVec F S_ .f32 := constant S_ .f32 0x00000000#32
  let main_v21 : FVec F S1x1 .f32 := broadcastInDim S1x1 ![] bcast_S_S1x1 main_cst_1
  let main_v22 : IVec S1x1 1 := cmpf .ogt main_v20 main_v21
  let main_c_2 : IVec S_ 1 := constantI S_ 1 1#1
  let main_v23 : IVec S_ 1 := (fun x v => Host.reduce IntOp.andi x v reducesTo_S1x1_S_d0_1 h_S_) main_v22 main_c_2
  let main_v24 : IVec S_ 1 := andi main_v11 main_v23
  let main_v25 : FVec F S56x1 .f32 := (extractStridedSlice S56x1 ![0, 1] · slices_S56x56_S56x1_0_1) main_v19
  let main_v26 : FVec F S1x56 .f32 := (extractStridedSlice S1x56 ![1, 0] · slices_S56x56_S1x56_1_0) main_v19
  let main_v27 : FVec F S56x56 .f32 := broadcastInDim S56x56 ![0, 1] bcast_S56x1_S56x56_0_1 main_v25
  let main_v28 : FVec F S56x56 .f32 := broadcastInDim S56x56 ![0, 1] bcast_S1x56_S56x56_0_1 main_v26
  let main_v29 : FVec F S56x56 .f32 := mulf main_v27 main_v28
  let main_v30 : FVec F S56x56 .f32 := broadcastInDim S56x56 ![0, 1] bcast_S1x1_S56x56_0_1 main_v20
  let main_v31 : FVec F S56x56 .f32 := Host.divf main_v29 main_v30
  let main_v32 : FVec F S56x56 .f32 := subf main_v19 main_v31
  let main_v33 : FVec F S1x1 .f32 := (extractStridedSlice S1x1 ![2, 2] · slices_S56x56_S1x1_2_2) main_v32
  let main_cst_3 : FVec F S_ .f32 := constant S_ .f32 0x00000000#32
  let main_v34 : FVec F S1x1 .f32 := broadcastInDim S1x1 ![] bcast_S_S1x1 main_cst_3
  let main_v35 : IVec S1x1 1 := cmpf .ogt main_v33 main_v34
  let main_c_4 : IVec S_ 1 := constantI S_ 1 1#1
  let main_v36 : IVec S_ 1 := (fun x v => Host.reduce IntOp.andi x v reducesTo_S1x1_S_d0_1 h_S_) main_v35 main_c_4
  let main_v37 : IVec S_ 1 := andi main_v24 main_v36
  let main_v38 : FVec F S56x1 .f32 := (extractStridedSlice S56x1 ![0, 2] · slices_S56x56_S56x1_0_2) main_v32
  let main_v39 : FVec F S1x56 .f32 := (extractStridedSlice S1x56 ![2, 0] · slices_S56x56_S1x56_2_0) main_v32
  let main_v40 : FVec F S56x56 .f32 := broadcastInDim S56x56 ![0, 1] bcast_S56x1_S56x56_0_1 main_v38
  fn_part2 (F := F) main_v32 main_v33 main_v37 main_v39 main_v40

def fn {F : FTy → Type} [FloatOps F] (main_arg0 : IVec S1x704x524288 8) (main_arg1 : FVec F S1x524288 .f32) (main_arg2 : FVec F S704x56 .bf16) : IVec S_ 1 :=
  let main_v0 : IVec S704x524288 8 := shapeCast S704x524288 main_arg0 shapeCasts_S1x704x524288_S704x524288
  let main_v1 : IVec S704x524288 32 := (extsi 32 · natLt_8_32) main_v0
  let main_v2 : FVec F S704x524288 .bf16 := sitofp .bf16 main_v1
  let main_v3 : FVec F S56x524288 .f32 := (fun l r => Host.dotGeneral dot_S704x56_S704x524288_S56x524288_0_0_1_1_n_n none l r) main_arg2 main_v2
  let main_v4 : FVec F S56x524288 .f32 := broadcastInDim S56x524288 ![0, 1] bcast_S1x524288_S56x524288_0_1 main_arg1
  let main_v5 : FVec F S56x524288 .f32 := mulf main_v3 main_v4
  let main_v6 : FVec F S56x56 .f32 := (fun l r => Host.dotGeneral dot_S56x524288_S56x524288_S56x56_1_1_0_0_n_n (some .fp32) l r) main_v5 main_v5
  let main_v7 : FVec F S1x1 .f32 := (extractStridedSlice S1x1 ![0, 0] · slices_S56x56_S1x1_0_0) main_v6
  let main_cst : FVec F S_ .f32 := constant S_ .f32 0x00000000#32
  let main_v8 : FVec F S1x1 .f32 := broadcastInDim S1x1 ![] bcast_S_S1x1 main_cst
  let main_v9 : IVec S1x1 1 := cmpf .ogt main_v7 main_v8
  let main_c : IVec S_ 1 := constantI S_ 1 1#1
  let main_v10 : IVec S_ 1 := (fun x v => Host.reduce IntOp.andi x v reducesTo_S1x1_S_d0_1 h_S_) main_v9 main_c
  let main_c_0 : IVec S_ 1 := constantI S_ 1 1#1
  let main_v11 : IVec S_ 1 := andi main_c_0 main_v10
  let main_v12 : FVec F S56x1 .f32 := (extractStridedSlice S56x1 ![0, 0] · slices_S56x56_S56x1_0_0) main_v6
  let main_v13 : FVec F S1x56 .f32 := (extractStridedSlice S1x56 ![0, 0] · slices_S56x56_S1x56_0_0) main_v6
  let main_v14 : FVec F S56x56 .f32 := broadcastInDim S56x56 ![0, 1] bcast_S56x1_S56x56_0_1 main_v12
  let main_v15 : FVec F S56x56 .f32 := broadcastInDim S56x56 ![0, 1] bcast_S1x56_S56x56_0_1 main_v13
  let main_v16 : FVec F S56x56 .f32 := mulf main_v14 main_v15
  let main_v17 : FVec F S56x56 .f32 := broadcastInDim S56x56 ![0, 1] bcast_S1x1_S56x56_0_1 main_v7
  let main_v18 : FVec F S56x56 .f32 := Host.divf main_v16 main_v17
  let main_v19 : FVec F S56x56 .f32 := subf main_v6 main_v18
  let main_v20 : FVec F S1x1 .f32 := (extractStridedSlice S1x1 ![1, 1] · slices_S56x56_S1x1_1_1) main_v19
  fn_part1 (F := F) main_v11 main_v19 main_v20
-- ==== Forward.lean ====
abbrev S1x704x524288 : Shape := ⟨3, ![1, 704, 524288]⟩
abbrev S1x524288 : Shape := ⟨2, ![1, 524288]⟩
abbrev S704x56 : Shape := ⟨2, ![704, 56]⟩
abbrev S704x524288 : Shape := ⟨2, ![704, 524288]⟩
abbrev S56x704 : Shape := ⟨2, ![56, 704]⟩
abbrev S56x524288 : Shape := ⟨2, ![56, 524288]⟩
abbrev S168x168 : Shape := ⟨2, ![168, 168]⟩
abbrev S704x8192 : Shape := ⟨2, ![704, 8192]⟩
abbrev S1x8192 : Shape := ⟨2, ![1, 8192]⟩
abbrev S56x8192 : Shape := ⟨2, ![56, 8192]⟩
abbrev S168x112 : Shape := ⟨2, ![168, 112]⟩
abbrev S704x512 : Shape := ⟨2, ![704, 512]⟩
abbrev S56x512 : Shape := ⟨2, ![56, 512]⟩
abbrev S1x512 : Shape := ⟨2, ![1, 512]⟩
abbrev S168x512 : Shape := ⟨2, ![168, 512]⟩
abbrev S112x512 : Shape := ⟨2, ![112, 512]⟩
abbrev S56x56 : Shape := ⟨2, ![56, 56]⟩
abbrev S56x1 : Shape := ⟨2, ![56, 1]⟩
abbrev S56 : Shape := ⟨1, ![56]⟩
abbrev S1x1 : Shape := ⟨2, ![1, 1]⟩
abbrev S1x56 : Shape := ⟨2, ![1, 56]⟩
abbrev S56x168 : Shape := ⟨2, ![56, 168]⟩

abbrev nBuf : Space → Nat
  | .hbm => 7
  | .vmem => 9
  | .smem => 0
  | _ => 0

abbrev bufTy : (tb : Table) → Fin (tcTables nBuf tb) → BufTy
  | .hbm, ⟨0, _⟩ => ⟨S1x704x524288, .i8⟩
  | .hbm, ⟨1, _⟩ => ⟨S1x524288, .f32⟩
  | .hbm, ⟨2, _⟩ => ⟨S704x56, .bf16⟩
  | .hbm, ⟨3, _⟩ => ⟨S704x524288, .i8⟩
  | .hbm, ⟨4, _⟩ => ⟨S56x704, .bf16⟩
  | .hbm, ⟨5, _⟩ => ⟨S56x524288, .f32⟩
  | .hbm, ⟨6, _⟩ => ⟨S168x168, .bf16⟩
  | .local _ .vmem, ⟨0, _⟩ => ⟨S704x8192, .i8⟩
  | .local _ .vmem, ⟨1, _⟩ => ⟨S704x8192, .i8⟩
  | .local _ .vmem, ⟨2, _⟩ => ⟨S1x8192, .f32⟩
  | .local _ .vmem, ⟨3, _⟩ => ⟨S1x8192, .f32⟩
  | .local _ .vmem, ⟨4, _⟩ => ⟨S56x704, .bf16⟩
  | .local _ .vmem, ⟨5, _⟩ => ⟨S56x8192, .f32⟩
  | .local _ .vmem, ⟨6, _⟩ => ⟨S56x8192, .f32⟩
  | .local _ .vmem, ⟨7, _⟩ => ⟨S168x168, .bf16⟩
  | .local _ .vmem, ⟨8, _⟩ => ⟨S168x112, .f32⟩
  | _, _ => ⟨S1x704x524288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [BitOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v377 : BitVec 1 := Scalar.cmpi .eq arg0 c63_i32
  let v378 : BitVec 32 := Scalar.extui v377
  let c0_i32_149 : BitVec 32 := 0#32
  let v379 : BitVec 1 := Scalar.cmpi .ne v378 c0_i32_149
  v379

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S56x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S168x168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ForwardIdeal.lean ====
variable {F : FTy → Type} [FloatOps F]
-- ==== Factor.lean ====
abbrev S1x704x524288 : Shape := ⟨3, ![1, 704, 524288]⟩
abbrev S1x524288 : Shape := ⟨2, ![1, 524288]⟩
abbrev S704x56 : Shape := ⟨2, ![704, 56]⟩
abbrev S704x524288 : Shape := ⟨2, ![704, 524288]⟩
abbrev S56x704 : Shape := ⟨2, ![56, 704]⟩
abbrev S56x524288 : Shape := ⟨2, ![56, 524288]⟩
abbrev S168x168 : Shape := ⟨2, ![168, 168]⟩
abbrev S704x8192 : Shape := ⟨2, ![704, 8192]⟩
abbrev S1x8192 : Shape := ⟨2, ![1, 8192]⟩
abbrev S56x8192 : Shape := ⟨2, ![56, 8192]⟩
abbrev S168x112 : Shape := ⟨2, ![168, 112]⟩
abbrev S704x512 : Shape := ⟨2, ![704, 512]⟩
abbrev S56x512 : Shape := ⟨2, ![56, 512]⟩
abbrev S1x512 : Shape := ⟨2, ![1, 512]⟩
abbrev S168x512 : Shape := ⟨2, ![168, 512]⟩
abbrev S112x512 : Shape := ⟨2, ![112, 512]⟩
abbrev S56x56 : Shape := ⟨2, ![56, 56]⟩
abbrev S56x1 : Shape := ⟨2, ![56, 1]⟩
abbrev S56 : Shape := ⟨1, ![56]⟩
abbrev S1x1 : Shape := ⟨2, ![1, 1]⟩
abbrev S1x56 : Shape := ⟨2, ![1, 56]⟩
abbrev S56x168 : Shape := ⟨2, ![56, 168]⟩

abbrev nBuf : Space → Nat
  | .hbm => 7
  | .vmem => 9
  | .smem => 0
  | _ => 0

abbrev bufTy : (tb : Table) → Fin (tcTables nBuf tb) → BufTy
  | .hbm, ⟨0, _⟩ => ⟨S1x704x524288, .i8⟩
  | .hbm, ⟨1, _⟩ => ⟨S1x524288, .f32⟩
  | .hbm, ⟨2, _⟩ => ⟨S704x56, .bf16⟩
  | .hbm, ⟨3, _⟩ => ⟨S704x524288, .i8⟩
  | .hbm, ⟨4, _⟩ => ⟨S56x704, .bf16⟩
  | .hbm, ⟨5, _⟩ => ⟨S56x524288, .f32⟩
  | .hbm, ⟨6, _⟩ => ⟨S168x168, .bf16⟩
  | .local _ .vmem, ⟨0, _⟩ => ⟨S704x8192, .i8⟩
  | .local _ .vmem, ⟨1, _⟩ => ⟨S704x8192, .i8⟩
  | .local _ .vmem, ⟨2, _⟩ => ⟨S1x8192, .f32⟩
  | .local _ .vmem, ⟨3, _⟩ => ⟨S1x8192, .f32⟩
  | .local _ .vmem, ⟨4, _⟩ => ⟨S56x704, .bf16⟩
  | .local _ .vmem, ⟨5, _⟩ => ⟨S56x8192, .f32⟩
  | .local _ .vmem, ⟨6, _⟩ => ⟨S56x8192, .f32⟩
  | .local _ .vmem, ⟨7, _⟩ => ⟨S168x168, .bf16⟩
  | .local _ .vmem, ⟨8, _⟩ => ⟨S168x112, .f32⟩
  | _, _ => ⟨S1x704x524288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [BitOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v377 : BitVec 1 := Scalar.cmpi .eq arg0 c63_i32
  let v378 : BitVec 32 := Scalar.extui v377
  let c0_i32_149 : BitVec 32 := 0#32
  let v379 : BitVec 1 := Scalar.cmpi .ne v378 c0_i32_149
  v379

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S56x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S168x168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FactorIdeal.lean ====
variable {F : FTy → Type} [FloatOps F]
-- ==== Backward.lean ====
abbrev S1x704x524288 : Shape := ⟨3, ![1, 704, 524288]⟩
abbrev S1x524288 : Shape := ⟨2, ![1, 524288]⟩
abbrev S56x524288 : Shape := ⟨2, ![56, 524288]⟩
abbrev S168x168 : Shape := ⟨2, ![168, 168]⟩
abbrev S704x524288 : Shape := ⟨2, ![704, 524288]⟩
abbrev S56x704 : Shape := ⟨2, ![56, 704]⟩
abbrev S704x8192 : Shape := ⟨2, ![704, 8192]⟩
abbrev S1x8192 : Shape := ⟨2, ![1, 8192]⟩
abbrev S56x8192 : Shape := ⟨2, ![56, 8192]⟩
abbrev S56x512 : Shape := ⟨2, ![56, 512]⟩
abbrev S168x512 : Shape := ⟨2, ![168, 512]⟩
abbrev S1x512 : Shape := ⟨2, ![1, 512]⟩
abbrev S704x512 : Shape := ⟨2, ![704, 512]⟩

abbrev nBuf : Space → Nat
  | .hbm => 7
  | .vmem => 10
  | .smem => 0
  | _ => 0

abbrev bufTy : (tb : Table) → Fin (tcTables nBuf tb) → BufTy
  | .hbm, ⟨0, _⟩ => ⟨S1x704x524288, .i8⟩
  | .hbm, ⟨1, _⟩ => ⟨S1x524288, .f32⟩
  | .hbm, ⟨2, _⟩ => ⟨S56x524288, .f32⟩
  | .hbm, ⟨3, _⟩ => ⟨S168x168, .bf16⟩
  | .hbm, ⟨4, _⟩ => ⟨S704x524288, .i8⟩
  | .hbm, ⟨5, _⟩ => ⟨S56x524288, .bf16⟩
  | .hbm, ⟨6, _⟩ => ⟨S56x704, .f32⟩
  | .local _ .vmem, ⟨0, _⟩ => ⟨S704x8192, .i8⟩
  | .local _ .vmem, ⟨1, _⟩ => ⟨S704x8192, .i8⟩
  | .local _ .vmem, ⟨2, _⟩ => ⟨S1x8192, .f32⟩
  | .local _ .vmem, ⟨3, _⟩ => ⟨S1x8192, .f32⟩
  | .local _ .vmem, ⟨4, _⟩ => ⟨S56x8192, .f32⟩
  | .local _ .vmem, ⟨5, _⟩ => ⟨S56x8192, .f32⟩
  | .local _ .vmem, ⟨6, _⟩ => ⟨S168x168, .bf16⟩
  | .local _ .vmem, ⟨7, _⟩ => ⟨S56x8192, .bf16⟩
  | .local _ .vmem, ⟨8, _⟩ => ⟨S56x8192, .bf16⟩
  | .local _ .vmem, ⟨9, _⟩ => ⟨S56x704, .f32⟩
  | _, _ => ⟨S1x704x524288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S168x168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S56x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S56x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== BackwardIdeal.lean ====
variable {F : FTy → Type} [FloatOps F]
-- ==== RefForwardIdeal.lean ====
abbrev S1x704x524288 : Shape := ⟨3, ![1, 704, 524288]⟩
abbrev S1x524288 : Shape := ⟨2, ![1, 524288]⟩
abbrev S704x56 : Shape := ⟨2, ![704, 56]⟩
abbrev S704x524288 : Shape := ⟨2, ![704, 524288]⟩
abbrev S56x524288 : Shape := ⟨2, ![56, 524288]⟩

abbrev nBuf : Space → Nat
  | .hbm => 9
  | .vmem => 0
  | .smem => 0
  | _ => 0

abbrev bufTy : (tb : Table) → Fin (tcTables nBuf tb) → BufTy
  | .hbm, ⟨0, _⟩ => ⟨S1x704x524288, .i8⟩
  | .hbm, ⟨1, _⟩ => ⟨S1x524288, .f32⟩
  | .hbm, ⟨2, _⟩ => ⟨S704x56, .bf16⟩
  | .hbm, ⟨3, _⟩ => ⟨S704x524288, .i8⟩
  | .hbm, ⟨4, _⟩ => ⟨S704x524288, .i32⟩
  | .hbm, ⟨5, _⟩ => ⟨S704x524288, .bf16⟩
  | .hbm, ⟨6, _⟩ => ⟨S56x524288, .f32⟩
  | .hbm, ⟨7, _⟩ => ⟨S56x524288, .f32⟩
  | .hbm, ⟨8, _⟩ => ⟨S56x524288, .f32⟩
  | _, _ => ⟨S1x704x524288, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RefFactorIdeal.lean ====
abbrev S1x704x524288 : Shape := ⟨3, ![1, 704, 524288]⟩
abbrev S1x524288 : Shape := ⟨2, ![1, 524288]⟩
abbrev S704x56 : Shape := ⟨2, ![704, 56]⟩
abbrev S56x56 : Shape := ⟨2, ![56, 56]⟩
abbrev S_ : Shape := ⟨0, ![]⟩
abbrev S704x524288 : Shape := ⟨2, ![704, 524288]⟩
abbrev S56x524288 : Shape := ⟨2, ![56, 524288]⟩
abbrev S56x1 : Shape := ⟨2, ![56, 1]⟩
abbrev S1x1 : Shape := ⟨2, ![1, 1]⟩
abbrev S1x56 : Shape := ⟨2, ![1, 56]⟩
abbrev S56x168 : Shape := ⟨2, ![56, 168]⟩
abbrev S168x168 : Shape := ⟨2, ![168, 168]⟩

abbrev nBuf : Space → Nat
  | .hbm => 96
  | .vmem => 0
  | .smem => 0
  | _ => 0

abbrev bufTy : (tb : Table) → Fin (tcTables nBuf tb) → BufTy
  | .hbm, ⟨0, _⟩ => ⟨S1x704x524288, .i8⟩
  | .hbm, ⟨1, _⟩ => ⟨S1x524288, .f32⟩
  | .hbm, ⟨2, _⟩ => ⟨S704x56, .bf16⟩
  | .hbm, ⟨3, _⟩ => ⟨S56x56, .i32⟩
  | .hbm, ⟨4, _⟩ => ⟨S56x56, .i32⟩
  | .hbm, ⟨5, _⟩ => ⟨S_, .i32⟩
  | .hbm, ⟨6, _⟩ => ⟨S56x56, .i32⟩
  | .hbm, ⟨7, _⟩ => ⟨S56x56, .i32⟩
  | .hbm, ⟨8, _⟩ => ⟨S56x56, .i1⟩
  | .hbm, ⟨9, _⟩ => ⟨S56x56, .f32⟩
  | .hbm, ⟨10, _⟩ => ⟨S704x524288, .i8⟩
  | .hbm, ⟨11, _⟩ => ⟨S704x524288, .i32⟩
  | .hbm, ⟨12, _⟩ => ⟨S704x524288, .bf16⟩
  | .hbm, ⟨13, _⟩ => ⟨S56x524288, .f32⟩
  | .hbm, ⟨14, _⟩ => ⟨S56x524288, .f32⟩
  | .hbm, ⟨15, _⟩ => ⟨S56x524288, .f32⟩
  | .hbm, ⟨16, _⟩ => ⟨S56x56, .f32⟩
  | .hbm, ⟨17, _⟩ => ⟨S_, .f32⟩
  | .hbm, ⟨18, _⟩ => ⟨S56x56, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S56x56, .f32⟩
  | .hbm, ⟨24, _⟩ => ⟨S56x56, .f32⟩
  | .hbm, ⟨25, _⟩ => ⟨S56x56, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S56x1, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x1, .f32⟩
  | .hbm, ⟨51, _⟩ => ⟨S1x1, .f32⟩
  | .hbm, ⟨52, _⟩ => ⟨S56x1, .f32⟩
  | .hbm, ⟨53, _⟩ => ⟨S56x1, .f32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x56, .f32⟩
  | .hbm, ⟨62, _⟩ => ⟨S1x56, .f32⟩
  | .hbm, ⟨63, _⟩ => ⟨S1x56, .f32⟩
  | .hbm, ⟨64, _⟩ => ⟨S1x56, .f32⟩
  | .hbm, ⟨65, _⟩ => ⟨S56x56, .f32⟩
  | .hbm, ⟨66, _⟩ => ⟨S56x56, .f32⟩
  | .hbm, ⟨67, _⟩ => ⟨S56x56, .f32⟩
  | .hbm, ⟨68, _⟩ => ⟨S56x56, .f32⟩
  | .hbm, ⟨69, _⟩ => ⟨S56x56, .f32⟩
  | .hbm, ⟨70, _⟩ => ⟨S56x56, .f32⟩
  | .hbm, ⟨71, _⟩ => ⟨S56x56, .f32⟩
  | .hbm, ⟨72, _⟩ => ⟨S56x56, .f32⟩
  | .hbm, ⟨73, _⟩ => ⟨S56x56, .i32⟩
  | .hbm, ⟨74, _⟩ => ⟨S_, .i32⟩
  | .hbm, ⟨75, _⟩ => ⟨S56x56, .i32⟩
  | .hbm, ⟨76, _⟩ => ⟨S56x56, .i1⟩
  | .hbm, ⟨77, _⟩ => ⟨S56x56, .f32⟩
  | .hbm, ⟨78, _⟩ => ⟨S56x56, .f32⟩
  | .hbm, ⟨79, _⟩ => ⟨S_, .i32⟩
  | .hbm, ⟨80, _⟩ => ⟨S_, .i32⟩
  | .hbm, ⟨81, _⟩ => ⟨S56x56, .bf16⟩
  | .hbm, ⟨82, _⟩ => ⟨S56x56, .f32⟩
  | .hbm, ⟨83, _⟩ => ⟨S56x56, .f32⟩
  | .hbm, ⟨84, _⟩ => ⟨S56x56, .bf16⟩
  | .hbm, ⟨85, _⟩ => ⟨S56x56, .f32⟩
  | .hbm, ⟨86, _⟩ => ⟨S56x56, .f32⟩
  | .hbm, ⟨87, _⟩ => ⟨S56x56, .f32⟩
  | .hbm, ⟨88, _⟩ => ⟨S56x56, .f32⟩
  | .hbm, ⟨89, _⟩ => ⟨S56x56, .bf16⟩
  | .hbm, ⟨90, _⟩ => ⟨S_, .bf16⟩
  | .hbm, ⟨91, _⟩ => ⟨S56x56, .bf16⟩
  | .hbm, ⟨92, _⟩ => ⟨S56x168, .bf16⟩
  | .hbm, ⟨93, _⟩ => ⟨S56x168, .bf16⟩
  | .hbm, ⟨94, _⟩ => ⟨S56x168, .bf16⟩
  | .hbm, ⟨95, _⟩ => ⟨S168x168, .bf16⟩
  | _, _ => ⟨S1x704x524288, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_c_0 : Ref sig .tc := ⟨.hbm, 19, rfl⟩
abbrev main_c_1 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_while0c_c_7 : Ref sig .tc := ⟨.hbm, 26, rfl⟩
abbrev main_while0c_v29 : Ref sig .tc := ⟨.hbm, 27, rfl⟩
abbrev main_while0b_c_7 : Ref sig .tc := ⟨.hbm, 28, rfl⟩
abbrev main_while0b_v29 : Ref sig .tc := ⟨.hbm, 29, rfl⟩
abbrev main_while0b_c_8 : Ref sig .tc := ⟨.hbm, 30, rfl⟩
abbrev main_while0b_v30 : Ref sig .tc := ⟨.hbm, 31, rfl⟩
abbrev main_while0b_v31 : Ref sig .tc := ⟨.hbm, 32, rfl⟩
abbrev main_while0b_c_9 : Ref sig .tc := ⟨.hbm, 33, rfl⟩
abbrev main_while0b_v32 : Ref sig .tc := ⟨.hbm, 34, rfl⟩
abbrev main_while0b_v33 : Ref sig .tc := ⟨.hbm, 35, rfl⟩
abbrev main_while0b_c_10 : Ref sig .tc := ⟨.hbm, 36, rfl⟩
abbrev main_while0b_v34 : Ref sig .tc := ⟨.hbm, 37, rfl⟩
abbrev main_while0b_c_11 : Ref sig .tc := ⟨.hbm, 38, rfl⟩
abbrev main_while0b_v35 : Ref sig .tc := ⟨.hbm, 39, rfl⟩
abbrev main_while0b_v36 : Ref sig .tc := ⟨.hbm, 40, rfl⟩
abbrev main_while0b_c_12 : Ref sig .tc := ⟨.hbm, 41, rfl⟩
abbrev main_while0b_v37 : Ref sig .tc := ⟨.hbm, 42, rfl⟩
abbrev main_while0b_v38 : Ref sig .tc := ⟨.hbm, 43, rfl⟩
abbrev main_while0b_c_13 : Ref sig .tc := ⟨.hbm, 44, rfl⟩
abbrev main_while0b_v39 : Ref sig .tc := ⟨.hbm, 45, rfl⟩
abbrev main_while0b_v40 : Ref sig .tc := ⟨.hbm, 46, rfl⟩
abbrev main_while0b_c_14 : Ref sig .tc := ⟨.hbm, 47, rfl⟩
abbrev main_while0b_v41 : Ref sig .tc := ⟨.hbm, 48, rfl⟩
abbrev main_while0b_v42 : Ref sig .tc := ⟨.hbm, 49, rfl⟩
abbrev main_while0b_v43 : Ref sig .tc := ⟨.hbm, 50, rfl⟩
abbrev main_while0b_v44 : Ref sig .tc := ⟨.hbm, 51, rfl⟩
abbrev main_while0b_v45 : Ref sig .tc := ⟨.hbm, 52, rfl⟩
abbrev main_while0b_v46 : Ref sig .tc := ⟨.hbm, 53, rfl⟩
abbrev main_while0b_c_15 : Ref sig .tc := ⟨.hbm, 54, rfl⟩
abbrev main_while0b_v47 : Ref sig .tc := ⟨.hbm, 55, rfl⟩
abbrev main_while0b_v48 : Ref sig .tc := ⟨.hbm, 56, rfl⟩
abbrev main_while0b_c_16 : Ref sig .tc := ⟨.hbm, 57, rfl⟩
abbrev main_while0b_v49 : Ref sig .tc := ⟨.hbm, 58, rfl⟩
abbrev main_while0b_v50 : Ref sig .tc := ⟨.hbm, 59, rfl⟩
abbrev main_while0b_c_17 : Ref sig .tc := ⟨.hbm, 60, rfl⟩
abbrev main_while0b_v51 : Ref sig .tc := ⟨.hbm, 61, rfl⟩
abbrev main_while0b_v52 : Ref sig .tc := ⟨.hbm, 62, rfl⟩
abbrev main_while0b_v53 : Ref sig .tc := ⟨.hbm, 63, rfl⟩
abbrev main_while0b_v54 : Ref sig .tc := ⟨.hbm, 64, rfl⟩
abbrev main_while0b_v55 : Ref sig .tc := ⟨.hbm, 65, rfl⟩
abbrev main_while0b_v56 : Ref sig .tc := ⟨.hbm, 66, rfl⟩
abbrev main_while0b_v57 : Ref sig .tc := ⟨.hbm, 67, rfl⟩
abbrev main_while0b_v58 : Ref sig .tc := ⟨.hbm, 68, rfl⟩
abbrev main_while0b_v59 : Ref sig .tc := ⟨.hbm, 69, rfl⟩
abbrev main_while0b_v60 : Ref sig .tc := ⟨.hbm, 70, rfl⟩
abbrev main_while0b_v61 : Ref sig .tc := ⟨.hbm, 71, rfl⟩
abbrev main_while0b_v62 : Ref sig .tc := ⟨.hbm, 72, rfl⟩
abbrev main_while0b_v63 : Ref sig .tc := ⟨.hbm, 73, rfl⟩
abbrev main_while0b_v64 : Ref sig .tc := ⟨.hbm, 74, rfl⟩
abbrev main_while0b_v65 : Ref sig .tc := ⟨.hbm, 75, rfl⟩
abbrev main_while0b_v66 : Ref sig .tc := ⟨.hbm, 76, rfl⟩
abbrev main_while0b_call0_v0 : Ref sig .tc := ⟨.hbm, 77, rfl⟩
abbrev main_while0b_v67 : Ref sig .tc := ⟨.hbm, 78, rfl⟩
abbrev main_while0b_c_18 : Ref sig .tc := ⟨.hbm, 79, rfl⟩
abbrev main_while0b_v68 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_cst_2 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩

abbrev nD : Nat := 1
abbrev τ : Topo := Topo.v7x

variable {F : FTy → Type} [FloatOps F]

abbrev main_while0_count : Scf.Loop 32 := ⟨0#32, 56#32, 1#32⟩
-- ==== RefBackwardIdeal.lean ====
abbrev S1x704x524288 : Shape := ⟨3, ![1, 704, 524288]⟩
abbrev S1x524288 : Shape := ⟨2, ![1, 524288]⟩
abbrev S56x524288 : Shape := ⟨2, ![56, 524288]⟩
abbrev S168x168 : Shape := ⟨2, ![168, 168]⟩
abbrev S704x524288 : Shape := ⟨2, ![704, 524288]⟩
abbrev S56x56 : Shape := ⟨2, ![56, 56]⟩
abbrev S56x704 : Shape := ⟨2, ![56, 704]⟩

abbrev nBuf : Space → Nat
  | .hbm => 21
  | .vmem => 0
  | .smem => 0
  | _ => 0

abbrev bufTy : (tb : Table) → Fin (tcTables nBuf tb) → BufTy
  | .hbm, ⟨0, _⟩ => ⟨S1x704x524288, .i8⟩
  | .hbm, ⟨1, _⟩ => ⟨S1x524288, .f32⟩
  | .hbm, ⟨2, _⟩ => ⟨S56x524288, .f32⟩
  | .hbm, ⟨3, _⟩ => ⟨S168x168, .bf16⟩
  | .hbm, ⟨4, _⟩ => ⟨S704x524288, .i8⟩
  | .hbm, ⟨5, _⟩ => ⟨S704x524288, .i32⟩
  | .hbm, ⟨6, _⟩ => ⟨S704x524288, .bf16⟩
  | .hbm, ⟨7, _⟩ => ⟨S56x56, .bf16⟩
  | .hbm, ⟨8, _⟩ => ⟨S56x56, .f32⟩
  | .hbm, ⟨9, _⟩ => ⟨S56x56, .bf16⟩
  | .hbm, ⟨10, _⟩ => ⟨S56x56, .f32⟩
  | .hbm, ⟨11, _⟩ => ⟨S56x56, .bf16⟩
  | .hbm, ⟨12, _⟩ => ⟨S56x56, .f32⟩
  | .hbm, ⟨13, _⟩ => ⟨S56x56, .f32⟩
  | .hbm, ⟨14, _⟩ => ⟨S56x56, .f32⟩
  | .hbm, ⟨15, _⟩ => ⟨S56x524288, .f32⟩
  | .hbm, ⟨16, _⟩ => ⟨S56x524288, .bf16⟩
  | .hbm, ⟨17, _⟩ => ⟨S1x524288, .bf16⟩
  | .hbm, ⟨18, _⟩ => ⟨S56x524288, .bf16⟩
  | .hbm, ⟨19, _⟩ => ⟨S56x524288, .bf16⟩
  | .hbm, ⟨20, _⟩ => ⟨S56x704, .f32⟩
  | _, _ => ⟨S1x704x524288, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proof.Chunk.lean ====
/-
  The backward and forward kernels work on one chunk of 512 columns at a time. This module names the value of one chunk as a
  function of the loaded operands and reads it at an index over the extended reals.
-/
module

public import Idealize.ShloMosaic.Lib.Pipeline.Value
public import Idealize.ShloMosaic.Lib.ValueIdx
public import Idealize.ShloMosaic.PureOps.Ideal.Laws

@[expose] public section

noncomputable section

namespace Cert.Chunk

open Idealize.ShloMosaic Idealize.ShloMosaic.ValueIdx

/-- A two-dimensional shape. -/
abbrev Sh (a b : Nat) : Shape := ⟨2, ![a, b]⟩

/-- An index of a two-dimensional shape, by its coordinates. -/
abbrev at2 {a b : Nat} (i : Fin a) (j : Fin b) : (Sh a b).Idx := ix2 i j

/-! ## Matrix products read at an index -/

/-- The dimension numbers of a plain product of matrices. -/
abbrev dotNN (a b c : Nat) (wf : DotDims.WF (Sh a b) (Sh b c) (Sh a c) [1] [0] [0] [1] [] []) : DotDims (Sh a b) (Sh b c) (Sh a c) where
  lhsContracting := [1]
  rhsContracting := [0]
  lhsNonContracting := [0]
  rhsNonContracting := [1]
  lhsBatch := []
  rhsBatch := []
  wf := wf

/-- The dimension numbers of a product with the second factor transposed. -/
abbrev dotNT (a b c : Nat) (wf : DotDims.WF (Sh a b) (Sh c b) (Sh a c) [1] [1] [0] [0] [] []) : DotDims (Sh a b) (Sh c b) (Sh a c) where
  lhsContracting := [1]
  rhsContracting := [1]
  lhsNonContracting := [0]
  rhsNonContracting := [0]
  lhsBatch := []
  rhsBatch := []
  wf := wf

/-- A plain product at an index is the sum over the shared axis. -/
theorem matmul_nn {a b c : Nat} {φ₁ φ₂ : FTy} (wf) (prec : Option ContractPrecision) (x : FVec Ideal (Sh a b) φ₁) (y : FVec Ideal (Sh b c) φ₂)
    (i : Fin a) (j : Fin c) :
    matmul (dotNN a b c wf) prec x y (constant (Sh a c) .f32 0x00000000#32) (at2 i j) = ∑ k : Fin b, x (at2 i k) * y (at2 k j) := by
  simp only [matmul]
  rw [Ideal.matmul_constant_zero_apply, ← Equiv.sum_comp (contrEquiv1 (dotNN a b c wf) b rfl rfl).symm]
  refine Finset.sum_congr rfl fun k _ => ?_
  have hk := contrEquiv1_symm_val (dotNN a b c wf) b rfl rfl k
  have el : (dotNN a b c wf).lhsIdx (at2 i j) ((contrEquiv1 (dotNN a b c wf) b rfl rfl).symm k) = at2 i k := funext fun d => Fin.ext (by
    match d with
    | ⟨0, _⟩ =>
      unfold DotDims.lhsIdx
      rw [dif_neg (by show ¬ (0 : Fin 2) ∈ ([] : List (Fin 2)); simp), dif_pos (by show (0 : Fin 2) ∈ ([0] : List (Fin 2)); simp)]; rfl
    | ⟨1, _⟩ => exact ((dotNN a b c wf).lhsIdx_val_of_single rfl _ _).trans hk)
  have er : (dotNN a b c wf).rhsIdx (at2 i j) ((contrEquiv1 (dotNN a b c wf) b rfl rfl).symm k) = at2 k j := funext fun d => Fin.ext (by
    match d with
    | ⟨0, _⟩ => exact ((dotNN a b c wf).rhsIdx_val_of_single rfl _ _).trans hk
    | ⟨1, _⟩ =>
      unfold DotDims.rhsIdx
      rw [dif_neg (by show ¬ (1 : Fin 2) ∈ ([] : List (Fin 2)); simp), dif_pos (by show (1 : Fin 2) ∈ ([1] : List (Fin 2)); simp)]; rfl)
  rw [el, er]

/-- A product with the second factor transposed at an index is the sum over the shared axis. -/
theorem matmul_nt {a b c : Nat} {φ₁ φ₂ : FTy} (wf) (prec : Option ContractPrecision) (x : FVec Ideal (Sh a b) φ₁) (y : FVec Ideal (Sh c b) φ₂)
    (i : Fin a) (j : Fin c) :
    matmul (dotNT a b c wf) prec x y (constant (Sh a c) .f32 0x00000000#32) (at2 i j) = ∑ k : Fin b, x (at2 i k) * y (at2 j k) := by
  simp only [matmul]
  rw [Ideal.matmul_constant_zero_apply, ← Equiv.sum_comp (contrEquiv1 (dotNT a b c wf) b rfl rfl).symm]
  refine Finset.sum_congr rfl fun k _ => ?_
  have hk := contrEquiv1_symm_val (dotNT a b c wf) b rfl rfl k
  have el : (dotNT a b c wf).lhsIdx (at2 i j) ((contrEquiv1 (dotNT a b c wf) b rfl rfl).symm k) = at2 i k := funext fun d => Fin.ext (by
    match d with
    | ⟨0, _⟩ =>
      unfold DotDims.lhsIdx
      rw [dif_neg (by show ¬ (0 : Fin 2) ∈ ([] : List (Fin 2)); simp), dif_pos (by show (0 : Fin 2) ∈ ([0] : List (Fin 2)); simp)]; rfl
    | ⟨1, _⟩ => exact ((dotNT a b c wf).lhsIdx_val_of_single rfl _ _).trans hk)
  have er : (dotNT a b c wf).rhsIdx (at2 i j) ((contrEquiv1 (dotNT a b c wf) b rfl rfl).symm k) = at2 j k := funext fun d => Fin.ext (by
    match d with
    | ⟨0, _⟩ =>
      unfold DotDims.rhsIdx
      rw [dif_neg (by show ¬ (0 : Fin 2) ∈ ([] : List (Fin 2)); simp), dif_pos (by show (0 : Fin 2) ∈ ([0] : List (Fin 2)); simp)]; rfl
    | ⟨1, _⟩ => exact ((dotNT a b c wf).rhsIdx_val_of_single rfl _ _).trans hk)
  rw [el, er]

/-! ## Splitting in three parts -/

/-- The first part of the splitting of `y`: `y` rounded to bf16 and widened. -/
abbrev part {F : FTy → Type} [FloatOps F] {s : Shape} (y : FVec F s .f32) : FVec F s .f32 := extf .f32 (truncf .bf16 y)

/-- The three parts of a block of columns, one under the other. -/
def parts {F : FTy → Type} [FloatOps F] (h : Shape.Concatenates [Sh 56 512, Sh 56 512, Sh 56 512] (Sh 168 512) 0) (y : FVec F (Sh 56 512) .f32) :
    FVec F (Sh 168 512) .f32 :=
  concatenate (Sh 168 512) 0 [⟨Sh 56 512, part y⟩, ⟨Sh 56 512, part (subf y (part y))⟩, ⟨Sh 56 512, subf (subf y (part y)) (part (subf y (part y)))⟩] h

/-- The stacked parts of a column: the column, its difference with itself, and that difference's difference with itself. -/
def partsCol (y : Fin 56 → EReal) (k : Fin 168) : EReal :=
  if h : k.val < 56 then y ⟨k.val, h⟩
  else if h : k.val < 112 then y ⟨k.val - 56, by omega⟩ - y ⟨k.val - 56, by omega⟩
  else (y ⟨k.val - 112, by omega⟩ - y ⟨k.val - 112, by omega⟩) - (y ⟨k.val - 112, by omega⟩ - y ⟨k.val - 112, by omega⟩)

/-- The stacked parts of a block read at an index. -/
theorem parts_apply (h) (y : FVec Ideal (Sh 56 512) .f32) (k : Fin 168) (l : Fin 512) :
    parts h y (at2 k l) = partsCol (fun n => y (at2 n l)) k := by
  unfold parts partsCol
  let xs : List ((s : Shape) × (s.Idx → EReal)) :=
    [⟨Sh 56 512, part y⟩, ⟨Sh 56 512, part (subf y (part y))⟩, ⟨Sh 56 512, subf (subf y (part y)) (part (subf y (part y)))⟩]
  split_ifs with h1 h2
  · exact concatenate_apply_piece (t := Sh 168 512) 0 xs h (at2 k l) 0 (by simp [xs]) (Sh 56 512) (part y) rfl rfl 0 rfl (at2 ⟨k.val, h1⟩ l)
      (fun b hb => by match b with | ⟨0, _⟩ => exact absurd rfl hb | ⟨1, _⟩ => rfl) (by show 0 + k.val = k.val; omega)
  · exact concatenate_apply_piece (t := Sh 168 512) 0 xs h (at2 k l) 1 (by simp [xs]) (Sh 56 512) (part (subf y (part y))) rfl rfl 56 rfl
      (at2 ⟨k.val - 56, by omega⟩ l)
      (fun b hb => by match b with | ⟨0, _⟩ => exact absurd rfl hb | ⟨1, _⟩ => rfl) (by show 56 + (k.val - 56) = k.val; omega)
  · exact concatenate_apply_piece (t := Sh 168 512) 0 xs h (at2 k l) 2 (by simp [xs]) (Sh 56 512) (subf (subf y (part y)) (part (subf y (part y)))) rfl rfl 112 rfl
      (at2 ⟨k.val - 112, by omega⟩ l)
      (fun b hb => by match b with | ⟨0, _⟩ => exact absurd rfl hb | ⟨1, _⟩ => rfl) (by show 112 + (k.val - 112) = k.val; omega)

/-! ## The backward kernel's chunk -/

/-- The facts on shapes that the chunk's operations take. -/
class Shapes : Prop where
  cat : Shape.Concatenates [Sh 56 512, Sh 56 512, Sh 56 512] (Sh 168 512) 0
  dp : DotDims.WF (Sh 168 168) (Sh 168 512) (Sh 168 512) [1] [0] [0] [1] [] []
  dw : DotDims.WF (Sh 56 512) (Sh 704 512) (Sh 56 704) [1] [1] [0] [0] [] []
  sl0 : (Sh 168 512).Slices ![0, 0] (Sh 56 512)
  sl1 : (Sh 168 512).Slices ![56, 0] (Sh 56 512)
  sl2 : (Sh 168 512).Slices ![112, 0] (Sh 56 512)
  bc : (Sh 1 512).Broadcasts (Sh 56 512)
  sc : (Sh 704 512).ShapeCasts (Sh 704 512)
  lt : FTy.bf16.bits < FTy.f32.bits

section
variable {F : FTy → Type} [FloatOps F] (H : Shapes)

/-- The product of the stacked factor with the stacked parts. -/
def tC (p : FVec F (Sh 168 168) .bf16) (y : FVec F (Sh 56 512) .f32) : FVec F (Sh 168 512) .f32 :=
  matmul (dotNN 168 168 512 H.dp) none p (truncf .bf16 (parts H.cat y) H.lt) (constant (Sh 168 512) .f32 0x00000000#32)

/-- The chunk of the basis. -/
def qC (p : FVec F (Sh 168 168) .bf16) (y : FVec F (Sh 56 512) .f32) : FVec F (Sh 56 512) .bf16 :=
  truncf .bf16 (addf (addf (extractStridedSlice (Sh 56 512) ![0, 0] (tC H p y) H.sl0) (extractStridedSlice (Sh 56 512) ![56, 0] (tC H p y) H.sl1))
    (extractStridedSlice (Sh 56 512) ![112, 0] (tC H p y) H.sl2)) H.lt

/-- What a chunk of the basis adds to the product with the codes. -/
def wC (q : FVec F (Sh 56 512) .bf16) (s : FVec F (Sh 1 512) .f32) (a : IVec (Sh 704 512) 8) : FVec F (Sh 56 704) .f32 :=
  matmul (dotNT 56 512 704 H.dw) none (mulf q (broadcastTo (Sh 56 512) (truncf .bf16 s H.lt) H.bc))
    (sitofp .bf16 (shapeCast (Sh 704 512) a H.sc)) (constant (Sh 56 704) .f32 0x00000000#32)

end

/-- One element of the basis from the stacked factor and a column. -/
def qCol (p : Fin 168 → Fin 168 → EReal) (y : Fin 56 → EReal) (j : Fin 56) : EReal :=
  (∑ k : Fin 168, p ⟨j.val, by omega⟩ k * partsCol y k) + (∑ k : Fin 168, p ⟨56 + j.val, by omega⟩ k * partsCol y k)
    + ∑ k : Fin 168, p ⟨112 + j.val, by omega⟩ k * partsCol y k

/-- The chunk of the basis at an index depends on one column. -/
theorem qC_apply (H : Shapes) (p : FVec Ideal (Sh 168 168) .bf16) (y : FVec Ideal (Sh 56 512) .f32) (j : Fin 56) (l : Fin 512) :
    qC H p y (at2 j l) = qCol (fun a b => p (at2 a b)) (fun n => y (at2 n l)) j := by
  have T : ∀ r : Fin 168, tC H p y (at2 r l) = ∑ k : Fin 168, p (at2 r k) * partsCol (fun n => y (at2 n l)) k := fun r => by
    unfold tC
    rw [matmul_nn]
    exact Finset.sum_congr rfl fun k _ => by rw [truncf_apply, parts_apply]
  unfold qC qCol
  rw [truncf_apply, addf_apply, addf_apply,
    extractStridedSlice_apply _ _ H.sl0 (at2 j l) (at2 ⟨j.val, by omega⟩ l) (fun a => match a with | ⟨0, _⟩ => (Nat.zero_add _).symm | ⟨1, _⟩ => (Nat.zero_add _).symm),
    extractStridedSlice_apply _ _ H.sl1 (at2 j l) (at2 ⟨56 + j.val, by omega⟩ l) (fun a => match a with | ⟨0, _⟩ => rfl | ⟨1, _⟩ => (Nat.zero_add _).symm),
    extractStridedSlice_apply _ _ H.sl2 (at2 j l) (at2 ⟨112 + j.val, by omega⟩ l) (fun a => match a with | ⟨0, _⟩ => rfl | ⟨1, _⟩ => (Nat.zero_add _).symm),
    T, T, T]

/-- The number an 8-bit code stands for. -/
abbrev code (a : BitVec 8) : EReal := FloatOps.sitofp (F := Ideal) .bf16 a

/-- What a chunk adds to the product with the codes, at an index. -/
theorem wC_apply (H : Shapes) (q : FVec Ideal (Sh 56 512) .bf16) (s : FVec Ideal (Sh 1 512) .f32) (a : IVec (Sh 704 512) 8) (j : Fin 56) (n : Fin 704) :
    wC H q s a (at2 j n) = ∑ l : Fin 512, (q (at2 j l) * s (at2 0 l)) * code (a (at2 n l)) := by
  unfold wC
  rw [matmul_nt]
  refine Finset.sum_congr rfl fun l _ => ?_
  rw [mulf_apply, sitofp_apply, shapeCast_self,
    broadcastTo_apply _ H.bc (at2 j l) (at2 0 l) (fun a => match a with | ⟨0, _⟩ => rfl | ⟨1, _⟩ => rfl)]
  rfl

/-! ## The forward kernel's chunk -/

/-- A chunk of the sketch: the product of the transposed factor with the codes, each column times its scale. -/
def yC {F : FTy → Type} [FloatOps F] (d : DotDims.WF (Sh 56 704) (Sh 704 512) (Sh 56 512) [1] [0] [0] [1] [] []) (sc : (Sh 704 512).ShapeCasts (Sh 704 512))
    (bc : (Sh 1 512).Broadcasts (Sh 56 512)) (x : FVec F (Sh 56 704) .bf16) (a : IVec (Sh 704 512) 8) (s : FVec F (Sh 1 512) .f32) : FVec F (Sh 56 512) .f32 :=
  mulf (matmul (dotNN 56 704 512 d) none x (sitofp .bf16 (shapeCast (Sh 704 512) a sc)) (constant (Sh 56 512) .f32 0x00000000#32)) (broadcastTo (Sh 56 512) s bc)

/-- A chunk of the sketch at an index. -/
theorem yC_apply (d sc bc) (x : FVec Ideal (Sh 56 704) .bf16) (a : IVec (Sh 704 512) 8) (s : FVec Ideal (Sh 1 512) .f32) (j : Fin 56) (l : Fin 512) :
    yC d sc bc x a s (at2 j l) = (∑ n : Fin 704, x (at2 j n) * code (a (at2 n l))) * s (at2 0 l) := by
  unfold yC
  rw [mulf_apply, matmul_nn, broadcastTo_apply _ bc (at2 j l) (at2 0 l) (fun a => match a with | ⟨0, _⟩ => rfl | ⟨1, _⟩ => rfl)]
  refine congrArg (· * _) (Finset.sum_congr rfl fun n _ => ?_)
  rw [sitofp_apply, shapeCast_self]

end Cert.Chunk

end
-- ==== Proof.BackwardValue.lean ====
/-
  What the backward kernel computes over the extended reals: its two result arrays as functions of its four operand arrays.
-/
module

public import proofs.«01_k».proof.Proof.Chunk
public import proofs.«01_k».proof.Proof.Gen.BackwardIdeal.Value
public import Idealize.ShloMosaic.Lib.Pipeline.ReadBack
public import Idealize.ShloMosaic.Lib.Tactic

@[expose] public section

set_option maxRecDepth 16384

noncomputable section

namespace Cert.BackwardIdeal.Value

open Cert.BackwardIdeal Cert.BackwardIdeal.Gen Idealize.ShloMosaic Idealize.ShloMosaic.TcCoe Idealize.SL.Sem Cert.Chunk
open Idealize.ShloMosaic.Pipeline (Dat)

/-- The offsets are zero. -/
theorem hz : (![0, 0] : Fin 2 → Nat) = fun _ => 0 := funext fun a => by fin_cases a <;> rfl

/-- The facts on shapes of the chunk's operations. -/
theorem shapes : Shapes := ⟨concatenates_S56x512_S56x512_S56x512_S168x512_d0, dot_S168x168_S168x512_S168x512_1_0_0_1_n_n_wf,
  dot_S56x512_S704x512_S56x704_1_1_0_0_n_n_wf, slices_S168x512_o0_0_S56x512, slices_S168x512_o56_0_S56x512, slices_S168x512_o112_0_S56x512,
  broadcasts_S1x512_S56x512, shapeCasts_S704x512_S704x512, bitsLt_bf16_f32⟩

/-- One block of the basis from the stacked factor and a block of the sketch. -/
def qBlk (p : Vec Ideal S168x168 .bf16) (y : Vec Ideal S56x8192 .f32) : Vec Ideal S56x8192 .bf16 :=
  fun i => qCol (fun a b => p (at2 a b)) (fun n => y (at2 n (i 1))) (i 0)

/-- The chunk of the basis that starts at column `o` is the block's part there. -/
theorem piece_q (p : Vec Ideal S168x168 .bf16) (y : Vec Ideal S56x8192 .f32) (o : Nat) (inb) (x : S56x512.Idx) :
    (qC (F := Ideal) shapes p (View.ld y (Rect.unit (s := S56x8192) ![0, o] S56x512.size inb)) x : EReal)
      = qBlk p y ((Rect.unit (s := S56x8192) ![0, o] S56x512.size inb).emb x) := by
  rw [ValueIdx.eq_ix2 x]
  refine (qC_apply shapes p _ _ _).trans ?_
  unfold qBlk
  congr 1
  · funext n
    exact congrArg y (funext fun a => Fin.ext (by match a with | ⟨0, _⟩ => show 0 + 1 * n.val = n.val; omega | ⟨1, _⟩ => rfl))
  · exact Fin.ext (by show (x 0).val = 0 + 1 * (x 0).val; omega)

/-- The first point leaves the block of the basis in the first output's buffer. -/
theorem out4_A (c : Dev nD) (i : grid0.Coords) (a1 h1 a2 h2 a3 h3 a4 h4 a5 h5 a6 h6) (hc : cond0_0 i) (x0 : Vec Ideal S704x8192 .i8)
    (x1 : Vec Ideal S1x8192 .f32) (x2 : Vec Ideal S56x8192 .f32) (x3 : Vec Ideal S168x168 .bf16) :
    out0_A_4 c i a1 h1 a2 h2 a3 h3 a4 h4 a5 h5 a6 h6 hc x0 x1 x2 x3 = qBlk x3 x2 := by
  unfold out0_A_4
  rw [View.read_writes_eq_canon _ _ _ (cover0_A_4 c i a1 h1 a2 h2 a3 h3 a4 h4 a5 h5 a6 h6 hc x0 x1 x2 x3)]
  funext y
  refine View.canon_apply_of_pieces (qBlk x3 x2) _ (View.PiecesOf.mem ?_) y (cover0_A_4 c i a1 h1 a2 h2 a3 h3 a4 h4 a5 h5 a6 h6 hc x0 x1 x2 x3 y)
  unfold kernelRun0_A
  dsimp only
  sl_unfold_words
  simp only [View.readAt_eq_ld, h3.read_unread, h4.read_unread, View.ld_unit_zero (S := S168x168) hz]
  refine ⟨?_, ?_, ?_, ?_, ?_, ?_, ?_, ?_, ?_, ?_, ?_, ?_, ?_, ?_, ?_, ?_, trivial⟩ <;> exact fun x => piece_q x3 x2 _ _ x

/-- Every later point leaves the block of the basis in the first output's buffer. -/
theorem out4_B (c : Dev nD) (i : grid0.Coords) (a1 h1 a2 h2 a3 h3 a4 h4 a5 h5 a6 h6) (hc : ¬cond0_0 i) (x0 : Vec Ideal S704x8192 .i8)
    (x1 : Vec Ideal S1x8192 .f32) (x2 : Vec Ideal S56x8192 .f32) (x3 : Vec Ideal S168x168 .bf16) (xo : Vec Ideal S56x704 .f32) :
    out0_B_4 c i a1 h1 a2 h2 a3 h3 a4 h4 a5 h5 a6 h6 hc x0 x1 x2 x3 xo = qBlk x3 x2 := by
  unfold out0_B_4
  rw [View.read_writes_eq_canon _ _ _ (cover0_B_4 c i a1 h1 a2 h2 a3 h3 a4 h4 a5 h5 a6 h6 hc x0 x1 x2 x3 xo)]
  funext y
  refine View.canon_apply_of_pieces (qBlk x3 x2) _ (View.PiecesOf.mem ?_) y (cover0_B_4 c i a1 h1 a2 h2 a3 h3 a4 h4 a5 h5 a6 h6 hc x0 x1 x2 x3 xo y)
  unfold kernelRun0_B
  dsimp only
  sl_unfold_words
  simp only [View.readAt_eq_ld, h3.read_unread, h4.read_unread, View.ld_unit_zero (S := S168x168) hz]
  refine ⟨?_, ?_, ?_, ?_, ?_, ?_, ?_, ?_, ?_, ?_, ?_, ?_, ?_, ?_, ?_, ?_, trivial⟩ <;> exact fun x => piece_q x3 x2 _ _ x

end Cert.BackwardIdeal.Value

end
-- ==== Proof.BackwardSum.lean ====
/-
  What the backward kernel computes over the extended reals: its two result arrays as functions of its four operand arrays.
-/
module

public import proofs.«01_k».proof.Proof.BackwardValue
public import proofs.«01_k».proof.Proof.Gen.BackwardIdeal.Value
public import Idealize.ShloMosaic.Lib.Pipeline.ReadBack
public import Idealize.ShloMosaic.Lib.Tactic

@[expose] public section

set_option maxRecDepth 16384

noncomputable section

namespace Cert.BackwardIdeal.Value

open Cert.BackwardIdeal Cert.BackwardIdeal.Gen Idealize.ShloMosaic Idealize.ShloMosaic.TcCoe Idealize.SL.Sem Cert.Chunk
open Idealize.ShloMosaic.Pipeline (Dat)

/-- Column `s` of a block contributes this much to the product of the basis with the codes. -/
def wTerm (x0 : Vec Ideal S704x8192 .i8) (x1 : Vec Ideal S1x8192 .f32) (x2 : Vec Ideal S56x8192 .f32) (x3 : Vec Ideal S168x168 .bf16)
    (j : Fin 56) (n : Fin 704) (s : Fin 8192) : EReal :=
  (qBlk x3 x2 (at2 j s) * x1 (at2 0 s)) * code (x0 (at2 n s))

/-- A chunk of 512 columns lies in its block. -/
theorem inb {r : Nat} (o : Nat) (h : o + 512 ≤ 8192) : ∀ a, (![0, o] : Fin 2 → Nat) a + (![r, 512] : Fin 2 → Nat) a ≤ (![r, 8192] : Fin 2 → Nat) a
  | ⟨0, _⟩ => (Nat.zero_add r).le
  | ⟨1, _⟩ => h

/-- What the chunk that starts at column `o` adds to the product. -/
def wAt (x0 : Vec Ideal S704x8192 .i8) (x1 : Vec Ideal S1x8192 .f32) (x2 : Vec Ideal S56x8192 .f32) (x3 : Vec Ideal S168x168 .bf16)
    (o : Nat) (h : o + 512 ≤ 8192) : FVec Ideal S56x704 .f32 :=
  wC (F := Ideal) shapes (qC shapes x3 (View.ld x2 (Rect.unit (s := S56x8192) ![0, o] S56x512.size (inb o h))))
    (View.ld x1 (Rect.unit (s := S1x8192) ![0, o] S1x512.size (inb o h))) (View.ld x0 (Rect.unit (s := S704x8192) ![0, o] S704x512.size (inb o h)))

/-- A chunk adds its columns' contributions. -/
theorem wAt_apply (x0 x1 x2 x3) (o : Nat) (h : o + 512 ≤ 8192) (j : Fin 56) (n : Fin 704) :
    (wAt x0 x1 x2 x3 o h (at2 j n) : EReal) = ∑ l : Fin 512, wTerm x0 x1 x2 x3 j n ⟨o + l.val, by omega⟩ := by
  unfold wAt
  refine (wC_apply shapes _ _ _ j n).trans (Finset.sum_congr rfl fun l _ => ?_)
  unfold wTerm
  rw [piece_q]
  congr 1
  · congr 1
    · exact congrArg (qBlk x3 x2) (funext fun a => Fin.ext (by match a with | ⟨0, _⟩ => show 0 + 1 * j.val = j.val; omega | ⟨1, _⟩ => show o + 1 * l.val = o + l.val; omega))
    · exact congrArg x1 (funext fun a => Fin.ext (by match a with | ⟨0, _⟩ => rfl | ⟨1, _⟩ => show o + 1 * l.val = o + l.val; omega))
  · exact congrArg (fun z => code (x0 z)) (funext fun a => Fin.ext (by match a with | ⟨0, _⟩ => show 0 + 1 * n.val = n.val; omega | ⟨1, _⟩ => show o + 1 * l.val = o + l.val; omega))

/-- One chunk's addition to the product. -/
def step (p : Vec Ideal S168x168 .bf16) (acc : FVec Ideal S56x704 .f32) (y : Vec Ideal S56x512 .f32) (s : Vec Ideal S1x512 .f32) (a : Vec Ideal S704x512 .i8) :
    FVec Ideal S56x704 .f32 :=
  addf acc (wC (F := Ideal) shapes (qC shapes p y) s a)

/-! What the body accumulates, chunk by chunk, is `step` of what it held. -/

section
variable (p : Vec Ideal S168x168 .bf16) (acc : FVec Ideal S56x704 .f32) (y y' : Vec Ideal S56x512 .f32) (s s' : Vec Ideal S1x512 .f32)
  (a a' : Vec Ideal S704x512 .i8)

/-- A stored value as steps of the product. -/
theorem pay5 : k0_pay5 p acc y s a = step p acc y s a :=
  (show _ = addf (shapeCast S56x704 acc shapeCasts_S56x704_S56x704) (wC (F := Ideal) shapes (qC shapes p y) s a) from rfl).trans (by rw [shapeCast_self]; rfl)
/-- A stored value as steps of the product. -/
theorem pay9 : k0_pay9 p acc (k0_pay6 y) (k0_pay7 y) s a = step p acc y s a := rfl
/-- A stored value as steps of the product. -/
theorem pay12 : k0_pay12 p acc (k0_pay10 p y) s a y' s' a' = step p (step p acc y s a) y' s' a' := rfl
/-- A stored value as steps of the product. -/
theorem pay17 : k0_pay17 p acc (k0_pay13 y) (k0_pay14 y) (k0_pay15 y) s a = step p acc y s a := rfl
/-- A stored value as steps of the product. -/
theorem pay21 : k0_pay21 p acc (k0_pay19 p y s) a y' s' a' = step p (step p acc y s a) y' s' a' := rfl
/-- A stored value as steps of the product. -/
theorem pay24 : k0_pay24 p acc (k0_pay22 y) s a = step p acc y s a := rfl
/-- A stored value as steps of the product. -/
theorem pay28 : k0_pay28 p acc (k0_pay26 p y s) a y' s' a' = step p (step p acc y s a) y' s' a' := rfl
/-- A stored value as steps of the product. -/
theorem pay32 : k0_pay32 acc (k0_pay29 p y) (k0_pay30 p y) s a = step p acc y s a := rfl
/-- A stored value as steps of the product. -/
theorem pay37 : k0_pay37 p acc (k0_pay34 p y s) (k0_pay35 a) (constant (F := Ideal) S56x704 .f32 0x00000000#32) y' s' a' = step p (step p acc y s a) y' s' a' := rfl
/-- A stored value as steps of the product. -/
theorem pay43 : k0_pay43 p acc (k0_pay39 p y) (k0_pay40 p y) s a y' s' a' = step p (step p acc y s a) y' s' a' := rfl
/-- A stored value as steps of the product. -/
theorem pay2 : k0_pay2 p acc y s a = step p acc y s a := rfl
end

/-- The sixteen chunks' additions, first to last. -/
def wSum (x0 : Vec Ideal S704x8192 .i8) (x1 : Vec Ideal S1x8192 .f32) (x2 : Vec Ideal S56x8192 .f32) (x3 : Vec Ideal S168x168 .bf16)
    (acc : FVec Ideal S56x704 .f32) : (k : Nat) → k ≤ 16 → FVec Ideal S56x704 .f32
  | 0, _ => acc
  | k + 1, h => step x3 (wSum x0 x1 x2 x3 acc k (by omega)) (View.ld x2 (Rect.unit (s := S56x8192) ![0, 512 * k] S56x512.size (inb _ (by omega))))
    (View.ld x1 (Rect.unit (s := S1x8192) ![0, 512 * k] S1x512.size (inb _ (by omega)))) (View.ld x0 (Rect.unit (s := S704x8192) ![0, 512 * k] S704x512.size (inb _ (by omega))))

/-- Adding `k` chunks adds their columns' contributions. -/
theorem wSum_range (x0 x1 x2 x3 acc) (j : Fin 56) (n : Fin 704) (g : Nat → EReal) (hg : ∀ s : Fin 8192, g s.val = wTerm x0 x1 x2 x3 j n s) :
    ∀ (k : Nat) (hk : k ≤ 16), (wSum x0 x1 x2 x3 acc k hk (at2 j n) : EReal) = acc (at2 j n) + ∑ i ∈ Finset.range (512 * k), g i
  | 0, _ => by rw [Nat.mul_zero, Finset.range_zero, Finset.sum_empty, add_zero]; rfl
  | k + 1, hk => by
    have e : (wSum x0 x1 x2 x3 acc (k + 1) hk (at2 j n) : EReal)
        = wSum x0 x1 x2 x3 acc k (by omega) (at2 j n) + wAt x0 x1 x2 x3 (512 * k) (by omega) (at2 j n) := rfl
    rw [e, wSum_range x0 x1 x2 x3 acc j n g hg k (by omega), wAt_apply, add_assoc, Nat.mul_succ, Finset.sum_range_add, Finset.sum_range (n := 512)]
    refine congrArg _ (congrArg _ (Finset.sum_congr rfl fun l _ => (hg ⟨512 * k + l.val, by omega⟩).symm))

/-- Adding all chunks adds all columns' contributions. -/
theorem wSum_apply (x0 x1 x2 x3 acc) (j : Fin 56) (n : Fin 704) :
    (wSum x0 x1 x2 x3 acc 16 le_rfl (at2 j n) : EReal) = acc (at2 j n) + ∑ s : Fin 8192, wTerm x0 x1 x2 x3 j n s := by
  have h := wSum_range x0 x1 x2 x3 acc j n (fun i => if h : i < 8192 then wTerm x0 x1 x2 x3 j n ⟨i, h⟩ else 0) (fun s => dif_pos s.isLt) 16 le_rfl
  refine h.trans (congrArg _ ((Finset.sum_range (n := 8192) _).trans (Finset.sum_congr rfl fun s _ => dif_pos s.isLt)))

/-- Every later point adds its block's columns to what the second output's buffer held. -/
theorem out5_B (c : Dev nD) (i : grid0.Coords) (a1 h1 a2 h2 a3 h3 a4 h4 a5 h5 a6 h6) (hc : ¬cond0_0 i) (x0 : Vec Ideal S704x8192 .i8)
    (x1 : Vec Ideal S1x8192 .f32) (x2 : Vec Ideal S56x8192 .f32) (x3 : Vec Ideal S168x168 .bf16) (xo : Vec Ideal S56x704 .f32) :
    out0_B_5 c i a1 h1 a2 h2 a3 h3 a4 h4 a5 h5 a6 h6 hc x0 x1 x2 x3 xo = wSum x0 x1 x2 x3 xo 16 le_rfl := by
  unfold out0_B_5
  rw [View.read_writes_eq_canon _ _ _ (cover0_B_5 c i a1 h1 a2 h2 a3 h3 a4 h4 a5 h5 a6 h6 hc x0 x1 x2 x3 xo)]
  unfold kernelRun0_B
  dsimp only
  rw [View.canon_unit_zero hz]
  sl_unfold_words
  simp only [View.readAt_eq_ld, h1.read_unread, h2.read_unread, h3.read_unread, h4.read_unread, h6.read_unread, View.ld_unit_zero (S := S168x168) hz,
    View.ld_unit_zero (S := S56x704) hz]
  simp only [pay2, pay43, pay37, pay32, pay28, pay24, pay21, pay17, pay12, pay9, pay5]
  rfl

/-- The first point adds its block's columns to zero. -/
theorem out5_A (c : Dev nD) (i : grid0.Coords) (a1 h1 a2 h2 a3 h3 a4 h4 a5 h5 a6 h6) (hc : cond0_0 i) (x0 : Vec Ideal S704x8192 .i8)
    (x1 : Vec Ideal S1x8192 .f32) (x2 : Vec Ideal S56x8192 .f32) (x3 : Vec Ideal S168x168 .bf16) :
    out0_A_5 c i a1 h1 a2 h2 a3 h3 a4 h4 a5 h5 a6 h6 hc x0 x1 x2 x3 = wSum x0 x1 x2 x3 k0_pay3 16 le_rfl := by
  unfold out0_A_5
  rw [View.read_writes_eq_canon _ _ _ (cover0_A_5 c i a1 h1 a2 h2 a3 h3 a4 h4 a5 h5 a6 h6 hc x0 x1 x2 x3)]
  unfold kernelRun0_A
  dsimp only
  rw [View.canon_cons_unit_zero (S := S56x704) hz]
  sl_unfold_words
  simp only [View.readCov_unit_zero (S := S56x704) _ hz, View.readAt_eq_ld, h1.read_unread, h2.read_unread, h3.read_unread, h4.read_unread, View.ld_unit_zero (S := S168x168) hz,
    View.ld_unit_zero (S := S56x704) hz]
  simp only [pay2, pay43, pay37, pay32, pay28, pay24, pay21, pay17, pay12, pay9, pay5]
  rfl

end Cert.BackwardIdeal.Value

end
-- ==== Proof.BackwardArrays.lean ====
/-
  The backward kernel's two result arrays over the extended reals, as functions of its operand arrays.
-/
module

public import proofs.«01_k».proof.Proof.BackwardSum
public import Idealize.ShloMosaic.Lib.StableHlo.Run

@[expose] public section

set_option maxRecDepth 16384

noncomputable section

namespace Cert.BackwardIdeal.Value

open Cert.BackwardIdeal Cert.BackwardIdeal.Gen Idealize.ShloMosaic Idealize.ShloMosaic.TcCoe Idealize.SL.Sem Cert.Chunk
open Idealize.ShloMosaic.Pipeline (Dat)

variable (m : (ℓ : Loc nD τ sig) → Buf (Elt Ideal) ℓ) (ρ : Dev nD → PrngReg)

/-- An index of a three-dimensional shape with one matrix. -/
abbrev at3 (n : Fin 704) (s : Fin 524288) : S1x704x524288.Idx := ValueIdx.ix3 (0 : Fin 1) n s

/-- The reshaped codes when the kernel is entered. -/
theorem V_main_v0 (c : Dev nD) :
    V m c main_v0 = shapeCast S704x524288 (m ((c : Thread nD τ).loc main_arg0)) shapeCasts_S1x704x524288_S704x524288 := by
  show StableHlo.after hostOps0 _ (Proc.devRef .tc main_v0) = _
  after_results
  rfl

/-- The reshaped codes at an index. -/
theorem V_main_v0_apply (c : Dev nD) (n : Fin 704) (s : Fin 524288) :
    V m c main_v0 (at2 n s) = m ((c : Thread nD τ).loc main_arg0) (at3 n s) := by
  rw [V_main_v0]
  exact shapeCast_apply _ shapeCasts_S1x704x524288_S704x524288 (at2 n s) (at3 n s)
    (by rw [Shape.rowMajor_val_three, Shape.rowMajor_val_two]; show (0 * 704 + n.val) * 524288 + s.val = n.val * 524288 + s.val; omega)

/-- Column `l` of block `t`, as a column of the whole array. -/
def col (t : Fin cfg0.N) (l : Fin 8192) : Fin 524288 := ⟨8192 * t.val + l.val, by have := t.isLt; have hN : cfg0.N = 64 := N_0; omega⟩

/-- Where a grid point finds its block of operand 0. -/
theorem idx0 : ∀ t : Fin cfg0.N, win0_0.index t 0 = 0 ∧ win0_0.index t 1 = t.val := (by decide +kernel : ∀ t : Fin grid0.N, _)
/-- Where a grid point finds its block of operand 1. -/
theorem idx1 : ∀ t : Fin cfg0.N, win0_1.index t 0 = 0 ∧ win0_1.index t 1 = t.val := (by decide +kernel : ∀ t : Fin grid0.N, _)
/-- Where a grid point finds its block of operand 2. -/
theorem idx2 : ∀ t : Fin cfg0.N, win0_2.index t 0 = 0 ∧ win0_2.index t 1 = t.val := (by decide +kernel : ∀ t : Fin grid0.N, _)
/-- Where a grid point finds its block of operand 3. -/
theorem idx3 : ∀ t : Fin cfg0.N, win0_3.index t 0 = 0 ∧ win0_3.index t 1 = 0 := (by decide +kernel : ∀ t : Fin grid0.N, _)
/-- Where a grid point finds its block of operand 4. -/
theorem idx4 : ∀ t : Fin cfg0.N, win0_4.index t 0 = 0 ∧ win0_4.index t 1 = t.val := (by decide +kernel : ∀ t : Fin grid0.N, _)
/-- Where a grid point finds its block of operand 5. -/
theorem idx5 : ∀ t : Fin cfg0.N, win0_5.index t 0 = 0 ∧ win0_5.index t 1 = 0 := (by decide +kernel : ∀ t : Fin grid0.N, _)

/-- A block of the codes at an index. -/
theorem iblk0 (c : Dev nD) (t : Fin cfg0.N) (n : Fin 704) (l : Fin 8192) :
    (iblk m c 0 t : Vec Ideal S704x8192 .i8) (at2 n l) = m ((c : Thread nD τ).loc main_arg0) (at3 n (col t l)) := by
  unfold iblk
  rw [View.read_apply]
  refine Eq.trans ?_ (V_main_v0_apply m c n (col t l))
  show V m c main_v0 _ = V m c main_v0 _
  refine congrArg _ (funext fun a => Fin.ext ?_)
  match a with
  | ⟨0, _⟩ => show win0_0.index t 0 * 704 + 1 * n.val = n.val; rw [(idx0 t).1]; omega
  | ⟨1, _⟩ => show win0_0.index t 1 * 8192 + 1 * l.val = 8192 * t.val + l.val; rw [(idx0 t).2]; omega

/-- A block of the scales at an index. -/
theorem iblk1 (c : Dev nD) (t : Fin cfg0.N) (l : Fin 8192) :
    (iblk m c 1 t : Vec Ideal S1x8192 .f32) (at2 0 l) = m ((c : Thread nD τ).loc main_arg1) (at2 (0 : Fin 1) (col t l)) := by
  unfold iblk
  rw [View.read_apply, ← V_main_arg1 m c]
  show V m c main_arg1 _ = V m c main_arg1 _
  refine congrArg _ (funext fun a => Fin.ext ?_)
  match a with
  | ⟨0, _⟩ => show win0_1.index t 0 * 1 + 1 * 0 = 0; rw [(idx1 t).1]
  | ⟨1, _⟩ => show win0_1.index t 1 * 8192 + 1 * l.val = 8192 * t.val + l.val; rw [(idx1 t).2]; omega

/-- A block of the sketch at an index. -/
theorem iblk2 (c : Dev nD) (t : Fin cfg0.N) (n : Fin 56) (l : Fin 8192) :
    (iblk m c 2 t : Vec Ideal S56x8192 .f32) (at2 n l) = m ((c : Thread nD τ).loc main_arg2) (at2 n (col t l)) := by
  unfold iblk
  rw [View.read_apply, ← V_main_arg2 m c]
  show V m c main_arg2 _ = V m c main_arg2 _
  refine congrArg _ (funext fun a => Fin.ext ?_)
  match a with
  | ⟨0, _⟩ => show win0_2.index t 0 * 56 + 1 * n.val = n.val; rw [(idx2 t).1]; omega
  | ⟨1, _⟩ => show win0_2.index t 1 * 8192 + 1 * l.val = 8192 * t.val + l.val; rw [(idx2 t).2]; omega

/-- The factor's block is the factor. -/
theorem iblk3 (c : Dev nD) (t : Fin cfg0.N) :
    (iblk m c 3 t : Vec Ideal S168x168 .bf16) = m ((c : Thread nD τ).loc main_arg3) := by
  funext j
  unfold iblk
  rw [View.read_apply, ← V_main_arg3 m c]
  show V m c main_arg3 _ = V m c main_arg3 _
  refine congrArg _ (funext fun a => Fin.ext ?_)
  match a with
  | ⟨0, _⟩ => show win0_3.index t 0 * 168 + 1 * (j 0).val = (j 0).val; rw [(idx3 t).1]; omega
  | ⟨1, _⟩ => show win0_3.index t 1 * 168 + 1 * (j 1).val = (j 1).val; rw [(idx3 t).2]; omega

/-- One element of the basis, from the operand arrays. -/
def qAt (c : Dev nD) (j : Fin 56) (s : Fin 524288) : EReal :=
  qCol (fun a b => m ((c : Thread nD τ).loc main_arg3) (at2 a b)) (fun n => m ((c : Thread nD τ).loc main_arg2) (at2 n s)) j

/-- The basis. -/
def qArr (c : Dev nD) : Buf (Elt Ideal) ((c : Thread nD τ).loc main_v1_0) := fun i => qAt m c (i 0) (i 1)

/-- A block of the basis is the basis's part there. -/
theorem qBlk_apply (c : Dev nD) (t : Fin cfg0.N) (j : Fin 56) (l : Fin 8192) :
    (qBlk (iblk m c 3 t) (iblk m c 2 t) (at2 j l) : EReal) = qAt m c j (col t l) := by
  unfold qBlk qAt
  rw [iblk3]
  exact congrArg (fun y => qCol _ y j) (funext fun n => iblk2 m c t n l)

/-- Every point leaves its block of the basis in the first output's buffer. -/
theorem outs1 (c : Dev nD) (t : Fin cfg0.N) : (outsAt0 m c t.val t.isLt).1 = qBlk (iblk m c 3 t) (iblk m c 2 t) := by
  by_cases h : t.val % 64 = 0
  · have e := congrArg Prod.fst (outsAt0_A m c t h)
    dsimp only at e
    rw [out4_A] at e
    exact e
  · have e := congrArg Prod.fst (outsAt0_B m c t h)
    dsimp only at e
    rw [out4_B] at e
    exact e

/-- The first point leaves its block's contribution to the product in the second output's buffer. -/
theorem outs2_A (c : Dev nD) (t : Fin cfg0.N) (h : t.val % 64 = 0) :
    (outsAt0 m c t.val t.isLt).2 = wSum (iblk m c 0 t) (iblk m c 1 t) (iblk m c 2 t) (iblk m c 3 t) k0_pay3 16 le_rfl := by
  have e := congrArg Prod.snd (outsAt0_A m c t h)
  dsimp only at e
  rw [out5_A] at e
  exact e

/-- Every later point adds its block's contribution to what the point before left. -/
theorem outs2_B (c : Dev nD) (t : Fin cfg0.N) (h : ¬t.val % 64 = 0) :
    (outsAt0 m c t.val t.isLt).2 = wSum (iblk m c 0 t) (iblk m c 1 t) (iblk m c 2 t) (iblk m c 3 t) (outsAt0 m c (t.val - 1) (Nat.lt_of_le_of_lt (Nat.sub_le _ _) t.isLt)).2 16 le_rfl := by
  have e := congrArg Prod.snd (outsAt0_B m c t h)
  dsimp only at e
  rw [out5_B] at e
  exact e

/-- What a point writes back to the first result array is the basis's part there. -/
theorem flushed4_eq (c : Dev nD) (t : Fin cfg0.N) (y : S56x8192.Idx) :
    (qBlk (iblk m c 3 t) (iblk m c 2 t) y : EReal) = qArr m c (((cfg0.win 4).blk t).view.emb y) := by
  rw [ValueIdx.eq_ix2 y]
  refine (qBlk_apply m c t (y 0) (y 1)).trans ?_
  unfold qArr
  congr 1
  · exact Fin.ext (by show (y 0).val = win0_4.index t 0 * 56 + 1 * (y 0).val; rw [(idx4 t).1]; omega)
  · exact Fin.ext (by show 8192 * t.val + (y 1).val = win0_4.index t 1 * 8192 + 1 * (y 1).val; rw [(idx4 t).2]; omega)

/-- The first result array is the basis. -/
theorem arr4 (c : Dev nD) : (dats m 0 c).arrAt 4 cfg0.N = qArr m c :=
  (dats m 0 c).arrAt_eq_of_cover 4 (qArr m c)
    (fun t _ => by
      rw [flushed4, outs1]
      exact funext fun y => flushed4_eq m c t y)
    fun i => by
      have h0 : (i 0 : Nat) < 56 := (i 0).isLt
      have h1 : (i 1 : Nat) < 524288 := (i 1).isLt
      have hN : cfg0.N = 64 := N_0
      let t : Fin cfg0.N := ⟨(i 1 : Nat) / 8192, by omega⟩
      refine ⟨t, flush0_4 t, ?_⟩
      show i ∈ ((View.whole main_v1_0).slice (win0_4.rect t)).set
      rw [View.set_slice_whole, Rect.mem_set_unit]
      intro a
      match a with
      | ⟨0, _⟩ => show win0_4.index t 0 * 56 ≤ (i 0 : Nat) ∧ (i 0 : Nat) < win0_4.index t 0 * 56 + 56; rw [(idx4 t).1]; omega
      | ⟨1, _⟩ => show win0_4.index t 1 * 8192 ≤ (i 1 : Nat) ∧ (i 1 : Nat) < win0_4.index t 1 * 8192 + 8192; rw [(idx4 t).2]; show (i 1 : Nat) / 8192 * 8192 ≤ _ ∧ _ < (i 1 : Nat) / 8192 * 8192 + 8192; omega

/-- What column `s` contributes to the product of the basis with the codes. -/
def wOf (c : Dev nD) (j : Fin 56) (n : Fin 704) (s : Fin 524288) : EReal :=
  (qAt m c j s * m ((c : Thread nD τ).loc main_arg1) (at2 (0 : Fin 1) s)) * code (m ((c : Thread nD τ).loc main_arg0) (at3 n s))

/-- A block's column contributes what the array's column does. -/
theorem wTerm_eq (c : Dev nD) (t : Fin cfg0.N) (j : Fin 56) (n : Fin 704) (l : Fin 8192) :
    wTerm (iblk m c 0 t) (iblk m c 1 t) (iblk m c 2 t) (iblk m c 3 t) j n l = wOf m c j n (col t l) := by
  unfold wTerm wOf
  rw [qBlk_apply, iblk0, iblk1]

/-- The product of the basis with the codes. -/
def wArr (c : Dev nD) : Buf (Elt Ideal) ((c : Thread nD τ).loc main_v1_1) := fun i => (∑ s : Fin 524288, wOf m c (i 0) (i 1) s : EReal)

/-- The product starts at zero. -/
theorem zero5 (i : S56x704.Idx) : (k0_pay3 (F := Ideal) i : EReal) = 0 := Ideal.ofBits_zero_f32

/-- After point `n` the second output's buffer holds the product over the columns of the blocks so far. -/
theorem outs2 (c : Dev nD) (j : Fin 56) (n : Fin 704) (g : Nat → EReal) (hg : ∀ s : Fin 524288, g s.val = wOf m c j n s) :
    ∀ (k : Nat) (h : k < cfg0.N), ((outsAt0 m c k h).2 (at2 j n) : EReal) = ∑ i ∈ Finset.range (8192 * (k + 1)), g i := by
  have hN : cfg0.N = 64 := N_0
  have blk : ∀ t : Fin cfg0.N, ∑ l : Fin 8192, wTerm (iblk m c 0 t) (iblk m c 1 t) (iblk m c 2 t) (iblk m c 3 t) j n l
      = ∑ i ∈ Finset.range 8192, g (8192 * t.val + i) := fun t => by
    rw [Finset.sum_range (n := 8192)]
    exact Finset.sum_congr rfl fun l _ => (wTerm_eq m c t j n l).trans (hg (col t l)).symm
  intro k
  induction k with
  | zero =>
    intro h
    rw [outs2_A m c ⟨0, h⟩ rfl, wSum_apply, zero5, zero_add, blk]
    simp only [Nat.mul_zero, Nat.zero_add, Nat.mul_one]
  | succ k ih =>
    intro h
    have hB : ¬(⟨k + 1, h⟩ : Fin cfg0.N).val % 64 = 0 := by dsimp only; omega
    rw [outs2_B m c ⟨k + 1, h⟩ hB, wSum_apply, blk]
    refine (congrArg (· + _) (ih (by omega))).trans ?_
    rw [Nat.mul_succ 8192 (k + 1), Finset.sum_range_add]

/-- What the last point writes back to the second result array is the product. -/
theorem flushed5_eq (c : Dev nD) (t : Fin cfg0.N) (ht : t.val = 63) (y : S56x704.Idx) :
    ((outsAt0 m c t.val t.isLt).2 y : EReal) = wArr m c (((cfg0.win 5).blk t).view.emb y) := by
  have e : (((cfg0.win 5).blk t).view.emb y : S56x704.Idx) = at2 (y 0) (y 1) := funext fun a => Fin.ext (by
    match a with
    | ⟨0, _⟩ => show win0_5.index t 0 * 56 + 1 * (y 0).val = (y 0).val; rw [(idx5 t).1]; omega
    | ⟨1, _⟩ => show win0_5.index t 1 * 704 + 1 * (y 1).val = (y 1).val; rw [(idx5 t).2]; omega)
  refine Eq.trans ?_ (congrArg (wArr m c) e).symm
  rw [ValueIdx.eq_ix2 y]
  refine (outs2 m c (y 0) (y 1) (fun i => if h : i < 524288 then wOf m c (y 0) (y 1) ⟨i, h⟩ else 0) (fun s => dif_pos s.isLt) t.val t.isLt).trans ?_
  rw [ht]
  exact (Finset.sum_range (n := 524288) _).trans (Finset.sum_congr rfl fun s _ => dif_pos s.isLt)

/-- The second result array is what the last point leaves in the second output's buffer. -/
theorem arr5_of (c : Dev nD) (G : Buf (Elt Ideal) ((c : Thread nD τ).loc main_v1_1))
    (hG : ∀ t : Fin cfg0.N, t.val = 63 → (outsAt0 m c t.val t.isLt).2 = (fun y => G (((cfg0.win 5).blk t).view.emb y) : Vec Ideal S56x704 .f32)) :
    (dats m 0 c).arrAt 5 cfg0.N = G :=
  (dats m 0 c).arrAt_eq_of_cover 5 G
    (fun t hf => by
      have hN : cfg0.N = 64 := N_0
      have ht : t.val = 63 := by have := (flush0_5 t).mp hf; have := t.isLt; omega
      rw [flushed5, hG t ht]
      exact funext fun y => rfl)
    fun i => by
      have h0 : (i 0 : Nat) < 56 := (i 0).isLt
      have h1 : (i 1 : Nat) < 704 := (i 1).isLt
      have hN : cfg0.N = 64 := N_0
      obtain ⟨t, ht⟩ : ∃ t : Fin cfg0.N, t.val = 63 := ⟨⟨63, by omega⟩, rfl⟩
      refine ⟨t, (flush0_5 t).mpr (by rw [ht]), ?_⟩
      show i ∈ ((View.whole main_v1_1).slice (win0_5.rect t)).set
      rw [View.set_slice_whole, Rect.mem_set_unit]
      intro a
      match a with
      | ⟨0, _⟩ => show win0_5.index t 0 * 56 ≤ (i 0 : Nat) ∧ (i 0 : Nat) < win0_5.index t 0 * 56 + 56; rw [(idx5 t).1]; omega
      | ⟨1, _⟩ => show win0_5.index t 1 * 704 ≤ (i 1 : Nat) ∧ (i 1 : Nat) < win0_5.index t 1 * 704 + 704; rw [(idx5 t).2]; omega

/-- The second result array is the product of the basis with the codes. -/
theorem arr5 (c : Dev nD) : (dats m 0 c).arrAt 5 cfg0.N = wArr m c :=
  arr5_of m c (wArr m c) fun t ht => funext fun y => flushed5_eq m c t ht y

/-- The run of the backward kernel: the basis, the product of the basis with the codes, and the operands unchanged. -/
theorem run_value : θ_run defs (onTc (τ := τ) (main (F := Ideal))) ⟨m, fun _ => 0, ρ⟩ fun r => ∀ c : Dev nD,
      r.2.mem ((c : Thread nD τ).loc main_v1_0) = qArr m c
      ∧ r.2.mem ((c : Thread nD τ).loc main_v1_1) = wArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2⟩) (run_blocks m ρ)

end Cert.BackwardIdeal.Value

end
-- ==== Proof.ForwardValue.lean ====
/-
  What the forward kernel's first result array holds over the extended reals, as a function of its operand arrays.
-/
module

public import proofs.«01_k».proof.Proof.Chunk
public import proofs.«01_k».proof.Proof.Gen.ForwardIdeal.Value
public import Idealize.ShloMosaic.Lib.Pipeline.ReadBack
public import Idealize.ShloMosaic.Lib.StableHlo.Run
public import Idealize.ShloMosaic.Lib.Tactic

@[expose] public section

set_option maxRecDepth 16384

noncomputable section

namespace Cert.ForwardIdeal.Value

open Cert.ForwardIdeal Cert.ForwardIdeal.Gen Idealize.ShloMosaic Idealize.ShloMosaic.TcCoe Idealize.SL.Sem Cert.Chunk
open Idealize.ShloMosaic.Pipeline (Dat)

/-- The offsets are zero. -/
theorem hz : (![0, 0] : Fin 2 → Nat) = fun _ => 0 := funext fun a => by fin_cases a <;> rfl

/-- One element of the sketch from the codes, the scales and the transposed random matrix. -/
def yBlk (x0 : Vec Ideal S704x8192 .i8) (x1 : Vec Ideal S1x8192 .f32) (x2 : Vec Ideal S56x704 .bf16) : Vec Ideal S56x8192 .f32 :=
  fun i => ((∑ n : Fin 704, x2 (at2 (i 0) n) * code (x0 (at2 n (i 1)))) * x1 (at2 0 (i 1)) : EReal)

/-- The random matrix's load, recast to its own shape, is the load. -/
theorem pay477 (x : Vec Ideal S56x704 .bf16) : k0_pay477 x = x := shapeCast_self _ _

/-- A chunk of columns lies inside the sketch's block where it lies inside the codes' block. -/
theorem inbY {o : Nat} (h : ∀ a : Fin S704x8192.rank, ![0, o] a + S704x512.size a ≤ S704x8192.size a) (a : Fin S56x8192.rank) :
    ![0, o] a + S56x512.size a ≤ S56x8192.size a := by
  match a with
  | ⟨0, _⟩ => show 0 + 56 ≤ 56; omega
  | ⟨1, _⟩ => exact h 1

/-- The chunk of the sketch that starts at column `o` is the block's part there. -/
theorem piece_y (x0 : Vec Ideal S704x8192 .i8) (x1 : Vec Ideal S1x8192 .f32) (x2 : Vec Ideal S56x704 .bf16) (o : Nat) (inb0 inb1) (x : S56x512.Idx) :
    (yC (F := Ideal) dot_S56x704_S704x512_S56x512_1_0_0_1_n_n_wf shapeCasts_S704x512_S704x512 broadcasts_S1x512_S56x512 (k0_pay477 x2)
      (View.ld x0 (Rect.unit (s := S704x8192) ![0, o] S704x512.size inb0)) (View.ld x1 (Rect.unit (s := S1x8192) ![0, o] S1x512.size inb1)) x : EReal)
      = yBlk x0 x1 x2 ((Rect.unit (s := S56x8192) ![0, o] S56x512.size (inbY inb0)).emb x) := by
  rw [ValueIdx.eq_ix2 x, pay477]
  refine (yC_apply _ _ _ x2 _ _ _ _).trans ?_
  unfold yBlk
  have e0 : (((Rect.unit (s := S56x8192) ![0, o] S56x512.size (inbY inb0)).emb (at2 (x 0) (x 1)) 0 : Fin 56)) = x 0 :=
    Fin.ext (by show 0 + 1 * (x 0).val = (x 0).val; omega)
  refine congrArg₂ (· * ·) (Finset.sum_congr rfl fun n _ => congrArg₂ (· * ·) ?_ ?_) ?_
  · exact congrArg (fun z : Fin 56 => x2 (at2 z n)) e0.symm
  · exact congrArg (fun z => code (x0 z)) (funext fun a => Fin.ext (by match a with | ⟨0, _⟩ => show 0 + 1 * n.val = n.val; omega | ⟨1, _⟩ => rfl))
  · exact congrArg x1 (funext fun a => Fin.ext (by match a with | ⟨0, _⟩ => rfl | ⟨1, _⟩ => rfl))

/-- The first point leaves the block of the sketch in the first output's buffer. -/
theorem out3_A (c : Dev nD) (i : grid0.Coords) (a1 h1 a2 h2 a3 h3 a4 h4 a5 h5 a6 h6) (hc0 : cond0_0 i) (hc1 : ¬cond0_1 i) (x0 : Vec Ideal S704x8192 .i8)
    (x1 : Vec Ideal S1x8192 .f32) (x2 : Vec Ideal S56x704 .bf16) :
    out0_A_3 c i a1 h1 a2 h2 a3 h3 a4 h4 a5 h5 a6 h6 hc0 hc1 x0 x1 x2 = yBlk x0 x1 x2 := by
  unfold out0_A_3
  rw [View.read_writes_eq_canon _ _ _ (cover0_A_3 c i a1 h1 a2 h2 a3 h3 a4 h4 a5 h5 a6 h6 hc0 hc1 x0 x1 x2)]
  funext y
  refine View.canon_apply_of_pieces (yBlk x0 x1 x2) _ (View.PiecesOf.mem ?_) y (cover0_A_3 c i a1 h1 a2 h2 a3 h3 a4 h4 a5 h5 a6 h6 hc0 hc1 x0 x1 x2 y)
  unfold kernelRun0_A
  dsimp only
  sl_unfold_words
  simp only [View.readAt_eq_ld, h1.read_unread, h2.read_unread, h3.read_unread, View.ld_unit_zero (S := S56x704) hz]
  refine ⟨?_, ?_, ?_, ?_, ?_, ?_, ?_, ?_, ?_, ?_, ?_, ?_, ?_, ?_, ?_, ?_, trivial⟩ <;> exact fun x => piece_y x0 x1 x2 _ _ _ x

/-- A middle point leaves the block of the sketch in the first output's buffer. -/
theorem out3_B (c : Dev nD) (i : grid0.Coords) (a1 h1 a2 h2 a3 h3 a4 h4 a5 h5 a6 h6) (hc0 : ¬cond0_0 i) (hc1 : ¬cond0_1 i) (x0 : Vec Ideal S704x8192 .i8)
    (x1 : Vec Ideal S1x8192 .f32) (x2 : Vec Ideal S56x704 .bf16) (xs : Vec Ideal S168x112 .f32) :
    out0_B_3 c i a1 h1 a2 h2 a3 h3 a4 h4 a5 h5 a6 h6 hc0 hc1 x0 x1 x2 xs = yBlk x0 x1 x2 := by
  unfold out0_B_3
  rw [View.read_writes_eq_canon _ _ _ (cover0_B_3 c i a1 h1 a2 h2 a3 h3 a4 h4 a5 h5 a6 h6 hc0 hc1 x0 x1 x2 xs)]
  funext y
  refine View.canon_apply_of_pieces (yBlk x0 x1 x2) _ (View.PiecesOf.mem ?_) y (cover0_B_3 c i a1 h1 a2 h2 a3 h3 a4 h4 a5 h5 a6 h6 hc0 hc1 x0 x1 x2 xs y)
  unfold kernelRun0_B
  dsimp only
  sl_unfold_words
  simp only [View.readAt_eq_ld, h1.read_unread, h2.read_unread, h3.read_unread, View.ld_unit_zero (S := S56x704) hz]
  refine ⟨?_, ?_, ?_, ?_, ?_, ?_, ?_, ?_, ?_, ?_, ?_, ?_, ?_, ?_, ?_, ?_, trivial⟩ <;> exact fun x => piece_y x0 x1 x2 _ _ _ x

/-- The last point leaves the block of the sketch in the first output's buffer. -/
theorem out3_C (c : Dev nD) (i : grid0.Coords) (a1 h1 a2 h2 a3 h3 a4 h4 a5 h5 a6 h6) (hc0 : ¬cond0_0 i) (hc1 : cond0_1 i) (x0 : Vec Ideal S704x8192 .i8)
    (x1 : Vec Ideal S1x8192 .f32) (x2 : Vec Ideal S56x704 .bf16) (xs : Vec Ideal S168x112 .f32) :
    out0_C_3 c i a1 h1 a2 h2 a3 h3 a4 h4 a5 h5 a6 h6 hc0 hc1 x0 x1 x2 xs = yBlk x0 x1 x2 := by
  unfold out0_C_3
  rw [View.read_writes_eq_canon _ _ _ (cover0_C_3 c i a1 h1 a2 h2 a3 h3 a4 h4 a5 h5 a6 h6 hc0 hc1 x0 x1 x2 xs)]
  funext y
  refine View.canon_apply_of_pieces (yBlk x0 x1 x2) _ (View.PiecesOf.mem ?_) y (cover0_C_3 c i a1 h1 a2 h2 a3 h3 a4 h4 a5 h5 a6 h6 hc0 hc1 x0 x1 x2 xs y)
  unfold kernelRun0_C
  dsimp only
  sl_unfold_words
  simp only [View.readAt_eq_ld, h1.read_unread, h2.read_unread, h3.read_unread, View.ld_unit_zero (S := S56x704) hz]
  refine ⟨?_, ?_, ?_, ?_, ?_, ?_, ?_, ?_, ?_, ?_, ?_, ?_, ?_, ?_, ?_, ?_, trivial⟩ <;> exact fun x => piece_y x0 x1 x2 _ _ _ x

end Cert.ForwardIdeal.Value

end
-- ==== Proof.ForwardArrays.lean ====
/-
  The forward kernel's first result array over the extended reals, as a function of its operand arrays.
-/
module

public import proofs.«01_k».proof.Proof.ForwardValue

@[expose] public section

set_option maxRecDepth 16384

noncomputable section

namespace Cert.ForwardIdeal.Value

open Cert.ForwardIdeal Cert.ForwardIdeal.Gen Idealize.ShloMosaic Idealize.ShloMosaic.TcCoe Idealize.SL.Sem Cert.Chunk
open Idealize.ShloMosaic.Pipeline (Dat)

variable (m : (ℓ : Loc nD τ sig) → Buf (Elt Ideal) ℓ) (ρ : Dev nD → PrngReg)

/-- An index of a three-dimensional shape with one matrix. -/
abbrev at3 (n : Fin 704) (s : Fin 524288) : S1x704x524288.Idx := ValueIdx.ix3 (0 : Fin 1) n s

/-- The reshaped codes when the kernel is entered. -/
theorem V_main_v0 (c : Dev nD) :
    V m c main_v0 = shapeCast S704x524288 (m ((c : Thread nD τ).loc main_arg0)) shapeCasts_S1x704x524288_S704x524288 := by
  show StableHlo.after hostOps0 _ (Proc.devRef .tc main_v0) = _
  after_results
  rfl

/-- The reshaped codes at an index. -/
theorem V_main_v0_apply (c : Dev nD) (n : Fin 704) (s : Fin 524288) :
    V m c main_v0 (at2 n s) = m ((c : Thread nD τ).loc main_arg0) (at3 n s) := by
  rw [V_main_v0]
  exact shapeCast_apply _ shapeCasts_S1x704x524288_S704x524288 (at2 n s) (at3 n s)
    (by rw [Shape.rowMajor_val_three, Shape.rowMajor_val_two]; show (0 * 704 + n.val) * 524288 + s.val = n.val * 524288 + s.val; omega)

/-- The transposed random matrix when the kernel is entered. -/
theorem V_main_v1 (c : Dev nD) :
    V m c main_v1 = transpose S56x704 [1, 0] (m ((c : Thread nD τ).loc main_arg2)) transposes_S704x56_S56x704_1_0 := by
  show StableHlo.after hostOps0 _ (Proc.devRef .tc main_v1) = _
  after_results

/-- The transposed random matrix at an index. -/
theorem V_main_v1_apply (c : Dev nD) (j : Fin 56) (n : Fin 704) :
    V m c main_v1 (at2 j n) = m ((c : Thread nD τ).loc main_arg2) (at2 n j) := by
  rw [V_main_v1]
  exact Idealize.ShloMosaic.transpose_apply _ _ _ (at2 j n) (at2 n j) (fun b => match b with | ⟨0, _⟩ => rfl | ⟨1, _⟩ => rfl)

/-- Column `l` of block `t`, as a column of the whole array. -/
def col (t : Fin cfg0.N) (l : Fin 8192) : Fin 524288 := ⟨8192 * t.val + l.val, by have := t.isLt; have hN : cfg0.N = 64 := N_0; omega⟩

/-- Where a grid point finds its block of operand 0. -/
theorem idx0 : ∀ t : Fin cfg0.N, win0_0.index t 0 = 0 ∧ win0_0.index t 1 = t.val := (by decide +kernel : ∀ t : Fin grid0.N, _)
/-- Where a grid point finds its block of operand 1. -/
theorem idx1 : ∀ t : Fin cfg0.N, win0_1.index t 0 = 0 ∧ win0_1.index t 1 = t.val := (by decide +kernel : ∀ t : Fin grid0.N, _)
/-- Where a grid point finds its block of operand 2. -/
theorem idx2 : ∀ t : Fin cfg0.N, win0_2.index t 0 = 0 ∧ win0_2.index t 1 = 0 := (by decide +kernel : ∀ t : Fin grid0.N, _)
/-- Where a grid point finds its block of operand 3. -/
theorem idx3 : ∀ t : Fin cfg0.N, win0_3.index t 0 = 0 ∧ win0_3.index t 1 = t.val := (by decide +kernel : ∀ t : Fin grid0.N, _)

/-- A block of the codes at an index. -/
theorem iblk0 (c : Dev nD) (t : Fin cfg0.N) (n : Fin 704) (l : Fin 8192) :
    (iblk m c 0 t : Vec Ideal S704x8192 .i8) (at2 n l) = m ((c : Thread nD τ).loc main_arg0) (at3 n (col t l)) := by
  unfold iblk
  rw [View.read_apply]
  refine Eq.trans ?_ (V_main_v0_apply m c n (col t l))
  show V m c main_v0 _ = V m c main_v0 _
  refine congrArg _ (funext fun a => Fin.ext ?_)
  match a with
  | ⟨0, _⟩ => show win0_0.index t 0 * 704 + 1 * n.val = n.val; rw [(idx0 t).1]; omega
  | ⟨1, _⟩ => show win0_0.index t 1 * 8192 + 1 * l.val = 8192 * t.val + l.val; rw [(idx0 t).2]; omega

/-- A block of the scales at an index. -/
theorem iblk1 (c : Dev nD) (t : Fin cfg0.N) (l : Fin 8192) :
    (iblk m c 1 t : Vec Ideal S1x8192 .f32) (at2 0 l) = m ((c : Thread nD τ).loc main_arg1) (at2 (0 : Fin 1) (col t l)) := by
  unfold iblk
  rw [View.read_apply, ← V_main_arg1 m c]
  show V m c main_arg1 _ = V m c main_arg1 _
  refine congrArg _ (funext fun a => Fin.ext ?_)
  match a with
  | ⟨0, _⟩ => show win0_1.index t 0 * 1 + 1 * 0 = 0; rw [(idx1 t).1]
  | ⟨1, _⟩ => show win0_1.index t 1 * 8192 + 1 * l.val = 8192 * t.val + l.val; rw [(idx1 t).2]; omega

/-- The random matrix's block is the transposed random matrix. -/
theorem iblk2 (c : Dev nD) (t : Fin cfg0.N) (j : Fin 56) (n : Fin 704) :
    (iblk m c 2 t : Vec Ideal S56x704 .bf16) (at2 j n) = m ((c : Thread nD τ).loc main_arg2) (at2 n j) := by
  unfold iblk
  rw [View.read_apply]
  refine Eq.trans ?_ (V_main_v1_apply m c j n)
  show V m c main_v1 _ = V m c main_v1 _
  refine congrArg _ (funext fun a => Fin.ext ?_)
  match a with
  | ⟨0, _⟩ => show win0_2.index t 0 * 56 + 1 * j.val = j.val; rw [(idx2 t).1]; omega
  | ⟨1, _⟩ => show win0_2.index t 1 * 704 + 1 * n.val = n.val; rw [(idx2 t).2]; omega

/-- One element of the sketch from a column of the random matrix, a column of the codes and a scale. -/
def yOf (x : Fin 704 → EReal) (a : Fin 704 → BitVec 8) (s : EReal) : EReal := (∑ n : Fin 704, x n * code (a n)) * s

/-- One element of the sketch, from the operand arrays. -/
def yAt (c : Dev nD) (j : Fin 56) (s : Fin 524288) : EReal :=
  yOf (fun n => m ((c : Thread nD τ).loc main_arg2) (at2 n j)) (fun n => m ((c : Thread nD τ).loc main_arg0) (at3 n s))
    (m ((c : Thread nD τ).loc main_arg1) (at2 (0 : Fin 1) s))

/-- The sketch. -/
def yArr (c : Dev nD) : Buf (Elt Ideal) ((c : Thread nD τ).loc main_v2_0) := fun i => yAt m c (i 0) (i 1)

/-- A block of the sketch is the sketch's part there. -/
theorem yBlk_apply (c : Dev nD) (t : Fin cfg0.N) (j : Fin 56) (l : Fin 8192) :
    (yBlk (iblk m c 0 t) (iblk m c 1 t) (iblk m c 2 t) (at2 j l) : EReal) = yAt m c j (col t l) := by
  unfold yBlk yAt yOf
  exact congrArg₂ (fun a b : EReal => a * b) (Finset.sum_congr rfl fun n _ => congrArg₂ (fun a b : EReal => a * b) (iblk2 m c t j n) (congrArg code (iblk0 m c t n l))) (iblk1 m c t l)

/-- Every point leaves its block of the sketch in the first output's buffer. -/
theorem outs3 (c : Dev nD) (t : Fin cfg0.N) : (outsAt0 m c t.val t.isLt).1 = yBlk (iblk m c 0 t) (iblk m c 1 t) (iblk m c 2 t) := by
  by_cases h0 : t.val % 64 = 0
  · have e := congrArg Prod.fst (outsAt0_A m c t h0 (by omega))
    dsimp only at e
    rw [out3_A] at e
    exact e
  · by_cases h1 : t.val % 64 = 63
    · have e := congrArg Prod.fst (outsAt0_C m c t h0 h1)
      dsimp only at e
      rw [out3_C] at e
      exact e
    · have e := congrArg Prod.fst (outsAt0_B m c t h0 h1)
      dsimp only at e
      rw [out3_B] at e
      exact e

/-- What a point writes back to the first result array is the sketch's part there. -/
theorem flushed3_val (c : Dev nD) (t : Fin cfg0.N) (y : S56x8192.Idx) :
    (yBlk (iblk m c 0 t) (iblk m c 1 t) (iblk m c 2 t) y : EReal) = yArr m c (((cfg0.win 3).blk t).view.emb y) := by
  rw [ValueIdx.eq_ix2 y]
  refine (yBlk_apply m c t (y 0) (y 1)).trans ?_
  unfold yArr
  congr 1
  · exact Fin.ext (by show (y 0).val = win0_3.index t 0 * 56 + 1 * (y 0).val; rw [(idx3 t).1]; omega)
  · exact Fin.ext (by show 8192 * t.val + (y 1).val = win0_3.index t 1 * 8192 + 1 * (y 1).val; rw [(idx3 t).2]; omega)

/-- The first result array is the sketch. -/
theorem arr3 (c : Dev nD) : (dats m 0 c).arrAt 3 cfg0.N = yArr m c :=
  (dats m 0 c).arrAt_eq_of_cover 3 (yArr m c)
    (fun t _ => by
      rw [flushed3, outs3]
      exact funext fun y => flushed3_val m c t y)
    fun i => by
      have h0 : (i 0 : Nat) < 56 := (i 0).isLt
      have h1 : (i 1 : Nat) < 524288 := (i 1).isLt
      have hN : cfg0.N = 64 := N_0
      let t : Fin cfg0.N := ⟨(i 1 : Nat) / 8192, by omega⟩
      refine ⟨t, flush0_3 t, ?_⟩
      show i ∈ ((View.whole main_v2_0).slice (win0_3.rect t)).set
      rw [View.set_slice_whole, Rect.mem_set_unit]
      intro a
      match a with
      | ⟨0, _⟩ => show win0_3.index t 0 * 56 ≤ (i 0 : Nat) ∧ (i 0 : Nat) < win0_3.index t 0 * 56 + 56; rw [(idx3 t).1]; omega
      | ⟨1, _⟩ => show win0_3.index t 1 * 8192 ≤ (i 1 : Nat) ∧ (i 1 : Nat) < win0_3.index t 1 * 8192 + 8192; rw [(idx3 t).2]; show (i 1 : Nat) / 8192 * 8192 ≤ _ ∧ _ < (i 1 : Nat) / 8192 * 8192 + 8192; omega

/-- The run of the forward kernel: the sketch, and the operands unchanged. -/
theorem run_value : θ_run defs (onTc (τ := τ) (main (F := Ideal))) ⟨m, fun _ => 0, ρ⟩ fun r => ∀ c : Dev nD,
      r.2.mem ((c : Thread nD τ).loc main_v2_0) = yArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2.2⟩) (run_blocks m ρ)

end Cert.ForwardIdeal.Value

end
-- ==== Proof.Finite.lean ====
/-
  Sums and products of finite extended reals, and what they make of the three stacked parts of a factor.
-/
module

public import proofs.«01_k».proof.Proof.Chunk

@[expose] public section

noncomputable section

namespace Cert.Chunk

open Idealize.ShloMosaic

/-- The number an 8-bit code stands for is the number that its widening to 32 bits stands for. -/
theorem code_widened (a : BitVec 8) : (FloatOps.sitofp (F := Ideal) .bf16 (a.signExtend 32) : EReal) = code a := by
  show (((a.signExtend 32).toInt : ℝ) : EReal) = ((a.toInt : ℝ) : EReal)
  rw [BitVec.toInt_signExtend_of_le (by omega)]

/-- An extended real whose absolute value is below infinity is a real. -/
theorem real_of_abs_lt {x : EReal} (h : max x (-x) < ⊤) : ∃ r : ℝ, x = r := by
  induction x with
  | bot => exact absurd h (by simp)
  | top => exact absurd h (by simp)
  | coe r => exact ⟨r, rfl⟩

/-- A sum of products of reals with the stacked parts of a real column is the sum over the column: the other two parts are zero. -/
theorem sum_parts (p : Fin 168 → ℝ) (y : Fin 56 → ℝ) :
    ∑ k : Fin 168, (p k : EReal) * partsCol (fun n => (y n : EReal)) k = ∑ k : Fin 56, (p ⟨k.val, by omega⟩ : EReal) * (y k : EReal) := by
  have z : ∀ r : ℝ, (r : EReal) - (r : EReal) = 0 := fun r => by rw [← EReal.coe_sub, sub_self, EReal.coe_zero]
  rw [show (∑ k : Fin 168, (p k : EReal) * partsCol (fun n => (y n : EReal)) k)
      = ∑ k : Fin (56 + 112), (p k : EReal) * partsCol (fun n => (y n : EReal)) k from rfl, Fin.sum_univ_add]
  rw [Finset.sum_eq_zero (f := fun k : Fin 112 => _), add_zero]
  · refine Finset.sum_congr rfl fun k _ => ?_
    unfold partsCol
    rw [dif_pos (show (Fin.castAdd 112 k).val < 56 from k.isLt)]
    rfl
  · intro k _
    unfold partsCol
    rw [dif_neg (show ¬(Fin.natAdd 56 k).val < 56 by simp)]
    split_ifs
    · rw [z, mul_zero]
    · rw [z, sub_zero, mul_zero]

/-- For reals, an element of the basis is the sum over the column of the three factors' sum times the column. -/
theorem qCol_real (p : Fin 168 → Fin 168 → EReal) (y : Fin 56 → EReal) (hp : ∀ a b, ∃ r : ℝ, p a b = r) (hy : ∀ n, ∃ r : ℝ, y n = r) (j : Fin 56) :
    qCol p y j = ∑ k : Fin 56, ((p ⟨j.val, by omega⟩ ⟨k.val, by omega⟩ + p ⟨56 + j.val, by omega⟩ ⟨k.val, by omega⟩)
      + p ⟨112 + j.val, by omega⟩ ⟨k.val, by omega⟩) * y k := by
  choose P hP using hp
  choose Y hY using hy
  obtain rfl : y = fun n => (Y n : EReal) := funext hY
  obtain rfl : p = fun a b => (P a b : EReal) := funext fun a => funext fun b => hP a b
  unfold qCol
  rw [sum_parts, sum_parts, sum_parts, ← Finset.sum_add_distrib, ← Finset.sum_add_distrib]
  refine Finset.sum_congr rfl fun k _ => ?_
  rw [← EReal.coe_add, ← EReal.coe_add, ← EReal.coe_mul, ← EReal.coe_mul, ← EReal.coe_mul, ← EReal.coe_mul, ← EReal.coe_add, ← EReal.coe_add, add_mul, add_mul]

end Cert.Chunk

end
-- ==== Proof.References.lean ====
/-
  The references' results at an index, over the extended reals.
-/
module

public import proofs.«01_k».proof.Proof.ForwardArrays
public import proofs.«01_k».proof.Proof.Finite
public import proofs.«01_k».proof.Proof.Gen.RefForwardIdeal.Run
public import proofs.«01_k».proof.Proof.Gen.RefForwardIdeal.Read
public import proofs.«01_k».proof.Proof.Gen.RefBackwardIdeal.Run
public import proofs.«01_k».proof.Proof.Gen.RefBackwardIdeal.Read

@[expose] public section

set_option maxRecDepth 16384

noncomputable section

namespace Cert.References

open Idealize.ShloMosaic Cert.Chunk
open Cert.ForwardIdeal.Value (yOf at3)

section Forward
open Cert.RefForwardIdeal Cert.RefForwardIdeal.Read

/-- The forward reference's codes at an index. -/
theorem fcode (x0 : (⟨S1x704x524288, .i8⟩ : BufTy).Contents (Elt Ideal)) (n : Fin 704) (s : Fin 524288) :
    (val_main_v2 (F := Ideal) x0 (at2 n s) : EReal) = code (x0 (at3 n s)) := by
  rw [val_main_v2_apply, val_main_v1_apply, val_main_v0_apply]
  refine (code_widened _).trans (congrArg (fun z => code (x0 z)) (funext fun a => Fin.ext ?_))
  match a with
  | ⟨0, _⟩ => rfl
  | ⟨1, _⟩ => show (n.val * 524288 + s.val) / 524288 % 704 = n.val; omega
  | ⟨2, _⟩ => show (n.val * 524288 + s.val) % 524288 = s.val; omega

/-- The forward reference's result at an index. -/
theorem ysketch (x0 : (⟨S1x704x524288, .i8⟩ : BufTy).Contents (Elt Ideal)) (x1 : (⟨S1x524288, .f32⟩ : BufTy).Contents (Elt Ideal))
    (x2 : (⟨S704x56, .bf16⟩ : BufTy).Contents (Elt Ideal)) (i : S56x524288.Idx) :
    (val_main_v5 (F := Ideal) x0 x1 x2 i : EReal) = yOf (fun n => x2 (at2 n (i 0))) (fun n => x0 (at3 n (i 1))) (x1 (at2 (0 : Fin 1) (i 1))) := by
  rw [val_main_v5_apply, val_main_v3_apply, val_main_v4_apply]
  unfold yOf
  refine congrArg₂ (fun a b : EReal => a * b) (Finset.sum_congr rfl fun n _ => congrArg₂ (fun a b : EReal => a * b) ?_ ?_) ?_
  · exact congrArg x2 (funext fun a => match a with | ⟨0, _⟩ => rfl | ⟨1, _⟩ => rfl)
  · refine Eq.trans ?_ (fcode x0 n (i 1))
    exact congrArg (val_main_v2 (F := Ideal) x0) (funext fun a => match a with | ⟨0, _⟩ => rfl | ⟨1, _⟩ => rfl)
  · exact congrArg x1 (funext fun a => match a with | ⟨0, _⟩ => rfl | ⟨1, _⟩ => rfl)

end Forward

section Backward
open Cert.RefBackwardIdeal Cert.RefBackwardIdeal.Read

/-- The backward reference's codes at an index. -/
theorem bcode (x0 : (⟨S1x704x524288, .i8⟩ : BufTy).Contents (Elt Ideal)) (n : Fin 704) (s : Fin 524288) :
    (val_main_v2 (F := Ideal) x0 (at2 n s) : EReal) = code (x0 (at3 n s)) := by
  rw [val_main_v2_apply, val_main_v1_apply, val_main_v0_apply]
  refine (code_widened _).trans (congrArg (fun z => code (x0 z)) (funext fun a => Fin.ext ?_))
  match a with
  | ⟨0, _⟩ => rfl
  | ⟨1, _⟩ => show (n.val * 524288 + s.val) / 524288 % 704 = n.val; omega
  | ⟨2, _⟩ => show (n.val * 524288 + s.val) % 524288 = s.val; omega

/-- The backward reference's factor at an index is the sum of its three parts. -/
theorem bfactor (x3 : (⟨S168x168, .bf16⟩ : BufTy).Contents (Elt Ideal)) (j k : Fin 56) :
    (val_main_v10 (F := Ideal) x3 (at2 j k) : EReal)
      = ((x3 (at2 (⟨j.val, by omega⟩ : Fin 168) (⟨k.val, by omega⟩ : Fin 168)) : EReal) + (x3 (at2 (⟨56 + j.val, by omega⟩ : Fin 168) (⟨k.val, by omega⟩ : Fin 168)) : EReal))
        + (x3 (at2 (⟨112 + j.val, by omega⟩ : Fin 168) (⟨k.val, by omega⟩ : Fin 168)) : EReal) := by
  rw [val_main_v10_apply, val_main_v9_apply, val_main_v4_apply, val_main_v6_apply, val_main_v8_apply, val_main_v3_apply, val_main_v5_apply, val_main_v7_apply]
  refine congrArg₂ (fun a b : EReal => a + b) (congrArg₂ (fun a b : EReal => a + b) ?_ ?_) ?_ <;>
    exact congrArg x3 (funext fun a => Fin.ext (by match a with | ⟨0, _⟩ => simp | ⟨1, _⟩ => simp))

/-- The backward reference's first result at an index, for a finite sketch and a finite factor: the kernel's element of the basis. -/
theorem bbasis (x2 : (⟨S56x524288, .f32⟩ : BufTy).Contents (Elt Ideal)) (x3 : (⟨S168x168, .bf16⟩ : BufTy).Contents (Elt Ideal))
    (h2 : ∀ i, ∃ r : ℝ, (x2 i : EReal) = r) (h3 : ∀ i, ∃ r : ℝ, (x3 i : EReal) = r) (j : Fin 56) (s : Fin 524288) :
    (val_main_v12 (F := Ideal) x2 x3 (at2 j s) : EReal) = qCol (fun a b => x3 (at2 a b)) (fun n => x2 (at2 n s)) j := by
  rw [qCol_real _ _ (fun a b => h3 _) (fun n => h2 _)]
  refine (val_main_v12_apply x2 x3 (at2 j s)).trans ?_
  show (val_main_v11 (F := Ideal) x2 x3 (at2 j s) : EReal) = _
  rw [val_main_v11_apply]
  refine Finset.sum_congr rfl fun k _ => congrArg₂ (fun a b : EReal => a * b) ?_ ?_
  · refine Eq.trans ?_ (bfactor x3 j k)
    exact congrArg (val_main_v10 (F := Ideal) x3) (funext fun a => match a with | ⟨0, _⟩ => rfl | ⟨1, _⟩ => rfl)
  · exact congrArg x2 (funext fun a => match a with | ⟨0, _⟩ => rfl | ⟨1, _⟩ => rfl)

/-- The backward reference's second result at an index. -/
theorem bproduct (x0 : (⟨S1x704x524288, .i8⟩ : BufTy).Contents (Elt Ideal)) (x1 : (⟨S1x524288, .f32⟩ : BufTy).Contents (Elt Ideal))
    (x2 : (⟨S56x524288, .f32⟩ : BufTy).Contents (Elt Ideal)) (x3 : (⟨S168x168, .bf16⟩ : BufTy).Contents (Elt Ideal)) (i : S56x704.Idx) :
    (val_main_v16 (F := Ideal) x0 x1 x2 x3 i : EReal)
      = ∑ s : Fin 524288, ((val_main_v12 (F := Ideal) x2 x3 (at2 (i 0) s) : EReal) * (x1 (at2 (0 : Fin 1) s) : EReal)) * code (x0 (at3 (i 1) s)) := by
  rw [val_main_v16_apply]
  refine Finset.sum_congr rfl fun s _ => congrArg₂ (fun a b : EReal => a * b) ?_ ?_
  · rw [val_main_v15_apply, val_main_v14_apply, val_main_v13_apply]
    refine congrArg₂ (fun a b : EReal => a * b) ?_ ?_
    · exact congrArg (val_main_v12 (F := Ideal) x2 x3) (funext fun a => match a with | ⟨0, _⟩ => rfl | ⟨1, _⟩ => rfl)
    · exact congrArg x1 (funext fun a => match a with | ⟨0, _⟩ => rfl | ⟨1, _⟩ => rfl)
  · refine Eq.trans ?_ (bcode x0 (i 1) s)
    exact congrArg (val_main_v2 (F := Ideal) x0) (funext fun a => match a with | ⟨0, _⟩ => rfl | ⟨1, _⟩ => rfl)

end Backward

end Cert.References

end
-- ==== Proof.Algebraic.lean ====
/-
  The value claims: each kernel's results over the extended reals are its reference's.
-/
module

public import proofs.«01_k».proof.Defs
public import proofs.«01_k».proof.Proof.Gen.Pre_finite
public import proofs.«01_k».proof.Proof.BackwardArrays
public import proofs.«01_k».proof.Proof.References
public import Idealize.ShloMosaic.Lib.ReduceAll

@[expose] public section

set_option maxRecDepth 16384

noncomputable section

namespace Cert.Proof

open Idealize.ShloMosaic Idealize.ShloMosaic.TcCoe Idealize.SL.Sem Cert.Chunk

/-- The forward kernel's sketch is the reference's. -/
theorem algebraic_forward : @Cert.algebraic_ForwardIdeal_RefForwardIdeal Cert.ForwardIdeal.Gen.facts Cert.RefForwardIdeal.Gen.facts := by
  intro m g m' g' _ hagree
  refine ⟨Cert.ForwardIdeal.Value.yArr m, Cert.ForwardIdeal.Value.run_value m g, ?_⟩
  refine (θ_run Cert.RefForwardIdeal.defs _ _).mono (fun r h c => ⟨(h c).1.trans ?_, (h c).2⟩) (Cert.RefForwardIdeal.Value.run (F := Ideal) m' g')
  obtain ⟨e0, e1, e2⟩ := hagree c
  refine (Cert.RefForwardIdeal.Read.val_main_v5_eq (F := Ideal) _ _ _).trans (funext fun i => ?_)
  refine (Cert.References.ysketch _ _ _ i).trans ?_
  rw [e0, e1, e2]
  rfl

/-- The number that the 32-bit pattern of infinity stands for. -/
theorem inf32 : Ideal.ofBits .f32 0x7F800000#32 = ⊤ := by simp [Ideal.ofBits, Ideal.ieee]

/-- The number that the 16-bit pattern of infinity stands for. -/
theorem inf16 : Ideal.ofBits .bf16 0x7F80#16 = ⊤ := by simp [Ideal.ofBits, Ideal.ieee]

/-- A comparison that holds says that its left side is below its right side. -/
theorem lt_of_cmp {x y : EReal} (h : Ideal.cmp .olt x y = 1#1) : x < y := by
  have h' : BitVec.ofBool (decide (x < y)) = 1#1 := h
  by_contra hn
  rw [decide_eq_false hn] at h'
  exact absurd h' (by decide)

/-- A shape without axes has one index. -/
instance : Subsingleton Cert.Pre_finite.S_.Idx := ⟨fun a b => funext fun i => i.elim0⟩

/-- The precondition says that every element of the sketch and of the stacked factor is a real. -/
theorem reals_of_finite (x0 : IVec Cert.Pre_finite.S1x704x524288 8) (x1 : FVec Ideal Cert.Pre_finite.S1x524288 .f32)
    (x2 : FVec Ideal Cert.Pre_finite.S56x524288 .f32) (x3 : FVec Ideal Cert.Pre_finite.S168x168 .bf16)
    (h : @Cert.Pre_finite.fn Cert.Pre_finite.Gen.facts Ideal _ x0 x1 x2 x3 = fun _ => 1#1) :
    (∀ i, ∃ r : ℝ, (x2 i : EReal) = r) ∧ (∀ i, ∃ r : ℝ, (x3 i : EReal) = r) := by
  have e := congrFun h (fun a => a.elim0)
  unfold Cert.Pre_finite.fn at e
  dsimp only at e
  obtain ⟨a, b⟩ := IntOp.andi_eq_one.1 e
  constructor
  · intro i
    have k := Host.reduce_andi_all _ _ _ _ _ a i
    refine real_of_abs_lt (lt_of_lt_of_eq (lt_of_cmp k) inf32)
  · intro i
    have k := Host.reduce_andi_all _ _ _ _ _ b i
    refine real_of_abs_lt (lt_of_lt_of_eq (lt_of_cmp k) inf16)

/-- The backward kernel's basis, and its product with the codes, are the reference's where the sketch and the factor are finite. -/
theorem algebraic_backward : @Cert.algebraic_BackwardIdeal_RefBackwardIdeal_pre_finite Cert.BackwardIdeal.Gen.facts Cert.RefBackwardIdeal.Gen.facts Cert.Pre_finite.Gen.facts := by
  intro m g m' g' hpre hagree
  refine ⟨Cert.BackwardIdeal.Value.qArr m, Cert.BackwardIdeal.Value.wArr m, Cert.BackwardIdeal.Value.run_value m g, ?_⟩
  refine (θ_run Cert.RefBackwardIdeal.defs _ _).mono (fun r h c => ?_) (Cert.RefBackwardIdeal.Value.run (F := Ideal) m' g')
  obtain ⟨e0, e1, e2, e3⟩ := hagree c
  obtain ⟨f2, f3⟩ := reals_of_finite _ _ _ _ (hpre c)
  have q : ∀ (j : Fin 56) (s : Fin 524288), (Cert.RefBackwardIdeal.Read.val_main_v12 (F := Ideal)
      (m ((c : Thread Cert.BackwardIdeal.nD Cert.BackwardIdeal.τ).loc Cert.BackwardIdeal.main_arg2))
      (m ((c : Thread Cert.BackwardIdeal.nD Cert.BackwardIdeal.τ).loc Cert.BackwardIdeal.main_arg3)) (at2 j s) : EReal) = Cert.BackwardIdeal.Value.qAt m c j s :=
    fun j s => Cert.References.bbasis _ _ f2 f3 j s
  refine ⟨(h c).1.trans ?_, (h c).2.1.trans ?_, (h c).2.2⟩
  · refine (Cert.RefBackwardIdeal.Read.val_main_v12_eq (F := Ideal) _ _).trans (funext fun i => ?_)
    rw [e2, e3]
    refine Eq.trans ?_ (q (i 0) (i 1))
    exact congrArg _ (ValueIdx.eq_ix2 i)
  · refine (Cert.RefBackwardIdeal.Read.val_main_v16_eq (F := Ideal) _ _ _ _).trans (funext fun i => ?_)
    refine (Cert.References.bproduct _ _ _ _ i).trans ?_
    rw [e0, e1, e2, e3]
    exact Finset.sum_congr rfl fun s _ => congrArg (fun z : EReal => (z * _) * _) (q (i 0) s)

end Cert.Proof

end
-- ==== Proof.Elimination.lean ====
/-
  Elimination on a real symmetric matrix, written in three ways over the extended reals: as Schur complements, as elimination
  with unit lower triangular factors, and as a Cholesky factorization with forward substitution. Where the pivots are positive
  reals, the second, each row divided by the square root of its pivot, gives the same matrix as the third.
-/
module

public import Idealize.ShloMosaic.PureOps.Ideal

@[expose] public section

noncomputable section

namespace Cert.Elimination

open Idealize.ShloMosaic

/-- A matrix of extended reals of 56 rows and columns. -/
abbrev Mat := Fin 56 → Fin 56 → EReal

/-- A matrix of reals of 56 rows and columns. -/
abbrev RMat := Fin 56 → Fin 56 → ℝ

/-- A real matrix as a matrix of extended reals. -/
abbrev up (S : RMat) : Mat := fun i k => (S i k : EReal)

/-- The `n`-th index, the last one from the end on. -/
def ix (n : ℕ) : Fin 56 := ⟨min n 55, by omega⟩

/-- The index of a number below 56 is that number. -/
theorem ix_val (j : Fin 56) : ix j.val = j := Fin.ext (by show min j.val 55 = j.val; omega)

/-- The Schur complement of the pivot at `j`. -/
def schurE (j : Fin 56) (S : Mat) : Mat := fun i k => S i k - Ideal.div (S i j * S j k) (S j j)

/-- The Schur complement of the pivot at `j`, of a real matrix. -/
def schur (j : Fin 56) (S : RMat) : RMat := fun i k => S i k - S i j * S j k / S j j

/-- The Schur complements of a real matrix, one pivot after the other. -/
def comp (S : RMat) : ℕ → RMat
  | 0 => S
  | n + 1 => schur (ix n) (comp S n)

/-- The Schur complements of a matrix, one pivot after the other. -/
def compE (S : Mat) : ℕ → Mat
  | 0 => S
  | n + 1 => schurE (ix n) (compE S n)

/-- A quotient of reals by a nonzero real is the real quotient. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The square root of a positive real is the real square root. -/
theorem sqrt_pos (a : ℝ) (h : 0 < a) : Ideal.sqrt (a : EReal) = ((Real.sqrt a : ℝ) : EReal) := by
  rw [Ideal.sqrt_coe, if_neg (not_lt.2 h.le)]

/-- Positive pivots of a real matrix are the pivots of its real Schur complements. -/
theorem compE_up (S : RMat) (h : ∀ j : Fin 56, 0 < compE (up S) j.val j j) :
    ∀ n, n ≤ 56 → compE (up S) n = up (comp S n)
  | 0, _ => rfl
  | n + 1, hn => by
    have e := compE_up S h n (by omega)
    have p : (0 : EReal) < up (comp S n) (ix n) (ix n) := by
      have := h ⟨n, by omega⟩
      rw [← ix_val ⟨n, by omega⟩, show (ix (⟨n, by omega⟩ : Fin 56).val).val = n from congrArg Fin.val (ix_val ⟨n, by omega⟩), e] at this
      exact this
    have p' : 0 < comp S n (ix n) (ix n) := EReal.coe_pos.1 p
    show schurE (ix n) (compE (up S) n) = _
    rw [e]
    funext i k
    show ((comp S n i k : ℝ) : EReal) - Ideal.div (((comp S n i (ix n) : ℝ) : EReal) * ((comp S n (ix n) k : ℝ) : EReal)) ((comp S n (ix n) (ix n) : ℝ) : EReal) = _
    rw [← EReal.coe_mul, div_coe _ _ p'.ne', ← EReal.coe_sub]
    rfl

/-- The pivots of a real matrix whose Schur complements' pivots are positive are positive reals. -/
theorem pivots_pos (S : RMat) (h : ∀ j : Fin 56, 0 < compE (up S) j.val j j) (j : Fin 56) : 0 < comp S j.val j j := by
  have := h j
  rw [compE_up S h j.val (by omega)] at this
  exact EReal.coe_pos.1 this

/-- A Schur complement of a symmetric matrix is symmetric. -/
theorem comp_symm (S : RMat) (hs : ∀ i k, S i k = S k i) : ∀ n i k, comp S n i k = comp S n k i
  | 0, i, k => hs i k
  | n + 1, i, k => by
    show comp S n i k - _ = comp S n k i - _
    rw [comp_symm S hs n i k, comp_symm S hs n i (ix n), comp_symm S hs n (ix n) k, mul_comm]

/-- The rows and columns of the pivots that were taken are zero in the Schur complement. -/
theorem comp_zero (S : RMat) (hs : ∀ i k, S i k = S k i) (hp : ∀ j : Fin 56, 0 < comp S j.val j j) :
    ∀ n, n ≤ 56 → ∀ i k : Fin 56, i.val < n → comp S n i k = 0
  | n + 1, hn, i, k, hi => by
    have q := hp ⟨n, by omega⟩
    have ej : ix n = ⟨n, by omega⟩ := ix_val ⟨n, by omega⟩
    show comp S n i k - comp S n i (ix n) * comp S n (ix n) k / comp S n (ix n) (ix n) = 0
    rw [ej]
    by_cases h : i.val < n
    · rw [comp_zero S hs hp n (by omega) i k h, comp_zero S hs hp n (by omega) i _ h]; simp
    · have hin : i = ⟨n, by omega⟩ := Fin.ext (by show i.val = n; omega)
      rw [hin, mul_comm, mul_div_assoc, div_self q.ne', mul_one, sub_self]

/-! ## Elimination with unit lower triangular factors -/

/-- The factors that eliminate column `j` below its pivot. -/
def fac (j : Fin 56) (g : Mat) (i : Fin 56) : EReal := if j < i then Ideal.div (g i j) (g j j) else 0

/-- One step of the elimination, on the matrix and on the matrix that starts as the identity. -/
def elim (j : Fin 56) (s : Mat × Mat) : Mat × Mat :=
  (fun i k => s.1 i k - fac j s.1 i * s.1 j k, fun i k => s.2 i k - fac j s.1 i * s.2 j k)

/-- The identity. -/
def one : RMat := fun i k => if i = k then 1 else 0

/-- The states of the elimination. -/
def elims (S : Mat) : ℕ → Mat × Mat
  | 0 => (S, up one)
  | n + 1 => elim (ix n) (elims S n)

/-- The elimination's second matrix over the reals. -/
def low (S : RMat) : ℕ → RMat
  | 0 => one
  | n + 1 => fun i k => low S n i k - (if ix n < i then comp S n i (ix n) / comp S n (ix n) (ix n) else 0) * low S n (ix n) k

/-- The elimination's states over the reals: below the taken pivots the first matrix is the Schur complement. -/
theorem elims_up (S : RMat) (hs : ∀ i k, S i k = S k i) (hp : ∀ j : Fin 56, 0 < comp S j.val j j) :
    ∀ n, n ≤ 56 → (∀ i k, ∃ r : ℝ, (elims (up S) n).1 i k = r)
      ∧ (∀ i k : Fin 56, n ≤ i.val → (elims (up S) n).1 i k = comp S n i k) ∧ (elims (up S) n).2 = up (low S n)
  | 0, _ => ⟨fun i k => ⟨S i k, rfl⟩, fun _ _ _ => rfl, rfl⟩
  | n + 1, hn => by
    obtain ⟨er, ec, el⟩ := elims_up S hs hp n (by omega)
    have ej : ix n = ⟨n, by omega⟩ := ix_val ⟨n, by omega⟩
    have q : 0 < comp S n (ix n) (ix n) := by rw [ej]; exact hp ⟨n, by omega⟩
    have ev : (ix n).val = n := congrArg Fin.val ej
    have ef : ∀ i, fac (ix n) (elims (up S) n).1 i = (((if ix n < i then comp S n i (ix n) / comp S n (ix n) (ix n) else 0) : ℝ) : EReal) := fun i => by
      unfold fac
      split_ifs with h
      · have hi : n ≤ i.val := by have : (ix n).val < i.val := h; omega
        rw [ec i _ hi, ec (ix n) _ ev.ge, div_coe _ _ q.ne']
      · rfl
    refine ⟨fun i k => ?_, fun i k hi => ?_, ?_⟩
    · obtain ⟨r, hr⟩ := er i k
      refine ⟨r - (if ix n < i then comp S n i (ix n) / comp S n (ix n) (ix n) else 0) * comp S n (ix n) k, ?_⟩
      show (elims (up S) n).1 i k - fac (ix n) (elims (up S) n).1 i * (elims (up S) n).1 (ix n) k = _
      rw [hr, ef, ec (ix n) _ ev.ge, ← EReal.coe_mul, ← EReal.coe_sub]
    · show (elims (up S) n).1 i k - fac (ix n) (elims (up S) n).1 i * (elims (up S) n).1 (ix n) k = _
      rw [ef, ec (ix n) _ ev.ge, ec i k (by omega), if_pos (show ix n < i from Fin.lt_def.2 (by omega)), ← EReal.coe_mul, ← EReal.coe_sub]
      refine congrArg _ ?_
      show _ = comp S n i k - comp S n i (ix n) * comp S n (ix n) k / comp S n (ix n) (ix n)
      rw [div_mul_eq_mul_div]
    · funext i k
      show (elims (up S) n).2 i k - fac (ix n) (elims (up S) n).1 i * (elims (up S) n).2 (ix n) k = _
      rw [ef, el, ← EReal.coe_mul, ← EReal.coe_sub]
      rfl

/-! ## Cholesky factorization with forward substitution -/

/-- What a column of the factorization leaves: the matrix without the column's product, the right sides without the solved row's
    part, and the solved rows. -/
structure Col where
  s : Mat
  b : Mat
  x : Mat

/-- One column of the factorization, and the row of the solution it gives. -/
def chol (j : Fin 56) (t : Col) : Col where
  s := fun i k => t.s i k - Ideal.div (t.s i j) (Ideal.sqrt (t.s j j)) * Ideal.div (t.s k j) (Ideal.sqrt (t.s j j))
  b := fun i k => t.b i k - Ideal.div (t.s i j) (Ideal.sqrt (t.s j j)) * Ideal.div (t.b j k) (Ideal.sqrt (t.s j j))
  x := fun i k => if i = j then Ideal.div (t.b j k) (Ideal.sqrt (t.s j j)) else t.x i k

/-- The factorization's states. -/
def chols (S : Mat) : ℕ → Col
  | 0 => ⟨S, up one, fun _ _ => 0⟩
  | n + 1 => chol (ix n) (chols S n)

/-- A row of the elimination's second matrix no longer changes once its pivot is taken. -/
theorem low_fixed (S : RMat) (i k : Fin 56) : ∀ n, i.val < n → n ≤ 56 → low S n i k = low S (i.val + 1) i k
  | n + 1, hi, hn => by
    by_cases h : i.val = n
    · rw [h]
    · have ev : (ix n).val = n := congrArg Fin.val (ix_val ⟨n, by omega⟩)
      rw [← low_fixed S i k n (by omega) (by omega)]
      show low S n i k - (if ix n < i then _ else 0) * _ = _
      rw [if_neg (show ¬ix n < i from fun hh => by have := Fin.lt_def.1 hh; omega), zero_mul, sub_zero]

/-- A step leaves its own pivot's row of the second matrix. -/
theorem low_self (S : RMat) (i k : Fin 56) : low S (i.val + 1) i k = low S i.val i k := by
  show low S i.val i k - (if ix i.val < i then _ else 0) * _ = _
  rw [ix_val, if_neg (lt_irrefl _), zero_mul, sub_zero]

/-- The factorization's states over the reals. -/
theorem chols_up (S : RMat) (hs : ∀ i k, S i k = S k i) (hp : ∀ j : Fin 56, 0 < comp S j.val j j) :
    ∀ n, n ≤ 56 → (chols (up S) n).s = up (comp S n) ∧ (∀ i k : Fin 56, ∃ r : ℝ, (chols (up S) n).b i k = r)
      ∧ (∀ i k : Fin 56, n ≤ i.val → (chols (up S) n).b i k = low S n i k)
      ∧ ∀ i k : Fin 56, i.val < n → (chols (up S) n).x i k = ((low S i.val i k / Real.sqrt (comp S i.val i i) : ℝ) : EReal)
  | 0, _ => ⟨rfl, fun i k => ⟨one i k, rfl⟩, fun _ _ _ => rfl, fun _ _ h => absurd h (by omega)⟩
  | n + 1, hn => by
    obtain ⟨es, er, eb, ex⟩ := chols_up S hs hp n (by omega)
    have ej : ix n = ⟨n, by omega⟩ := ix_val ⟨n, by omega⟩
    have ev : (ix n).val = n := congrArg Fin.val ej
    have q : 0 < comp S n (ix n) (ix n) := by rw [ej]; exact hp ⟨n, by omega⟩
    have w : Real.sqrt (comp S n (ix n) (ix n)) ≠ 0 := (Real.sqrt_pos.2 q).ne'
    have ww : Real.sqrt (comp S n (ix n) (ix n)) * Real.sqrt (comp S n (ix n) (ix n)) = comp S n (ix n) (ix n) := Real.mul_self_sqrt q.le
    have el : ∀ i, Ideal.div ((chols (up S) n).s i (ix n)) (Ideal.sqrt ((chols (up S) n).s (ix n) (ix n)))
        = ((comp S n i (ix n) / Real.sqrt (comp S n (ix n) (ix n)) : ℝ) : EReal) := fun i => by
      rw [es]
      show Ideal.div ((comp S n i (ix n) : ℝ) : EReal) (Ideal.sqrt ((comp S n (ix n) (ix n) : ℝ) : EReal)) = _
      rw [sqrt_pos _ q, div_coe _ _ w]
    have exr : ∀ k, Ideal.div ((chols (up S) n).b (ix n) k) (Ideal.sqrt ((chols (up S) n).s (ix n) (ix n)))
        = ((low S n (ix n) k / Real.sqrt (comp S n (ix n) (ix n)) : ℝ) : EReal) := fun k => by
      rw [es, eb (ix n) k ev.ge]
      show Ideal.div _ (Ideal.sqrt ((comp S n (ix n) (ix n) : ℝ) : EReal)) = _
      rw [sqrt_pos _ q, div_coe _ _ w]
    refine ⟨?_, fun i k => ?_, fun i k hi => ?_, fun i k hi => ?_⟩
    · funext i k
      show (chols (up S) n).s i k - Ideal.div ((chols (up S) n).s i (ix n)) (Ideal.sqrt ((chols (up S) n).s (ix n) (ix n)))
        * Ideal.div ((chols (up S) n).s k (ix n)) (Ideal.sqrt ((chols (up S) n).s (ix n) (ix n))) = _
      rw [el, el, es, ← EReal.coe_mul, ← EReal.coe_sub]
      refine congrArg _ ?_
      show _ = comp S n i k - comp S n i (ix n) * comp S n (ix n) k / comp S n (ix n) (ix n)
      rw [comp_symm S hs n k (ix n), div_mul_div_comm, ww]
    · obtain ⟨r, hr⟩ := er i k
      refine ⟨r - comp S n i (ix n) / Real.sqrt (comp S n (ix n) (ix n)) * (low S n (ix n) k / Real.sqrt (comp S n (ix n) (ix n))), ?_⟩
      show (chols (up S) n).b i k - Ideal.div ((chols (up S) n).s i (ix n)) (Ideal.sqrt ((chols (up S) n).s (ix n) (ix n)))
        * Ideal.div ((chols (up S) n).b (ix n) k) (Ideal.sqrt ((chols (up S) n).s (ix n) (ix n))) = _
      rw [el, exr, hr, ← EReal.coe_mul, ← EReal.coe_sub]
    · show (chols (up S) n).b i k - Ideal.div ((chols (up S) n).s i (ix n)) (Ideal.sqrt ((chols (up S) n).s (ix n) (ix n)))
        * Ideal.div ((chols (up S) n).b (ix n) k) (Ideal.sqrt ((chols (up S) n).s (ix n) (ix n))) = _
      rw [el, exr, eb i k (by omega), ← EReal.coe_mul, ← EReal.coe_sub]
      refine congrArg _ ?_
      show _ = low S n i k - (if ix n < i then comp S n i (ix n) / comp S n (ix n) (ix n) else 0) * low S n (ix n) k
      rw [if_pos (show ix n < i from Fin.lt_def.2 (by omega)), div_mul_div_comm, ww, div_mul_eq_mul_div]
    · show (if i = ix n then Ideal.div ((chols (up S) n).b (ix n) k) (Ideal.sqrt ((chols (up S) n).s (ix n) (ix n))) else (chols (up S) n).x i k) = _
      split_ifs with h
      · subst h
        rw [exr, ev]
      · have : i.val ≠ n := fun hh => h (Fin.ext (hh.trans ev.symm))
        exact ex i k (by omega)

/-- The rows of the elimination's second matrix, each divided by the square root of its pivot, are the factorization's solution. -/
theorem elims_eq_chols (S : RMat) (hs : ∀ i k, S i k = S k i) (hp : ∀ j : Fin 56, 0 < compE (up S) j.val j j) (i k : Fin 56) :
    Ideal.div ((elims (up S) 56).2 i k) (Ideal.sqrt ((elims (up S) i.val).1 i i)) = (chols (up S) 56).x i k := by
  have hq := pivots_pos S hp
  have q := hq i
  rw [(elims_up S hs hq 56 le_rfl).2.2, (elims_up S hs hq i.val (by omega)).2.1 i i le_rfl, (chols_up S hs hq 56 le_rfl).2.2.2 i k (by omega)]
  show Ideal.div ((low S 56 i k : ℝ) : EReal) _ = _
  rw [sqrt_pos _ q, div_coe _ _ (Real.sqrt_pos.2 q).ne', low_fixed S i k 56 (by omega) le_rfl, low_self]

end Cert.Elimination

end
-- ==== Proof.FactorSteps.lean ====
/-
  The factor's elimination as the forward kernel does it, one step at a time: the matrix, the matrix that starts as the
  identity, the pivots, and the columns of the current panel of eight.
-/
module

public import proofs.«01_k».proof.Proof.Chunk
public import proofs.«01_k».proof.Proof.Elimination
public import proofs.«01_k».proof.Proof.Gen.FactorIdeal.Skeleton
public import Idealize.ShloMosaic.Lib.Tactic

@[expose] public section

set_option maxRecDepth 16384

noncomputable section

namespace Cert.FactorIdeal.Value

open Cert.FactorIdeal Cert.FactorIdeal.Gen Idealize.ShloMosaic Cert.Chunk

/-- A matrix of the elimination. -/
abbrev M56 := FVec Ideal S56x56 .f32

/-- A column of the elimination. -/
abbrev C56 := FVec Ideal S56x1 .f32

/-- A row lies in the matrix. -/
theorem slice_row (j : Fin 56) : S56x56.Slices ![j.val, 0] S1x56 :=
  ⟨rfl, fun a => match a with | ⟨0, _⟩ => by show j.val + 1 ≤ 56; omega | ⟨1, _⟩ => by show 0 + 56 ≤ 56; omega⟩

/-- An element lies in the column. -/
theorem slice_one (j : Fin 56) : S56x1.Slices ![j.val, 0] S1x1 :=
  ⟨rfl, fun a => match a with | ⟨0, _⟩ => by show j.val + 1 ≤ 56; omega | ⟨1, _⟩ => by show 0 + 1 ≤ 1; omega⟩

/-- The row numbers. -/
def rows : IVec S56x1 32 := iota .tc S56x1 32 [0] iota_S56x1_d0_w32

/-- Column `n` of a matrix, taken out by a sum. -/
def colOf (g : M56) (n : ℕ) : C56 :=
  shapeCast S56x1 (multiReduction .add [1] S56 (select (cmpi .eq (iota .tc S56x56 32 [1] iota_S56x56_d1_w32) (broadcast S56x56 (BitVec.ofNat 32 n))) g
    (broadcast S56x56 (Scalar.ofBits .f32 0x00000000#32))) 0x00000000#32 reduces_S56x56_S56 (.inl rfl) rfl) shapeCasts_S56_S56x1

/-- The pivot of a column, as a column of 56 equal values. -/
def pivOf (c : C56) (j : Fin 56) : FVec Ideal S1x1 .f32 := extractStridedSlice S1x1 ![j.val, 0] c (slice_one j)

/-- The factors below the pivot. -/
def facOf (c : C56) (j : Fin 56) : C56 :=
  select (cmpi .sgt rows (broadcast S56x1 (BitVec.ofNat 32 j.val))) (divf c (broadcastTo S56x1 (pivOf c j) broadcasts_S1x1_S56x1))
    (broadcast S56x1 (Scalar.ofBits .f32 0x00000000#32))

/-- A matrix without the factors' multiples of its row `j`. -/
def subRow (g : M56) (f : C56) (j : Fin 56) : M56 :=
  subf g (mulf (broadcastTo S56x56 f broadcasts_S56x1_S56x56) (broadcastTo S56x56 (extractStridedSlice S1x56 ![j.val, 0] g (slice_row j)) broadcasts_S1x56_S56x56))

/-- A column without the factors' multiples of its element `j`. -/
def subOne (c : C56) (f : C56) (j : Fin 56) : C56 := subf c (mulf f (broadcastTo S56x1 (pivOf c j) broadcasts_S1x1_S56x1))

/-- The pivots with the one of column `j` set. -/
def setPiv (d : C56) (c : C56) (j : Fin 56) : C56 :=
  select (cmpi .eq rows (broadcast S56x1 (BitVec.ofNat 32 j.val))) (broadcastTo S56x1 (shapeCast S1x1 (pivOf c j) shapeCasts_S1x1_S1x1) broadcasts_S1x1_S56x1) d

/-- What a step of the elimination leaves. -/
structure St where
  g : M56
  e : M56
  d : C56
  c : ℕ → C56

/-- The panel's columns: taken out of the matrix at the panel's first step, carried otherwise. -/
def panel (j : Fin 56) (s : St) : ℕ → C56 := if j.val % 8 = 0 then fun k => colOf s.g (j.val + k) else s.c

/-- One step of the elimination. -/
def stp (j : Fin 56) (s : St) : St where
  g := subRow s.g (facOf (panel j s (j.val % 8)) j) j
  e := subRow s.e (facOf (panel j s (j.val % 8)) j) j
  d := setPiv s.d (panel j s (j.val % 8)) j
  c := fun k => subOne (panel j s k) (facOf (panel j s (j.val % 8)) j) j

/-- The states of the elimination of a matrix. -/
def sts (g : M56) (n : ℕ) : St :=
  Nat.rec ⟨g, k0_pay4 (F := Ideal), k0_pay5 (F := Ideal), fun _ => k0_pay5 (F := Ideal)⟩ (fun n s => stp ⟨min n 55, by omega⟩ s) n

/-- The inverse factor. -/
def invOf (g : M56) : M56 := divf (sts g 56).e (broadcastTo S56x56 (sqrt (sts g 56).d) broadcasts_S56x1_S56x56)

/-- Three parts of a matrix, stacked and repeated. -/
def stack3 (a b c : M56) : FVec Ideal S168x168 .bf16 :=
  let z : M56 := broadcast S56x56 (Scalar.ofBits .f32 0x00000000#32)
  truncf .bf16 (concatenate S168x168 0 [
    ⟨S56x168, concatenate S56x168 1 [⟨S56x56, a⟩, ⟨S56x56, z⟩, ⟨S56x56, z⟩] concatenates_S56x56_S56x56_S56x56_S56x168_d1⟩,
    ⟨S56x168, concatenate S56x168 1 [⟨S56x56, b⟩, ⟨S56x56, b⟩, ⟨S56x56, z⟩] concatenates_S56x56_S56x56_S56x56_S56x168_d1⟩,
    ⟨S56x168, concatenate S56x168 1 [⟨S56x56, c⟩, ⟨S56x56, c⟩, ⟨S56x56, c⟩] concatenates_S56x56_S56x56_S56x56_S56x168_d1⟩]
    concatenates_S56x168_S56x168_S56x168_S168x168_d0) bitsLt_bf16_f32

/-- The factor that is written out, from its matrix. -/
def splitOf (x : M56) : FVec Ideal S168x168 .bf16 :=
  let h : M56 := extf .f32 (truncf .bf16 x)
  let r : M56 := subf x h
  let m : M56 := extf .f32 (truncf .bf16 r)
  stack3 (subf r m) m h

end Cert.FactorIdeal.Value

end
-- ==== Proof.FactorPoints.lean ====
/-
  The forward kernel's elimination at its elements: the steps written on whole matrices are the elimination's steps.
-/
module

public import proofs.«01_k».proof.Proof.FactorSteps
public import Idealize.ShloMosaic.Lib.ValueLayoutCasts
public import Idealize.ShloMosaic.Lib.Pointwise.Reduce

@[expose] public section

set_option maxRecDepth 16384

noncomputable section

namespace Cert.FactorIdeal.Value

open Cert.FactorIdeal Cert.FactorIdeal.Gen Idealize.ShloMosaic Cert.Chunk Cert.Elimination Idealize.ShloMosaic.ValueIdx

/-- A matrix at its elements. -/
def el (g : M56) : Mat := fun i k => g (at2 i k)

/-- Whether two numbers below 56 are equal, as a bit. -/
theorem eq_bit : ∀ i j : Fin 56, IntOp.cmpi .eq (BitVec.ofNat 32 i.val) (BitVec.ofNat 32 j.val) = if i = j then 1#1 else 0#1 := by decide +kernel

/-- Whether a number below 56 is above another, as a bit. -/
theorem gt_bit : ∀ i j : Fin 56, IntOp.cmpi .sgt (BitVec.ofNat 32 i.val) (BitVec.ofNat 32 j.val) = if j < i then 1#1 else 0#1 := by decide +kernel

/-- The column taken out by a sum is the column. -/
theorem colOf_apply (g : M56) (n : Fin 56) (i : Fin 56) : (colOf g n.val (at2 i 0) : EReal) = el g i n := by
  unfold colOf
  rw [shapeCast_a_a1_apply]
  refine (Ideal.reduceAdd_r2_a1 _ _ _).trans ?_
  have e : ∀ k : Fin 56, (select (cmpi .eq (iota .tc S56x56 32 [1] iota_S56x56_d1_w32) (broadcast S56x56 (BitVec.ofNat 32 n.val))) g
      (broadcast S56x56 (Scalar.ofBits (F := Ideal) .f32 0x00000000#32)) (at2 i k) : EReal) = if k = n then el g i n else 0 := by
    intro k
    have e : (select (cmpi .eq (iota .tc S56x56 32 [1] iota_S56x56_d1_w32) (broadcast S56x56 (BitVec.ofNat 32 n.val))) g
      (broadcast S56x56 (Scalar.ofBits (F := Ideal) .f32 0x00000000#32)) (at2 i k) : EReal)
      = Scalar.select (IntOp.cmpi .eq (BitVec.ofNat 32 (0 * 56 + k.val)) (BitVec.ofNat 32 n.val)) (g (at2 i k) : EReal) (Ideal.ofBits .f32 0x00000000#32) := rfl
    rw [e, Nat.zero_mul, Nat.zero_add, eq_bit, Ideal.ofBits_zero_f32]
    by_cases h : k = n
    · rw [if_pos h, if_pos h, select_one, h]; rfl
    · rw [if_neg h, if_neg h, select_zero]
  refine (Finset.sum_congr rfl fun k _ => e k).trans ?_
  rw [Finset.sum_ite_eq']
  exact if_pos (Finset.mem_univ _)

/-- The row number of a row. -/
theorem rows_apply (i : Fin 56) : rows (at2 i 0) = BitVec.ofNat 32 i.val := by
  have e : rows (at2 i 0) = BitVec.ofNat 32 (0 * 56 + i.val) := rfl
  rw [e, Nat.zero_mul, Nat.zero_add]

/-- The pivot, read out of its column. -/
theorem pivOf_apply (c : C56) (j : Fin 56) : (pivOf c j (at2 0 0) : EReal) = c (at2 j 0) :=
  extractStridedSlice_apply _ _ (slice_one j) (at2 0 0) (at2 j 0) (fun a => match a with | ⟨0, _⟩ => rfl | ⟨1, _⟩ => rfl)

/-- The pivot, repeated down a column. -/
theorem bpiv_apply (c : C56) (j i : Fin 56) : (broadcastTo S56x1 (pivOf c j) broadcasts_S1x1_S56x1 (at2 i 0) : EReal) = c (at2 j 0) :=
  (broadcastTo_apply _ broadcasts_S1x1_S56x1 (at2 i 0) (at2 0 0) (fun a => match a with | ⟨0, _⟩ => rfl | ⟨1, _⟩ => rfl)).trans (pivOf_apply c j)

/-- The factors below the pivot at a row. -/
theorem facOf_apply (c : C56) (j i : Fin 56) : (facOf c j (at2 i 0) : EReal) = if j < i then Ideal.div (c (at2 i 0)) (c (at2 j 0)) else 0 := by
  have e : (facOf c j (at2 i 0) : EReal) = Scalar.select (IntOp.cmpi .sgt (rows (at2 i 0)) (BitVec.ofNat 32 j.val))
      (Ideal.div (c (at2 i 0)) (broadcastTo S56x1 (pivOf c j) broadcasts_S1x1_S56x1 (at2 i 0))) (Ideal.ofBits .f32 0x00000000#32) := rfl
  rw [e, rows_apply, gt_bit, bpiv_apply, Ideal.ofBits_zero_f32]
  by_cases h : j < i
  · rw [if_pos h, if_pos h, select_one]
  · rw [if_neg h, if_neg h, select_zero]

/-- A matrix without the factors' multiples of a row, at an element. -/
theorem subRow_apply (g : M56) (f : C56) (j i k : Fin 56) : el (subRow g f j) i k = el g i k - (f (at2 i 0) : EReal) * el g j k := by
  have e : el (subRow g f j) i k = el g i k - (broadcastTo S56x56 f broadcasts_S56x1_S56x56 (at2 i k) : EReal)
      * (broadcastTo S56x56 (extractStridedSlice S1x56 ![j.val, 0] g (slice_row j)) broadcasts_S1x56_S56x56 (at2 i k) : EReal) := rfl
  rw [e, broadcastTo_apply _ broadcasts_S56x1_S56x56 (at2 i k) (at2 i 0) (fun a => match a with | ⟨0, _⟩ => rfl | ⟨1, _⟩ => rfl),
    broadcastTo_apply _ broadcasts_S1x56_S56x56 (at2 i k) (at2 0 k) (fun a => match a with | ⟨0, _⟩ => rfl | ⟨1, _⟩ => rfl),
    extractStridedSlice_apply _ _ (slice_row j) (at2 0 k) (at2 j k) (fun a => match a with | ⟨0, _⟩ => rfl | ⟨1, _⟩ => (Nat.zero_add _).symm)]
  rfl

/-- A column without the factors' multiples of one of its elements. -/
theorem subOne_apply (c f : C56) (j i : Fin 56) : (subOne c f j (at2 i 0) : EReal) = c (at2 i 0) - (f (at2 i 0) : EReal) * c (at2 j 0) := by
  have e : (subOne c f j (at2 i 0) : EReal) = c (at2 i 0) - (f (at2 i 0) : EReal) * (broadcastTo S56x1 (pivOf c j) broadcasts_S1x1_S56x1 (at2 i 0) : EReal) := rfl
  rw [e, bpiv_apply]

/-- The pivots, one of them set. -/
theorem setPiv_apply (d c : C56) (j i : Fin 56) : (setPiv d c j (at2 i 0) : EReal) = if i = j then c (at2 j 0) else d (at2 i 0) := by
  unfold setPiv
  rw [shapeCast_self]
  have e : (select (cmpi .eq rows (broadcast S56x1 (BitVec.ofNat 32 j.val))) (broadcastTo S56x1 (pivOf c j) broadcasts_S1x1_S56x1) d (at2 i 0) : EReal)
      = Scalar.select (IntOp.cmpi .eq (rows (at2 i 0)) (BitVec.ofNat 32 j.val)) (broadcastTo S56x1 (pivOf c j) broadcasts_S1x1_S56x1 (at2 i 0) : EReal) (d (at2 i 0)) := rfl
  rw [e, rows_apply, eq_bit, bpiv_apply]
  by_cases h : i = j
  · rw [if_pos h, if_pos h, select_one]
  · rw [if_neg h, if_neg h, select_zero]

end Cert.FactorIdeal.Value

end
-- ==== Proof.FactorValue.lean ====
/-
  The forward kernel's sums of products of the sketch's stacked parts, point by point, and the factor the last point makes of them.
-/
module

public import proofs.«01_k».proof.Proof.FactorSteps
public import proofs.«01_k».proof.Proof.Gen.FactorIdeal.Value
public import Idealize.ShloMosaic.Lib.Pipeline.ReadBack
public import Idealize.ShloMosaic.Lib.Tactic

@[expose] public section

set_option maxRecDepth 16384

noncomputable section

namespace Cert.FactorIdeal.Value

open Cert.FactorIdeal Cert.FactorIdeal.Gen Idealize.ShloMosaic Idealize.ShloMosaic.TcCoe Idealize.SL.Sem Cert.Chunk Idealize.ShloMosaic.ValueIdx
open Idealize.ShloMosaic.Pipeline (Dat)

/-- The offsets are zero. -/
theorem hz : (![0, 0] : Fin 2 → Nat) = fun _ => 0 := funext fun a => by fin_cases a <;> rfl

/-- A chunk of 512 columns lies in its block. -/
theorem inb {r : Nat} (o : Nat) (h : o + 512 ≤ 8192) : ∀ a, (![0, o] : Fin 2 → Nat) a + (![r, 512] : Fin 2 → Nat) a ≤ (![r, 8192] : Fin 2 → Nat) a
  | ⟨0, _⟩ => (Nat.zero_add r).le
  | ⟨1, _⟩ => h

/-- One element of the sketch from the codes, the scales and the transposed random matrix. -/
def yBlk (x0 : Vec Ideal S704x8192 .i8) (x1 : Vec Ideal S1x8192 .f32) (x2 : Vec Ideal S56x704 .bf16) : Vec Ideal S56x8192 .f32 :=
  fun i => ((∑ n : Fin 704, x2 (at2 (i 0) n) * code (x0 (at2 n (i 1)))) * x1 (at2 0 (i 1)) : EReal)

/-- The random matrix's load, recast to its own shape, is the load. -/
theorem pay477 (x : Vec Ideal S56x704 .bf16) : k0_pay477 x = x := shapeCast_self _ _

/-- The chunk of the sketch that starts at column `o`. -/
def yChunk (x0 : Vec Ideal S704x8192 .i8) (x1 : Vec Ideal S1x8192 .f32) (x2 : Vec Ideal S56x704 .bf16) (o : Nat) (h : o + 512 ≤ 8192) : FVec Ideal S56x512 .f32 :=
  yC (F := Ideal) dot_S56x704_S704x512_S56x512_1_0_0_1_n_n_wf shapeCasts_S704x512_S704x512 broadcasts_S1x512_S56x512 (k0_pay477 x2)
    (View.ld x0 (Rect.unit (s := S704x8192) ![0, o] S704x512.size (inb o h))) (View.ld x1 (Rect.unit (s := S1x8192) ![0, o] S1x512.size (inb o h)))

/-- The chunk of the sketch at an index. -/
theorem yChunk_apply (x0 : Vec Ideal S704x8192 .i8) (x1 : Vec Ideal S1x8192 .f32) (x2 : Vec Ideal S56x704 .bf16) (o : Nat) (h : o + 512 ≤ 8192)
    (j : Fin 56) (l : Fin 512) : (yChunk x0 x1 x2 o h (at2 j l) : EReal) = yBlk x0 x1 x2 (at2 j (⟨o + l.val, by omega⟩ : Fin 8192)) := by
  unfold yChunk
  rw [pay477]
  refine (yC_apply _ _ _ x2 _ _ _ _).trans ?_
  unfold yBlk
  refine congrArg₂ (fun a b : EReal => a * b) (Finset.sum_congr rfl fun n _ => congrArg₂ (fun a b : EReal => a * b) rfl ?_) ?_
  · exact congrArg (fun z => code (x0 z)) (funext fun a => Fin.ext (by match a with | ⟨0, _⟩ => show 0 + 1 * n.val = n.val; omega | ⟨1, _⟩ => show o + 1 * l.val = o + l.val; omega))
  · exact congrArg x1 (funext fun a => Fin.ext (by match a with | ⟨0, _⟩ => rfl | ⟨1, _⟩ => show o + 1 * l.val = o + l.val; omega))

/-- One chunk's addition to the products of the stacked parts. -/
def tStep (acc : FVec Ideal S168x112 .f32) (y : FVec Ideal S56x512 .f32) : FVec Ideal S168x112 .f32 :=
  addf acc (matmul dot_S168x512_S112x512_S168x112_1_1_0_0_n_n none (truncf .bf16 (parts concatenates_S56x512_S56x512_S56x512_S168x512_d0 y) bitsLt_bf16_f32)
    (extractStridedSlice S112x512 ![0, 0] (truncf .bf16 (parts concatenates_S56x512_S56x512_S56x512_S168x512_d0 y) bitsLt_bf16_f32 : FVec Ideal S168x512 .bf16) slices_S168x512_o0_0_S112x512)
    (constant S168x112 .f32 0x00000000#32))

/-- One chunk's addition at an index. -/
theorem tStep_apply (acc : FVec Ideal S168x112 .f32) (y : FVec Ideal S56x512 .f32) (a : Fin 168) (b : Fin 112) :
    (tStep acc y (at2 a b) : EReal) = acc (at2 a b) + ∑ l : Fin 512, partsCol (fun n => y (at2 n l)) a * partsCol (fun n => y (at2 n l)) ⟨b.val, by omega⟩ := by
  unfold tStep
  rw [addf_apply]
  refine congrArg _ ((matmul_nt _ none _ _ a b).trans (Finset.sum_congr rfl fun l _ => ?_))
  rw [extractStridedSlice_apply _ _ slices_S168x512_o0_0_S112x512 (at2 b l) (at2 ⟨b.val, by omega⟩ l)
    (fun d => match d with | ⟨0, _⟩ => (Nat.zero_add _).symm | ⟨1, _⟩ => (Nat.zero_add _).symm), truncf_apply, truncf_apply, parts_apply, parts_apply]

/-- The sixteen chunks' additions, first to last. -/
def tSum (x0 : Vec Ideal S704x8192 .i8) (x1 : Vec Ideal S1x8192 .f32) (x2 : Vec Ideal S56x704 .bf16)
    (acc : FVec Ideal S168x112 .f32) : (k : Nat) → k ≤ 16 → FVec Ideal S168x112 .f32
  | 0, _ => acc
  | k + 1, h => tStep (tSum x0 x1 x2 acc k (by omega)) (yChunk x0 x1 x2 (512 * k) (by omega))

/-- What column `s` of a block adds. -/
def tTerm (x0 : Vec Ideal S704x8192 .i8) (x1 : Vec Ideal S1x8192 .f32) (x2 : Vec Ideal S56x704 .bf16) (a : Fin 168) (b : Fin 112) (s : Fin 8192) : EReal :=
  partsCol (fun n => yBlk x0 x1 x2 (at2 n s)) a * partsCol (fun n => yBlk x0 x1 x2 (at2 n s)) ⟨b.val, by omega⟩

/-- Adding `k` chunks adds their columns' contributions. -/
theorem tSum_range (x0 x1 x2 acc) (a : Fin 168) (b : Fin 112) (g : Nat → EReal) (hg : ∀ s : Fin 8192, g s.val = tTerm x0 x1 x2 a b s) :
    ∀ (k : Nat) (hk : k ≤ 16), (tSum x0 x1 x2 acc k hk (at2 a b) : EReal) = acc (at2 a b) + ∑ i ∈ Finset.range (512 * k), g i
  | 0, _ => by rw [Nat.mul_zero, Finset.range_zero, Finset.sum_empty, add_zero]; rfl
  | k + 1, hk => by
    have e : tSum x0 x1 x2 acc (k + 1) hk = tStep (tSum x0 x1 x2 acc k (by omega)) (yChunk x0 x1 x2 (512 * k) (by omega)) := rfl
    rw [e, tStep_apply, tSum_range x0 x1 x2 acc a b g hg k (by omega), add_assoc, Nat.mul_succ, Finset.sum_range_add, Finset.sum_range (n := 512)]
    refine congrArg _ (congrArg _ (Finset.sum_congr rfl fun l _ => ?_))
    have q : (fun n => (yChunk x0 x1 x2 (512 * k) (by omega) (at2 n l) : EReal)) = fun n => yBlk x0 x1 x2 (at2 n (⟨512 * k + l.val, by omega⟩ : Fin 8192)) :=
      funext fun n => yChunk_apply x0 x1 x2 _ _ n l
    rw [q]
    exact (hg ⟨512 * k + l.val, by omega⟩).symm

/-- Adding all chunks adds all columns' contributions. -/
theorem tSum_apply (x0 x1 x2 acc) (a : Fin 168) (b : Fin 112) :
    (tSum x0 x1 x2 acc 16 le_rfl (at2 a b) : EReal) = acc (at2 a b) + ∑ s : Fin 8192, tTerm x0 x1 x2 a b s := by
  have h := tSum_range x0 x1 x2 acc a b (fun i => if h : i < 8192 then tTerm x0 x1 x2 a b ⟨i, h⟩ else 0) (fun s => dif_pos s.isLt) 16 le_rfl
  exact h.trans (congrArg _ ((Finset.sum_range (n := 8192) _).trans (Finset.sum_congr rfl fun s _ => dif_pos s.isLt)))

/-- A middle point adds its block's columns to what the scratch held. -/
theorem sout_B (c : Dev nD) (i : grid0.Coords) (a1 h1 a2 h2 a3 h3 a4 h4 a5 h5 a6 h6) (hc0 : ¬cond0_0 i) (hc1 : ¬cond0_1 i) (x0 : Vec Ideal S704x8192 .i8)
    (x1 : Vec Ideal S1x8192 .f32) (x2 : Vec Ideal S56x704 .bf16) (xs : Vec Ideal S168x112 .f32) :
    sout0_B_0 c i a1 h1 a2 h2 a3 h3 a4 h4 a5 h5 a6 h6 hc0 hc1 x0 x1 x2 xs = tSum x0 x1 x2 xs 16 le_rfl := by
  unfold sout0_B_0
  rw [View.read_writes_eq_canon _ _ _ (scover0_B_0 c i a1 h1 a2 h2 a3 h3 a4 h4 a5 h5 a6 h6 hc0 hc1 x0 x1 x2 xs)]
  unfold kernelRun0_B
  dsimp only
  rw [View.canon_unit_zero hz]
  sl_unfold_words
  simp only [View.readAt_eq_ld, h1.read_unread, h2.read_unread, h3.read_unread, h6.read_unread, View.ld_unit_zero (S := S56x704) hz,
    View.ld_unit_zero (S := S168x112) hz]
  unfold k0_pay1
  dsimp only
  rw [shapeCast_self]
  sl_kernel_rfl

/-- The first point adds its block's columns to zero. -/
theorem sout_A (c : Dev nD) (i : grid0.Coords) (a1 h1 a2 h2 a3 h3 a4 h4 a5 h5 a6 h6) (hc0 : cond0_0 i) (hc1 : ¬cond0_1 i) (x0 : Vec Ideal S704x8192 .i8)
    (x1 : Vec Ideal S1x8192 .f32) (x2 : Vec Ideal S56x704 .bf16) :
    sout0_A_0 c i a1 h1 a2 h2 a3 h3 a4 h4 a5 h5 a6 h6 hc0 hc1 x0 x1 x2 = tSum x0 x1 x2 k0_pay476 16 le_rfl := by
  unfold sout0_A_0
  rw [View.read_writes_eq_canon _ _ _ (scover0_A_0 c i a1 h1 a2 h2 a3 h3 a4 h4 a5 h5 a6 h6 hc0 hc1 x0 x1 x2)]
  unfold kernelRun0_A
  dsimp only
  rw [View.canon_cons_unit_zero (S := S168x112) hz]
  sl_unfold_words
  simp only [View.readCov_unit_zero (S := S168x112) _ hz, View.readAt_eq_ld, h1.read_unread, h2.read_unread, h3.read_unread, h6.read_unread, View.ld_unit_zero (S := S56x704) hz,
    View.ld_unit_zero (S := S168x112) hz]
  unfold k0_pay1
  dsimp only
  rw [shapeCast_self]
  sl_kernel_rfl

/-- What the last point holds in the scratch after its own block. -/
theorem last_scratch (c : Dev nD) (a1 h1 a2 h2 a3 h3 a6 h6) (x0 : Vec Ideal S704x8192 .i8)
    (x1 : Vec Ideal S1x8192 .f32) (x2 : Vec Ideal S56x704 .bf16) (xs : Vec Ideal S168x112 .f32) :
    kernelRun0_C.sl.v380 (F := Ideal) c a1 h1 a2 h2 a3 h3 a6 h6 x0 x1 x2 xs = tSum x0 x1 x2 xs 16 le_rfl := by
  sl_unfold_words
  simp only [View.readCov_unit_zero (S := S168x112) _ hz, View.readAt_eq_ld, h1.read_unread, h2.read_unread, h3.read_unread, h6.read_unread, View.ld_unit_zero (S := S56x704) hz,
    View.ld_unit_zero (S := S168x112) hz]
  unfold k0_pay1
  dsimp only
  rw [shapeCast_self]
  sl_kernel_rfl

/-- The steps written out in the last point's body are the elimination's steps, and what they leave is written out in parts. -/
theorem elim_run (c : Dev nD) (a1 h1 a2 h2 a3 h3 a6 h6) (x0 : Vec Ideal S704x8192 .i8)
    (x1 : Vec Ideal S1x8192 .f32) (x2 : Vec Ideal S56x704 .bf16) (xs : Vec Ideal S168x112 .f32) :
    k0_pay2 kernelRun0_C.sl.v392 (kernelRun0_C.sl.r_361 c a1 h1 a2 h2 a3 h3 a6 h6 x0 x1 x2 xs)
      (kernelRun0_C.sl.r_363 c a1 h1 a2 h2 a3 h3 a6 h6 x0 x1 x2 xs) (kernelRun0_C.sl.r_364 c a1 h1 a2 h2 a3 h3 a6 h6 x0 x1 x2 xs)
      (kernelRun0_C.sl.r_365 c a1 h1 a2 h2 a3 h3 a6 h6 x0 x1 x2 xs) (k0_pay474 kernelRun0_C.sl.v392)
      (kernelRun0_C.sl.r_366 c a1 h1 a2 h2 a3 h3 a6 h6 x0 x1 x2 xs)
      = splitOf (invOf (k0_pay3 (F := Ideal) (kernelRun0_C.sl.v380 c a1 h1 a2 h2 a3 h3 a6 h6 x0 x1 x2 xs))) := by
  sl_kernel_rfl

/-- The last point leaves the factor of its sums in the second output's buffer. -/
theorem out4_C (c : Dev nD) (i : grid0.Coords) (a1 h1 a2 h2 a3 h3 a4 h4 a5 h5 a6 h6) (hc0 : ¬cond0_0 i) (hc1 : cond0_1 i) (x0 : Vec Ideal S704x8192 .i8)
    (x1 : Vec Ideal S1x8192 .f32) (x2 : Vec Ideal S56x704 .bf16) (xs : Vec Ideal S168x112 .f32) :
    out0_C_4 c i a1 h1 a2 h2 a3 h3 a4 h4 a5 h5 a6 h6 hc0 hc1 x0 x1 x2 xs = splitOf (invOf (k0_pay3 (F := Ideal) (tSum x0 x1 x2 xs 16 le_rfl))) := by
  unfold out0_C_4
  rw [View.read_writes_eq_canon _ _ _ (cover0_C_4 c i a1 h1 a2 h2 a3 h3 a4 h4 a5 h5 a6 h6 hc0 hc1 x0 x1 x2 xs)]
  unfold kernelRun0_C
  dsimp only
  rw [View.canon_unit_zero hz]
  exact (elim_run c a1 h1 a2 h2 a3 h3 a6 h6 x0 x1 x2 xs).trans (congrArg (fun t => splitOf (invOf (k0_pay3 (F := Ideal) t))) (last_scratch c a1 h1 a2 h2 a3 h3 a6 h6 x0 x1 x2 xs))

end Cert.FactorIdeal.Value

end
-- ==== Proof.FactorArrays.lean ====
/-
  The forward kernel's second result array over the extended reals, as a function of its operand arrays.
-/
module

public import proofs.«01_k».proof.Proof.FactorValue

@[expose] public section

set_option maxRecDepth 16384

noncomputable section

namespace Cert.FactorIdeal.Value

open Cert.FactorIdeal Cert.FactorIdeal.Gen Idealize.ShloMosaic Idealize.ShloMosaic.TcCoe Idealize.SL.Sem Cert.Chunk
open Idealize.ShloMosaic.Pipeline (Dat)

variable (m : (ℓ : Loc nD τ sig) → Buf (Elt Ideal) ℓ) (ρ : Dev nD → PrngReg)

/-- An index of a three-dimensional shape with one matrix. -/
abbrev at3 (n : Fin 704) (s : Fin 524288) : S1x704x524288.Idx := ValueIdx.ix3 (0 : Fin 1) n s

/-- The reshaped codes when the kernel is entered. -/
theorem V_main_v0 (c : Dev nD) :
    V m c main_v0 = shapeCast S704x524288 (m ((c : Thread nD τ).loc main_arg0)) shapeCasts_S1x704x524288_S704x524288 := by
  show StableHlo.after hostOps0 _ (Proc.devRef .tc main_v0) = _
  after_results
  rfl

/-- The reshaped codes at an index. -/
theorem V_main_v0_apply (c : Dev nD) (n : Fin 704) (s : Fin 524288) :
    V m c main_v0 (at2 n s) = m ((c : Thread nD τ).loc main_arg0) (at3 n s) := by
  rw [V_main_v0]
  exact shapeCast_apply _ shapeCasts_S1x704x524288_S704x524288 (at2 n s) (at3 n s)
    (by rw [Shape.rowMajor_val_three, Shape.rowMajor_val_two]; show (0 * 704 + n.val) * 524288 + s.val = n.val * 524288 + s.val; omega)

/-- The transposed random matrix when the kernel is entered. -/
theorem V_main_v1 (c : Dev nD) :
    V m c main_v1 = transpose S56x704 [1, 0] (m ((c : Thread nD τ).loc main_arg2)) transposes_S704x56_S56x704_1_0 := by
  show StableHlo.after hostOps0 _ (Proc.devRef .tc main_v1) = _
  after_results

/-- The transposed random matrix at an index. -/
theorem V_main_v1_apply (c : Dev nD) (j : Fin 56) (n : Fin 704) :
    V m c main_v1 (at2 j n) = m ((c : Thread nD τ).loc main_arg2) (at2 n j) := by
  rw [V_main_v1]
  exact Idealize.ShloMosaic.transpose_apply _ _ _ (at2 j n) (at2 n j) (fun b => match b with | ⟨0, _⟩ => rfl | ⟨1, _⟩ => rfl)

/-- Column `l` of block `t`, as a column of the whole array. -/
def col (t : Fin cfg0.N) (l : Fin 8192) : Fin 524288 := ⟨8192 * t.val + l.val, by have := t.isLt; have hN : cfg0.N = 64 := N_0; omega⟩

/-- Where a grid point finds its block of operand 0. -/
theorem idx0 : ∀ t : Fin cfg0.N, win0_0.index t 0 = 0 ∧ win0_0.index t 1 = t.val := (by decide +kernel : ∀ t : Fin grid0.N, _)
/-- Where a grid point finds its block of operand 1. -/
theorem idx1 : ∀ t : Fin cfg0.N, win0_1.index t 0 = 0 ∧ win0_1.index t 1 = t.val := (by decide +kernel : ∀ t : Fin grid0.N, _)
/-- Where a grid point finds its block of operand 2. -/
theorem idx2 : ∀ t : Fin cfg0.N, win0_2.index t 0 = 0 ∧ win0_2.index t 1 = 0 := (by decide +kernel : ∀ t : Fin grid0.N, _)
/-- Where a grid point finds its block of operand 4. -/
theorem idx4 : ∀ t : Fin cfg0.N, win0_4.index t 0 = 0 ∧ win0_4.index t 1 = 0 := (by decide +kernel : ∀ t : Fin grid0.N, _)

/-- A block of the codes at an index. -/
theorem iblk0 (c : Dev nD) (t : Fin cfg0.N) (n : Fin 704) (l : Fin 8192) :
    (iblk m c 0 t : Vec Ideal S704x8192 .i8) (at2 n l) = m ((c : Thread nD τ).loc main_arg0) (at3 n (col t l)) := by
  unfold iblk
  rw [View.read_apply]
  refine Eq.trans ?_ (V_main_v0_apply m c n (col t l))
  show V m c main_v0 _ = V m c main_v0 _
  refine congrArg _ (funext fun a => Fin.ext ?_)
  match a with
  | ⟨0, _⟩ => show win0_0.index t 0 * 704 + 1 * n.val = n.val; rw [(idx0 t).1]; omega
  | ⟨1, _⟩ => show win0_0.index t 1 * 8192 + 1 * l.val = 8192 * t.val + l.val; rw [(idx0 t).2]; omega

/-- A block of the scales at an index. -/
theorem iblk1 (c : Dev nD) (t : Fin cfg0.N) (l : Fin 8192) :
    (iblk m c 1 t : Vec Ideal S1x8192 .f32) (at2 0 l) = m ((c : Thread nD τ).loc main_arg1) (at2 (0 : Fin 1) (col t l)) := by
  unfold iblk
  rw [View.read_apply, ← V_main_arg1 m c]
  show V m c main_arg1 _ = V m c main_arg1 _
  refine congrArg _ (funext fun a => Fin.ext ?_)
  match a with
  | ⟨0, _⟩ => show win0_1.index t 0 * 1 + 1 * 0 = 0; rw [(idx1 t).1]
  | ⟨1, _⟩ => show win0_1.index t 1 * 8192 + 1 * l.val = 8192 * t.val + l.val; rw [(idx1 t).2]; omega

/-- The random matrix's block is the transposed random matrix. -/
theorem iblk2 (c : Dev nD) (t : Fin cfg0.N) (j : Fin 56) (n : Fin 704) :
    (iblk m c 2 t : Vec Ideal S56x704 .bf16) (at2 j n) = m ((c : Thread nD τ).loc main_arg2) (at2 n j) := by
  unfold iblk
  rw [View.read_apply]
  refine Eq.trans ?_ (V_main_v1_apply m c j n)
  show V m c main_v1 _ = V m c main_v1 _
  refine congrArg _ (funext fun a => Fin.ext ?_)
  match a with
  | ⟨0, _⟩ => show win0_2.index t 0 * 56 + 1 * j.val = j.val; rw [(idx2 t).1]; omega
  | ⟨1, _⟩ => show win0_2.index t 1 * 704 + 1 * n.val = n.val; rw [(idx2 t).2]; omega

/-- One element of the sketch from a column of the random matrix, a column of the codes and a scale. -/
def yOf (x : Fin 704 → EReal) (a : Fin 704 → BitVec 8) (s : EReal) : EReal := (∑ n : Fin 704, x n * code (a n)) * s

/-- One element of the sketch, from the operand arrays. -/
def yAt (c : Dev nD) (j : Fin 56) (s : Fin 524288) : EReal :=
  yOf (fun n => m ((c : Thread nD τ).loc main_arg2) (at2 n j)) (fun n => m ((c : Thread nD τ).loc main_arg0) (at3 n s))
    (m ((c : Thread nD τ).loc main_arg1) (at2 (0 : Fin 1) s))

/-- A block of the sketch is the sketch's part there. -/
theorem yBlk_apply (c : Dev nD) (t : Fin cfg0.N) (j : Fin 56) (l : Fin 8192) :
    (yBlk (iblk m c 0 t) (iblk m c 1 t) (iblk m c 2 t) (at2 j l) : EReal) = yAt m c j (col t l) := by
  unfold yBlk yAt yOf
  exact congrArg₂ (fun a b : EReal => a * b) (Finset.sum_congr rfl fun n _ => congrArg₂ (fun a b : EReal => a * b) (iblk2 m c t j n) (congrArg code (iblk0 m c t n l))) (iblk1 m c t l)

/-- Column `s` contributes this much to the sum of products at row `a` and column `b`. -/
def tOf (c : Dev nD) (a : Fin 168) (b : Fin 112) (s : Fin 524288) : EReal :=
  partsCol (fun n => yAt m c n s) a * partsCol (fun n => yAt m c n s) ⟨b.val, by omega⟩

/-- A block's column contributes what the array's column does. -/
theorem tTerm_eq (c : Dev nD) (t : Fin cfg0.N) (a : Fin 168) (b : Fin 112) (l : Fin 8192) :
    tTerm (iblk m c 0 t) (iblk m c 1 t) (iblk m c 2 t) a b l = tOf m c a b (col t l) := by
  unfold tTerm tOf
  have q : (fun n => (yBlk (iblk m c 0 t) (iblk m c 1 t) (iblk m c 2 t) (at2 n l) : EReal)) = fun n => yAt m c n (col t l) := funext fun n => yBlk_apply m c t n l
  rw [q]

/-- The first point adds its block's contribution to zero. -/
theorem outs2_A (c : Dev nD) (t : Fin cfg0.N) (h : t.val % 64 = 0) :
    (outsAt0 m c t.val t.isLt).2.2 = tSum (iblk m c 0 t) (iblk m c 1 t) (iblk m c 2 t) k0_pay476 16 le_rfl := by
  have e := congrArg (fun p => p.2.2) (outsAt0_A m c t h (by omega))
  dsimp only at e
  rw [sout_A] at e
  exact e

/-- A middle point adds its block's contribution to what the point before left. -/
theorem outs2_B (c : Dev nD) (t : Fin cfg0.N) (h0 : ¬t.val % 64 = 0) (h1 : ¬t.val % 64 = 63) :
    (outsAt0 m c t.val t.isLt).2.2 = tSum (iblk m c 0 t) (iblk m c 1 t) (iblk m c 2 t) (outsAt0 m c (t.val - 1) (Nat.lt_of_le_of_lt (Nat.sub_le _ _) t.isLt)).2.2 16 le_rfl := by
  have e := congrArg (fun p => p.2.2) (outsAt0_B m c t h0 h1)
  dsimp only at e
  rw [sout_B] at e
  exact e

/-- The last point writes the factor of all sums. -/
theorem outs4_C (c : Dev nD) (t : Fin cfg0.N) (h0 : ¬t.val % 64 = 0) (h1 : t.val % 64 = 63) :
    (outsAt0 m c t.val t.isLt).2.1 = splitOf (invOf (k0_pay3 (F := Ideal)
      (tSum (iblk m c 0 t) (iblk m c 1 t) (iblk m c 2 t) (outsAt0 m c (t.val - 1) (Nat.lt_of_le_of_lt (Nat.sub_le _ _) t.isLt)).2.2 16 le_rfl))) := by
  have e := congrArg (fun p => p.2.1) (outsAt0_C m c t h0 h1)
  dsimp only at e
  rw [out4_C] at e
  exact e

/-- The sums start at zero. -/
theorem zeroS (i : S168x112.Idx) : (k0_pay476 (F := Ideal) i : EReal) = 0 := by
  unfold k0_pay476
  rw [shapeCast_self]
  exact Ideal.ofBits_zero_f32

/-- The columns of a block contribute their part of all columns' contributions. -/
theorem blk_sum (c : Dev nD) (a : Fin 168) (b : Fin 112) (g : Nat → EReal) (hg : ∀ s : Fin 524288, g s.val = tOf m c a b s) (t : Fin cfg0.N) :
    ∑ l : Fin 8192, tTerm (iblk m c 0 t) (iblk m c 1 t) (iblk m c 2 t) a b l = ∑ i ∈ Finset.range 8192, g (8192 * t.val + i) := by
  rw [Finset.sum_range (n := 8192)]
  exact Finset.sum_congr rfl fun l _ => (tTerm_eq m c t a b l).trans (hg (col t l)).symm

/-- After point `k`, not the last, the scratch holds the sums over the columns of the blocks so far. -/
theorem outs2 (c : Dev nD) (a : Fin 168) (b : Fin 112) (g : Nat → EReal) (hg : ∀ s : Fin 524288, g s.val = tOf m c a b s) :
    ∀ (k : Nat) (h : k < cfg0.N), k < 63 → ((outsAt0 m c k h).2.2 (at2 a b) : EReal) = ∑ i ∈ Finset.range (8192 * (k + 1)), g i := by
  have hN : cfg0.N = 64 := N_0
  intro k
  induction k with
  | zero =>
    intro h _
    rw [outs2_A m c ⟨0, h⟩ rfl, tSum_apply, zeroS, zero_add, blk_sum m c a b g hg]
    simp only [Nat.mul_zero, Nat.zero_add, Nat.mul_one]
  | succ k ih =>
    intro h hk
    rw [outs2_B m c ⟨k + 1, h⟩ (by dsimp only; omega) (by dsimp only; omega), tSum_apply, blk_sum m c a b g hg]
    refine (congrArg (· + _) (ih (by omega) (by omega))).trans ?_
    rw [Nat.mul_succ 8192 (k + 1), Finset.sum_range_add]

/-- The sums of products over all columns. -/
def tAll (c : Dev nD) : FVec Ideal S168x112 .f32 := fun i => (∑ s : Fin 524288, tOf m c (i 0) (i 1) s : EReal)

/-- The last point's sums at an index are the sums over all columns. -/
theorem last_sum_apply (c : Dev nD) (t : Fin cfg0.N) (ht : t.val = 63) (a : Fin 168) (b : Fin 112) :
    (tSum (iblk m c 0 t) (iblk m c 1 t) (iblk m c 2 t) (outsAt0 m c (t.val - 1) (Nat.lt_of_le_of_lt (Nat.sub_le _ _) t.isLt)).2.2 16 le_rfl (at2 a b) : EReal)
      = ∑ s : Fin 524288, tOf m c a b s := by
  have hN : cfg0.N = 64 := N_0
  obtain ⟨g, hg⟩ : ∃ g : Nat → EReal, ∀ s : Fin 524288, g s.val = tOf m c a b s :=
    ⟨fun i => if h : i < 524288 then tOf m c a b ⟨i, h⟩ else 0, fun s => dif_pos s.isLt⟩
  rw [tSum_apply, blk_sum m c a b g hg]
  refine (congrArg (· + _) (outs2 m c a b g hg (t.val - 1) (by omega) (by omega))).trans ?_
  rw [ht]
  refine (Finset.sum_range_add _ (8192 * 63) 8192).symm.trans ?_
  exact (Finset.sum_range (n := 524288) _).trans (Finset.sum_congr rfl fun s _ => hg s)

/-- The last point's sums are the sums over all columns. -/
theorem last_sum (c : Dev nD) (t : Fin cfg0.N) (ht : t.val = 63) :
    tSum (iblk m c 0 t) (iblk m c 1 t) (iblk m c 2 t) (outsAt0 m c (t.val - 1) (Nat.lt_of_le_of_lt (Nat.sub_le _ _) t.isLt)).2.2 16 le_rfl = tAll m c := by
  funext i
  rw [ValueIdx.eq_ix2 i]
  exact last_sum_apply m c t ht (i 0) (i 1)

/-- The factor array from the sums over all columns. -/
def pArr (c : Dev nD) : Buf (Elt Ideal) ((c : Thread nD τ).loc main_v2_1) := splitOf (invOf (k0_pay3 (F := Ideal) (tAll m c)))

/-- The second result array is the factor of the sums over all columns. -/
theorem arr4 (c : Dev nD) : (dats m 0 c).arrAt 4 cfg0.N = pArr m c :=
  (dats m 0 c).arrAt_eq_of_cover 4 (pArr m c)
    (fun t hf => by
      have hN : cfg0.N = 64 := N_0
      have ht : t.val = 63 := by have := (flush0_4 t).mp hf; have := t.isLt; omega
      rw [flushed4, outs4_C m c t (by omega) (by omega), last_sum m c t ht]
      refine funext fun y => ?_
      have e : (((cfg0.win 4).blk t).view.emb y : S168x168.Idx) = y := funext fun a => Fin.ext (by
        match a with
        | ⟨0, _⟩ => show win0_4.index t 0 * 168 + 1 * (y 0).val = (y 0).val; rw [(idx4 t).1]; omega
        | ⟨1, _⟩ => show win0_4.index t 1 * 168 + 1 * (y 1).val = (y 1).val; rw [(idx4 t).2]; omega)
      exact (congrArg (pArr m c) e).symm)
    fun i => by
      have h0 : (i 0 : Nat) < 168 := (i 0).isLt
      have h1 : (i 1 : Nat) < 168 := (i 1).isLt
      have hN : cfg0.N = 64 := N_0
      obtain ⟨t, ht⟩ : ∃ t : Fin cfg0.N, t.val = 63 := ⟨⟨63, by omega⟩, rfl⟩
      refine ⟨t, (flush0_4 t).mpr (by rw [ht]), ?_⟩
      show i ∈ ((View.whole main_v2_1).slice (win0_4.rect t)).set
      rw [View.set_slice_whole, Rect.mem_set_unit]
      intro a
      match a with
      | ⟨0, _⟩ => show win0_4.index t 0 * 168 ≤ (i 0 : Nat) ∧ (i 0 : Nat) < win0_4.index t 0 * 168 + 168; rw [(idx4 t).1]; omega
      | ⟨1, _⟩ => show win0_4.index t 1 * 168 ≤ (i 1 : Nat) ∧ (i 1 : Nat) < win0_4.index t 1 * 168 + 168; rw [(idx4 t).2]; omega

/-- The run of the forward kernel: the factor, and the operands unchanged. -/
theorem run_value : θ_run defs (onTc (τ := τ) (main (F := Ideal))) ⟨m, fun _ => 0, ρ⟩ fun r => ∀ c : Dev nD,
      r.2.mem ((c : Thread nD τ).loc main_v2_1) = pArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2.1.trans (arr4 m c), (h c).2.2⟩) (run_blocks m ρ)

end Cert.FactorIdeal.Value

end
-- ==== Proof.Gram.lean ====
/-
  The sketch and its Gram matrix as the references form them.
-/
module

public import proofs.«01_k».proof.Proof.Chunk
public import proofs.«01_k».proof.Proof.Elimination
public import proofs.«01_k».proof.Proof.References

@[expose] public section

noncomputable section

namespace Cert.Chunk

open Idealize.ShloMosaic Idealize.ShloMosaic.ValueIdx

/-- A reference's product with the second factor transposed at an index is the sum over the shared axis. -/
theorem dot_nt {a b c : Nat} {φ₁ φ₂ : FTy} (wf) (prec : Option ContractPrecision) (x : FVec Ideal (Sh a b) φ₁) (y : FVec Ideal (Sh c b) φ₂)
    (i : Fin a) (j : Fin c) :
    (Host.dotGeneral (dotNT a b c wf) prec x y (at2 i j) : EReal) = ∑ k : Fin b, x (at2 i k) * y (at2 j k) := by
  simp only [Host.dotGeneral]
  rw [Ideal.dotGeneral_apply, ← Equiv.sum_comp (contrEquiv1 (dotNT a b c wf) b rfl rfl).symm]
  refine Finset.sum_congr rfl fun k _ => ?_
  have hk := contrEquiv1_symm_val (dotNT a b c wf) b rfl rfl k
  have el : (dotNT a b c wf).lhsIdx (at2 i j) ((contrEquiv1 (dotNT a b c wf) b rfl rfl).symm k) = at2 i k := funext fun d => Fin.ext (by
    match d with
    | ⟨0, _⟩ =>
      unfold DotDims.lhsIdx
      rw [dif_neg (by show ¬ (0 : Fin 2) ∈ ([] : List (Fin 2)); simp), dif_pos (by show (0 : Fin 2) ∈ ([0] : List (Fin 2)); simp)]; rfl
    | ⟨1, _⟩ => exact ((dotNT a b c wf).lhsIdx_val_of_single rfl _ _).trans hk)
  have er : (dotNT a b c wf).rhsIdx (at2 i j) ((contrEquiv1 (dotNT a b c wf) b rfl rfl).symm k) = at2 j k := funext fun d => Fin.ext (by
    match d with
    | ⟨0, _⟩ =>
      unfold DotDims.rhsIdx
      rw [dif_neg (by show ¬ (0 : Fin 2) ∈ ([] : List (Fin 2)); simp), dif_pos (by show (0 : Fin 2) ∈ ([0] : List (Fin 2)); simp)]; rfl
    | ⟨1, _⟩ => exact ((dotNT a b c wf).rhsIdx_val_of_single rfl _ _).trans hk)
  rw [el, er]

/-- A finite sum of reals is the same sum of extended reals. -/
theorem sum_coe {ι : Type} [Fintype ι] (f : ι → ℝ) : ∑ k, (f k : EReal) = ((∑ k, f k : ℝ) : EReal) := by
  classical
  refine Finset.induction_on (Finset.univ : Finset ι) (by simp) fun a s ha ih => ?_
  rw [Finset.sum_insert ha, Finset.sum_insert ha, ih, EReal.coe_add]

/-- The Gram matrix of a sketch. -/
def gram (y : Fin 56 → Fin 524288 → EReal) : Cert.Elimination.Mat := fun i k => ∑ s : Fin 524288, y i s * y k s

/-- The Gram matrix of a sketch of reals. -/
def gramR (y : Fin 56 → Fin 524288 → ℝ) : Cert.Elimination.RMat := fun i k => ∑ s : Fin 524288, y i s * y k s

/-- The Gram matrix of a sketch of reals is the real one. -/
theorem gram_up (y : Fin 56 → Fin 524288 → ℝ) : gram (fun i s => (y i s : EReal)) = Cert.Elimination.up (gramR y) := by
  funext i k
  unfold gram gramR
  show _ = ((∑ s : Fin 524288, y i s * y k s : ℝ) : EReal)
  rw [← sum_coe]
  exact Finset.sum_congr rfl fun s _ => (EReal.coe_mul _ _).symm

/-- A Gram matrix is symmetric. -/
theorem gramR_symm (y : Fin 56 → Fin 524288 → ℝ) (i k : Fin 56) : gramR y i k = gramR y k i :=
  Finset.sum_congr rfl fun s _ => mul_comm _ _

end Cert.Chunk

end
-- ==== Proof.Infinite.lean ====
/-
  Elimination and factorization where some rows are infinite: an infinite pivot divides everything to zero, so that those rows
  and columns take no part in the others, and their rows of the result are zero.
-/
module

public import proofs.«01_k».proof.Proof.Elimination

@[expose] public section

noncomputable section

namespace Cert.Elimination

open Idealize.ShloMosaic

/-- An extended real that is no real. -/
def Inf (x : EReal) : Prop := x = ⊤ ∨ x = ⊥

/-- An extended real that is no real is infinite. -/
theorem inf_of_not_real {x : EReal} (h : ¬∃ r : ℝ, x = r) : Inf x := by
  induction x with
  | bot => exact .inr rfl
  | top => exact .inl rfl
  | coe r => exact absurd ⟨r, rfl⟩ h

/-- A sum with an infinite summand is infinite. -/
theorem Inf.add {x : EReal} (h : Inf x) (y : EReal) : Inf (x + y) := by
  rcases h with rfl | rfl
  · induction y with
    | bot => exact .inr rfl
    | top => exact .inl rfl
    | coe r => exact .inl (EReal.top_add_coe r)
  · exact .inr (EReal.bot_add y)

/-- A difference from an infinite number is infinite. -/
theorem Inf.sub {x : EReal} (h : Inf x) (y : EReal) : Inf (x - y) := h.add (-y)

/-- The square of an infinite number is infinite. -/
theorem Inf.sq {x : EReal} (h : Inf x) : Inf (x * x) := by
  rcases h with rfl | rfl
  · exact .inl EReal.top_mul_top
  · exact .inl EReal.bot_mul_bot

/-- A square root of an infinite number is infinite. -/
theorem Inf.sqrt {x : EReal} (h : Inf x) : Inf (Ideal.sqrt x) := by
  rcases h with rfl | rfl
  · exact .inl rfl
  · exact .inr rfl

/-- Anything divided by an infinite number is zero. -/
theorem Inf.div {d : EReal} (h : Inf d) (x : EReal) : Ideal.div x d = 0 := by
  unfold Ideal.div
  rcases h with rfl | rfl
  · rw [if_neg (by simp), EReal.inv_top, mul_zero]
  · rw [if_neg (by simp), EReal.inv_bot, mul_zero]

/-- A finite sum with an infinite term is infinite. -/
theorem Inf.sum {n : ℕ} (f : Fin n → EReal) (s : Fin n) (h : Inf (f s)) : Inf (∑ k, f k) := by
  rw [← Finset.add_sum_erase _ f (Finset.mem_univ s)]
  exact h.add _

/-- Zero divided by anything else is zero. -/
theorem zero_div' {d : EReal} (h : d ≠ 0) : Ideal.div 0 d = 0 := by
  unfold Ideal.div
  rw [if_neg h, zero_mul]

/-- The identity off the diagonal. -/
theorem one_ne {i k : Fin 56} (h : i ≠ k) : up one i k = 0 := by
  show ((if i = k then (1 : ℝ) else 0 : ℝ) : EReal) = 0
  rw [if_neg h, EReal.coe_zero]

/-- The identity on the diagonal. -/
theorem one_self (i : Fin 56) : up one i i = 1 := by
  show ((if i = i then (1 : ℝ) else 0 : ℝ) : EReal) = 1
  rw [if_pos rfl, EReal.coe_one]

/-- A matrix whose rows and columns in `P` are those of the real matrix `S`, and whose other rows have an infinite diagonal. -/
def Like (P : Fin 56 → Prop) (S G : Mat) : Prop := (∀ i k, P i → P k → G i k = S i k) ∧ ∀ i, ¬P i → Inf (G i i)

/-- A matrix that is the identity outside `P`. -/
def Apart (P : Fin 56 → Prop) (S : RMat) : Prop := ∀ i k, ¬P i ∨ ¬P k → S i k = one i k

section
variable (P : Fin 56 → Prop) (S : RMat) (G : Mat)

/-- Outside the rows and columns in `P` the matrix is the identity. -/
theorem up_apart (hS : Apart P S) (i k : Fin 56) (hk : ¬P k) : up S i k = up one i k := by
  show ((S i k : ℝ) : EReal) = ((one i k : ℝ) : EReal)
  rw [hS i k (.inr hk)]

/-- The elimination's states within `P` are those of the real matrix. -/
theorem elims_like (hG : Like P (up S) G) (hS : Apart P S) : ∀ n,
    Like P (elims (up S) n).1 (elims G n).1 ∧ (∀ i k, ¬P k → (elims (up S) n).1 i k = up one i k)
      ∧ ∀ i k, P i → (elims G n).2 i k = (elims (up S) n).2 i k
  | 0 => ⟨hG, fun i k hk => up_apart P S hS i k hk, fun _ _ _ => rfl⟩
  | n + 1 => by
    obtain ⟨⟨a, b⟩, c, d⟩ := elims_like hG hS n
    show Like P (elim (ix n) (elims (up S) n)).1 (elim (ix n) (elims G n)).1 ∧ (∀ i k, ¬P k → (elim (ix n) (elims (up S) n)).1 i k = up one i k)
      ∧ ∀ i k, P i → (elim (ix n) (elims G n)).2 i k = (elim (ix n) (elims (up S) n)).2 i k
    generalize elims G n = E at *
    generalize elims (up S) n = E' at *
    generalize ix n = j
    unfold elim
    by_cases hj : P j
    · have f : ∀ i, P i → fac j E.1 i = fac j E'.1 i := fun i hi => by unfold fac; rw [a i j hi hj, a j j hj hj]
      refine ⟨⟨fun i k hi hk => ?_, fun i hi => (b i hi).sub _⟩, fun i k hk => ?_, fun i k hi => ?_⟩
      · show E.1 i k - fac j E.1 i * E.1 j k = E'.1 i k - fac j E'.1 i * E'.1 j k
        rw [f i hi, a i k hi hk, a j k hj hk]
      · show E'.1 i k - fac j E'.1 i * E'.1 j k = _
        rw [c j k hk, one_ne (show j ≠ k from fun h => hk (h ▸ hj)), mul_zero, sub_zero, c i k hk]
      · show E.2 i k - fac j E.1 i * E.2 j k = E'.2 i k - fac j E'.1 i * E'.2 j k
        rw [f i hi, d i k hi, d j k hj]
    · have f : ∀ i, fac j E.1 i = 0 := fun i => by unfold fac; rw [(b j hj).div, ite_self]
      have f' : ∀ i, fac j E'.1 i = 0 := fun i => by
        unfold fac
        split_ifs with h
        · rw [c i j hj, c j j hj, one_ne h.ne', one_self, zero_div' one_ne_zero]
        · rfl
      refine ⟨⟨fun i k hi hk => ?_, fun i hi => (b i hi).sub _⟩, fun i k hk => ?_, fun i k hi => ?_⟩
      · show E.1 i k - fac j E.1 i * E.1 j k = E'.1 i k - fac j E'.1 i * E'.1 j k
        rw [f, f', zero_mul, zero_mul, a i k hi hk]
      · show E'.1 i k - fac j E'.1 i * E'.1 j k = _
        rw [f', zero_mul, sub_zero, c i k hk]
      · show E.2 i k - fac j E.1 i * E.2 j k = E'.2 i k - fac j E'.1 i * E'.2 j k
        rw [f, f', zero_mul, zero_mul, d i k hi]

/-- The Schur complements within `P` are those of the real matrix, which is the identity outside until its pivots are taken. -/
theorem compE_like (hG : Like P (up S) G) (hS : Apart P S) (hp : ∀ j : Fin 56, 0 < compE G j.val j j) : ∀ n, n ≤ 56 →
    Like P (compE (up S) n) (compE G n) ∧ (∀ i k, ¬P k → i ≠ k → compE (up S) n i k = 0) ∧ ∀ k : Fin 56, ¬P k → n ≤ k.val → compE (up S) n k k = 1
  | 0, _ => ⟨hG, fun i k hk h => (up_apart P S hS i k hk).trans (one_ne h), fun k hk _ => (up_apart P S hS k k hk).trans (one_self k)⟩
  | n + 1, hn => by
    obtain ⟨⟨a, b⟩, c, d⟩ := compE_like hG hS hp n (by omega)
    have q := hp ⟨n, by omega⟩
    have ev : (ix n).val = n := congrArg Fin.val (ix_val ⟨n, by omega⟩)
    rw [show (⟨n, by omega⟩ : Fin 56) = ix n from (ix_val ⟨n, by omega⟩).symm, ev] at q
    show Like P (schurE (ix n) (compE (up S) n)) (schurE (ix n) (compE G n)) ∧ (∀ i k, ¬P k → i ≠ k → schurE (ix n) (compE (up S) n) i k = 0)
      ∧ ∀ k : Fin 56, ¬P k → n + 1 ≤ k.val → schurE (ix n) (compE (up S) n) k k = 1
    generalize compE G n = E at *
    generalize compE (up S) n = E' at *
    generalize ix n = j at *
    unfold schurE
    have z : E' j j ≠ 0 := by
      by_cases hj : P j
      · rw [← a j j hj hj]; exact q.ne'
      · rw [d j hj ev.ge]; exact one_ne_zero
    have w : ∀ i k, ¬P k → ¬(i = j ∧ k = j) → Ideal.div (E' i j * E' j k) (E' j j) = 0 := fun i k hk h => by
      by_cases hkj : j = k
      · have hij : i ≠ j := fun hh => h ⟨hh, hkj.symm⟩
        rw [c i j (hkj ▸ hk) hij, zero_mul, zero_div' z]
      · rw [c j k hk hkj, mul_zero, zero_div' z]
    refine ⟨⟨fun i k hi hk => ?_, fun i hi => (b i hi).sub _⟩, fun i k hk h => ?_, fun k hk h => ?_⟩ <;> try dsimp only
    · by_cases hj : P j
      · rw [a i j hi hj, a j k hj hk, a j j hj hj, a i k hi hk]
      · rw [(b j hj).div, c i j hj (fun h : i = j => hj (h ▸ hi)), zero_mul, zero_div' z, a i k hi hk]
    · rw [w i k hk (fun hh => h (hh.1.trans hh.2.symm)), sub_zero, c i k hk h]
    · rw [w k k hk (fun hh => by have := congrArg Fin.val hh.1; omega), sub_zero, d k hk (by omega)]

/-- Positive pivots are positive pivots of the real matrix. -/
theorem pivots_like (hG : Like P (up S) G) (hS : Apart P S) (hp : ∀ j : Fin 56, 0 < compE G j.val j j) (j : Fin 56) : 0 < compE (up S) j.val j j := by
  obtain ⟨⟨a, _⟩, _, d⟩ := compE_like P S G hG hS hp j.val (by omega)
  by_cases hj : P j
  · rw [← a j j hj hj]; exact hp j
  · rw [d j hj le_rfl]; exact zero_lt_one

/-- The real Schur complements have no entry between `P` and the other rows. -/
theorem comp_apart (hS : Apart P S) : ∀ n i k, P i → ¬P k → comp S n i k = 0
  | 0, i, k, hi, hk => (hS i k (.inr hk)).trans (if_neg fun h : i = k => hk (h ▸ hi))
  | n + 1, i, k, hi, hk => by
    show comp S n i k - comp S n i (ix n) * comp S n (ix n) k / comp S n (ix n) (ix n) = 0
    by_cases hj : P (ix n)
    · rw [comp_apart hS n i k hi hk, comp_apart hS n (ix n) k hj hk]; simp
    · rw [comp_apart hS n i k hi hk, comp_apart hS n i (ix n) hi hj]; simp

/-- The factorization's states within `P` are those of the real matrix, and the other rows of the solution are zero. -/
theorem chols_like (hG : Like P (up S) G) (hS : Apart P S) (hs : ∀ i k, S i k = S k i) (hp : ∀ j : Fin 56, 0 < comp S j.val j j) : ∀ n, n ≤ 56 →
    Like P (chols (up S) n).s (chols G n).s ∧ (∀ i k, P i → (chols G n).b i k = (chols (up S) n).b i k)
      ∧ (∀ i k, P i → (chols G n).x i k = (chols (up S) n).x i k) ∧ ∀ i k, ¬P i → (chols G n).x i k = 0
  | 0, _ => ⟨hG, fun _ _ _ => rfl, fun _ _ _ => rfl, fun _ _ _ => rfl⟩
  | n + 1, hn => by
    obtain ⟨⟨a, b⟩, c, d, e⟩ := chols_like hG hS hs hp n (by omega)
    have es := (chols_up S hs hp n (by omega)).1
    have q : 0 < comp S n (ix n) (ix n) := by rw [ix_val ⟨n, by omega⟩]; exact hp ⟨n, by omega⟩
    have z : ∀ i, P i → ¬P (ix n) → Ideal.div ((chols (up S) n).s i (ix n)) (Ideal.sqrt ((chols (up S) n).s (ix n) (ix n))) = 0 := fun i hi hj => by
      rw [es]
      show Ideal.div ((comp S n i (ix n) : ℝ) : EReal) (Ideal.sqrt ((comp S n (ix n) (ix n) : ℝ) : EReal)) = 0
      rw [comp_apart P S hS n i _ hi hj, sqrt_pos _ q, div_coe _ _ (Real.sqrt_pos.2 q).ne', zero_div, EReal.coe_zero]
    show Like P (chol (ix n) (chols (up S) n)).s (chol (ix n) (chols G n)).s ∧ (∀ i k, P i → (chol (ix n) (chols G n)).b i k = (chol (ix n) (chols (up S) n)).b i k)
      ∧ (∀ i k, P i → (chol (ix n) (chols G n)).x i k = (chol (ix n) (chols (up S) n)).x i k) ∧ ∀ i k, ¬P i → (chol (ix n) (chols G n)).x i k = 0
    clear es q
    generalize chols G n = T at *
    generalize chols (up S) n = T' at *
    generalize ix n = j at *
    unfold chol
    by_cases hj : P j
    · refine ⟨⟨fun i k hi hk => ?_, fun i hi => (b i hi).sub _⟩, fun i k hi => ?_, fun i k hi => ?_, fun i k hi => ?_⟩ <;> dsimp only
      · rw [a i k hi hk, a i j hi hj, a k j hk hj, a j j hj hj]
      · rw [a i j hi hj, a j j hj hj, c i k hi, c j k hj]
      · rw [a j j hj hj, c j k hj, d i k hi]
      · rw [if_neg (fun h : i = j => hi (h ▸ hj)), e i k hi]
    · have f : ∀ x, Ideal.div x (Ideal.sqrt (T.s j j)) = 0 := fun x => (b j hj).sqrt.div x
      refine ⟨⟨fun i k hi hk => ?_, fun i hi => (b i hi).sub _⟩, fun i k hi => ?_, fun i k hi => ?_, fun i k hi => ?_⟩ <;> dsimp only
      · rw [f, z i hi hj, zero_mul, zero_mul, a i k hi hk]
      · rw [f, z i hi hj, zero_mul, zero_mul, c i k hi]
      · have hij : i ≠ j := fun h => hj (h ▸ hi)
        rw [if_neg hij, if_neg hij, d i k hi]
      · rw [f, e i k hi, ite_self]

end

/-- For two matrices that are one real matrix in some rows and columns and infinite on the rest of the diagonal, elimination of the one and
    factorization of the other give the same rows, where the second one's pivots are positive. -/
theorem elims_eq_chols_like (P : Fin 56 → Prop) (S : RMat) (G H : Mat) (hs : ∀ i k, S i k = S k i) (hS : Apart P S) (hG : Like P (up S) G)
    (hH : Like P (up S) H) (hp : ∀ j : Fin 56, 0 < compE H j.val j j) (i k : Fin 56) :
    Ideal.div ((elims G 56).2 i k) (Ideal.sqrt ((elims G i.val).1 i i)) = (chols H 56).x i k := by
  have hq := pivots_like P S H hH hS hp
  obtain ⟨_, _, d, e⟩ := chols_like P S H hH hS hs (pivots_pos S hq) 56 le_rfl
  by_cases hi : P i
  · rw [(elims_like P S G hG hS 56).2.2 i k hi, (elims_like P S G hG hS i.val).1.1 i i hi hi, d i k hi]
    exact elims_eq_chols S hs hq i k
  · rw [((elims_like P S G hG hS i.val).1.2 i hi).sqrt.div, e i k hi]

end Cert.Elimination

end
-- ==== Proof.FactorState.lean ====
/-
  The states of the forward kernel's elimination are the elimination's states, and the matrix it starts from is the
  sketch's sums of products.
-/
module

public import proofs.«01_k».proof.Proof.FactorPoints
public import proofs.«01_k».proof.Proof.FactorArrays
public import proofs.«01_k».proof.Proof.Gram
public import proofs.«01_k».proof.Proof.Infinite

@[expose] public section

set_option maxRecDepth 16384

noncomputable section

namespace Cert.FactorIdeal.Value

open Cert.FactorIdeal Cert.FactorIdeal.Gen Idealize.ShloMosaic Cert.Chunk Cert.Elimination Idealize.ShloMosaic.ValueIdx

/-- The second matrix starts as the identity. -/
theorem pay4_el : el (k0_pay4 (F := Ideal)) = up one := by
  funext i k
  have e : el (k0_pay4 (F := Ideal)) i k
      = ((((IntOp.cmpi .eq (BitVec.ofNat 32 (0 * 56 + i.val)) (BitVec.ofNat 32 (0 * 56 + k.val))).setWidth 32).toInt : ℝ) : EReal) := rfl
  rw [e, Nat.zero_mul, Nat.zero_add, Nat.zero_add, eq_bit]
  show _ = ((if i = k then (1 : ℝ) else 0 : ℝ) : EReal)
  by_cases h : i = k
  · rw [if_pos h, if_pos h]
    have q : ((1#1).setWidth 32).toInt = 1 := by decide
    rw [q, Int.cast_one]
  · rw [if_neg h, if_neg h]
    have q : ((0#1).setWidth 32).toInt = 0 := by decide
    rw [q, Int.cast_zero]

section
variable (j : Fin 56) (s : St) (E : Mat × Mat)

/-- The panel of a step holds the columns of its eight. -/
theorem panel_apply (hg : el s.g = E.1)
    (hc : j.val % 8 ≠ 0 → ∀ q i : Fin 56, q.val / 8 = j.val / 8 → (s.c (q.val % 8) (at2 i 0) : EReal) = E.1 i q)
    (q i : Fin 56) (hq : q.val / 8 = j.val / 8) : (panel j s (q.val % 8) (at2 i 0) : EReal) = E.1 i q := by
  unfold panel
  by_cases h : j.val % 8 = 0
  · rw [if_pos h]
    have e : j.val + q.val % 8 = q.val := by omega
    rw [e, colOf_apply, hg]
  · rw [if_neg h]
    exact hc h q i hq

variable (hp : ∀ q i : Fin 56, q.val / 8 = j.val / 8 → (panel j s (q.val % 8) (at2 i 0) : EReal) = E.1 i q)
include hp

/-- A step's factors are the elimination's. -/
theorem fac_eq (i : Fin 56) : (facOf (panel j s (j.val % 8)) j (at2 i 0) : EReal) = fac j E.1 i := by
  rw [facOf_apply, hp j i rfl, hp j j rfl]
  rfl

/-- A step's matrix. -/
theorem stp_g (hg : el s.g = E.1) : el (stp j s).g = (elim j E).1 := by
  funext i k
  refine (subRow_apply _ _ j i k).trans ?_
  rw [fac_eq j s E hp, hg]
  rfl

/-- A step's second matrix. -/
theorem stp_e (he : el s.e = E.2) : el (stp j s).e = (elim j E).2 := by
  funext i k
  refine (subRow_apply _ _ j i k).trans ?_
  rw [fac_eq j s E hp, he]
  rfl

/-- A step's pivots. -/
theorem stp_d (i : Fin 56) : ((stp j s).d (at2 i 0) : EReal) = if i = j then E.1 j j else s.d (at2 i 0) := by
  refine (setPiv_apply _ _ j i).trans ?_
  rw [hp j j rfl]

/-- A step's panel. -/
theorem stp_c (q i : Fin 56) (hq : q.val / 8 = j.val / 8) : ((stp j s).c (q.val % 8) (at2 i 0) : EReal) = (elim j E).1 i q := by
  refine (subOne_apply _ _ j i).trans ?_
  rw [fac_eq j s E hp, hp q i hq, hp q j hq]
  rfl

end

/-- The kernel's states are the elimination's, its pivots the ones already passed, its panel the columns of its eight. -/
theorem sts_apply (g : M56) : ∀ n, n ≤ 56 →
    el (sts g n).g = (elims (el g) n).1 ∧ el (sts g n).e = (elims (el g) n).2
      ∧ (∀ i : Fin 56, i.val < n → ((sts g n).d (at2 i 0) : EReal) = (elims (el g) i.val).1 i i)
      ∧ (n % 8 ≠ 0 → ∀ q i : Fin 56, q.val / 8 = n / 8 → ((sts g n).c (q.val % 8) (at2 i 0) : EReal) = (elims (el g) n).1 i q)
  | 0, _ => ⟨rfl, pay4_el, fun i h => absurd h (Nat.not_lt_zero _), fun h => absurd rfl h⟩
  | n + 1, hn => by
    obtain ⟨hg, he, hd, hc⟩ := sts_apply g n (by omega)
    obtain ⟨j, hj⟩ : ∃ j : Fin 56, j = ix n := ⟨_, rfl⟩
    have hv : j.val = n := by rw [hj]; show min n 55 = n; omega
    have es : sts g (n + 1) = stp j (sts g n) := by rw [hj]; rfl
    have ee : elims (el g) (n + 1) = elim j (elims (el g) n) := by rw [hj]; rfl
    have hp := panel_apply j (sts g n) (elims (el g) n) hg (fun h q i hq => hc (by omega) q i (by omega))
    rw [es, ee]
    refine ⟨stp_g j _ _ hp hg, stp_e j _ _ hp he, fun i hi => ?_, fun h q i hq => stp_c j _ _ hp q i (by omega)⟩
    rw [stp_d j _ _ hp]
    by_cases h : i = j
    · rw [if_pos h, h, hv]
    · rw [if_neg h]
      exact hd i (by have : i.val ≠ j.val := fun x => h (Fin.ext x); omega)

/-- The inverse factor is the second matrix, every row divided by the square root of its pivot. -/
theorem invOf_apply (g : M56) (i k : Fin 56) :
    el (invOf g) i k = Ideal.div ((elims (el g) 56).2 i k) (Ideal.sqrt ((elims (el g) i.val).1 i i)) := by
  have e : el (invOf g) i k = Ideal.div (el (sts g 56).e i k) (broadcastTo S56x56 (sqrt (sts g 56).d) broadcasts_S56x1_S56x56 (at2 i k) : EReal) := rfl
  obtain ⟨_, he, hd, _⟩ := sts_apply g 56 le_rfl
  rw [e, he, broadcastTo_apply _ broadcasts_S56x1_S56x56 (at2 i k) (at2 i 0) (fun a => match a with | ⟨0, _⟩ => rfl | ⟨1, _⟩ => rfl)]
  have q : ((sqrt (sts g 56).d : C56) (at2 i 0) : EReal) = Ideal.sqrt ((sts g 56).d (at2 i 0)) := rfl
  rw [q, hd i i.isLt]

/-- A difference of a real with itself is zero. -/
theorem sub_self_coe (r : ℝ) : (r : EReal) - (r : EReal) = 0 := by rw [← EReal.coe_sub, sub_self, EReal.coe_zero]

/-- The first of the three parts of a column is the column. -/
theorem partsCol_low (y : Fin 56 → EReal) (k : Fin 168) (i : Fin 56) (h : k.val = i.val) : partsCol y k = y i := by
  unfold partsCol
  rw [dif_pos (show k.val < 56 by omega)]
  exact congrArg y (Fin.ext h)

/-- The other parts of a real element of a column are zero. -/
theorem partsCol_high (y : Fin 56 → EReal) (k : Fin 168) (i : Fin 56) (h : 56 ≤ k.val) (hk : k.val % 56 = i.val) (hy : ∃ r : ℝ, y i = r) :
    partsCol y k = 0 := by
  obtain ⟨r, hr⟩ := hy
  unfold partsCol
  rw [dif_neg (show ¬k.val < 56 by omega)]
  split_ifs with h2
  · rw [show (⟨k.val - 56, by omega⟩ : Fin 56) = i from Fin.ext (by show k.val - 56 = i.val; omega), hr, sub_self_coe]
  · rw [show (⟨k.val - 112, by omega⟩ : Fin 56) = i from Fin.ext (by show k.val - 112 = i.val; omega), hr, sub_self_coe, sub_zero]

/-- Whether a row of a sketch is of reals. -/
def RealRow (y : Fin 56 → Fin 524288 → EReal) (i : Fin 56) : Prop := ∀ s, ∃ r : ℝ, y i s = r

/-- The reals of the rows that are of reals. -/
theorem realPart_exists (y : Fin 56 → Fin 524288 → EReal) : ∃ Y : Fin 56 → Fin 524288 → ℝ, ∀ i, RealRow y i → ∀ s, y i s = Y i s := by
  have h : ∀ i s, ∃ r : ℝ, RealRow y i → y i s = r := fun i s => by
    by_cases h : RealRow y i
    · exact (h s).imp fun r hr _ => hr
    · exact ⟨0, fun h' => absurd h' h⟩
  choose Y hY using h
  exact ⟨Y, fun i hi s => hY i s hi⟩

open Classical in
/-- The sums of products of the rows of reals, and the identity in the other rows and columns. -/
def mixed (y : Fin 56 → Fin 524288 → EReal) (Y : Fin 56 → Fin 524288 → ℝ) : RMat := fun i k =>
  if RealRow y i then if RealRow y k then gramR Y i k else one i k else one i k

/-- That matrix is symmetric. -/
theorem mixed_symm (y : Fin 56 → Fin 524288 → EReal) (Y : Fin 56 → Fin 524288 → ℝ) (i k : Fin 56) : mixed y Y i k = mixed y Y k i := by
  have e : one i k = one k i := by unfold one; simp only [eq_comm (a := i) (b := k)]
  unfold mixed
  by_cases hi : RealRow y i <;> by_cases hk : RealRow y k
  · rw [if_pos hi, if_pos hk, if_pos hk, if_pos hi, gramR_symm]
  · rw [if_pos hi, if_neg hk, if_neg hk, e]
  · rw [if_neg hi, if_pos hk, if_neg hi, e]
  · rw [if_neg hi, if_neg hk, e]

/-- That matrix is the identity outside the rows of reals. -/
theorem mixed_apart (y : Fin 56 → Fin 524288 → EReal) (Y : Fin 56 → Fin 524288 → ℝ) : Apart (RealRow y) (mixed y Y) := fun i k h => by
  unfold mixed
  by_cases hi : RealRow y i
  · rw [if_pos hi, if_neg (h.resolve_left (not_not_intro hi))]
  · rw [if_neg hi]

/-- In the rows of reals the sums of products are the real ones. -/
theorem mixed_gram (y : Fin 56 → Fin 524288 → EReal) (Y : Fin 56 → Fin 524288 → ℝ) (hY : ∀ i, RealRow y i → ∀ s, y i s = Y i s) (i k : Fin 56)
    (hi : RealRow y i) (hk : RealRow y k) : gram y i k = up (mixed y Y) i k := by
  have e : mixed y Y i k = gramR Y i k := by unfold mixed; rw [if_pos hi, if_pos hk]
  show _ = ((mixed y Y i k : ℝ) : EReal)
  rw [e]
  refine Eq.trans ?_ (congrFun (congrFun (gram_up Y) i) k)
  exact Finset.sum_congr rfl fun s _ => congrArg₂ (fun a b : EReal => a * b) (hY i hi s) (hY k hk s)

section
variable (m : (ℓ : Loc nD τ sig) → Buf (Elt Ideal) ℓ) (c : Dev nD)

/-- The sums at the first parts' rows and columns are the sketch's sums of products. -/
theorem tAll_low (a : Fin 168) (b : Fin 112) (i k : Fin 56) (ha : a.val = i.val) (hb : b.val = k.val) :
    (tAll m c (at2 a b) : EReal) = gram (yAt m c) i k := by
  show (∑ s : Fin 524288, tOf m c a b s : EReal) = ∑ s : Fin 524288, yAt m c i s * yAt m c k s
  refine Finset.sum_congr rfl fun s _ => ?_
  unfold tOf
  rw [partsCol_low _ a i ha, partsCol_low _ ⟨b.val, by omega⟩ k hb]

/-- The sums at another part's row are zero where the sketch's row is of reals. -/
theorem tAll_row (a : Fin 168) (b : Fin 112) (i : Fin 56) (h : 56 ≤ a.val) (ha : a.val % 56 = i.val) (hy : ∀ s, ∃ r : ℝ, yAt m c i s = r) :
    (tAll m c (at2 a b) : EReal) = 0 := by
  show (∑ s : Fin 524288, tOf m c a b s : EReal) = 0
  refine Finset.sum_eq_zero fun s _ => ?_
  unfold tOf
  rw [partsCol_high _ a i h ha (hy s), zero_mul]

/-- The sums at another part's column are zero where the sketch's row of that number is of reals. -/
theorem tAll_col (a : Fin 168) (b : Fin 112) (i : Fin 56) (h : 56 ≤ b.val) (hb : b.val % 56 = i.val) (hy : ∀ s, ∃ r : ℝ, yAt m c i s = r) :
    (tAll m c (at2 a b) : EReal) = 0 := by
  show (∑ s : Fin 524288, tOf m c a b s : EReal) = 0
  refine Finset.sum_eq_zero fun s _ => ?_
  unfold tOf
  rw [partsCol_high _ ⟨b.val, by omega⟩ i h hb (hy s), mul_zero]

/-- The matrix that the elimination starts from, at an element: six elements of the sums. -/
theorem pay3_apply (t : FVec Ideal S168x112 .f32) (i k : Fin 56) : el (k0_pay3 (F := Ideal) t) i k
    = (t (at2 ⟨i.val, by omega⟩ ⟨k.val, by omega⟩) : EReal)
      + (((t (at2 ⟨i.val, by omega⟩ ⟨56 + k.val, by omega⟩) : EReal) + t (at2 ⟨56 + i.val, by omega⟩ ⟨k.val, by omega⟩))
        + ((t (at2 ⟨56 + i.val, by omega⟩ ⟨56 + k.val, by omega⟩) : EReal)
          + ((t (at2 ⟨112 + i.val, by omega⟩ ⟨k.val, by omega⟩) : EReal) + t (at2 ⟨112 + k.val, by omega⟩ ⟨i.val, by omega⟩)))) := by
  have e : el (k0_pay3 (F := Ideal) t) i k
      = (extractStridedSlice S56x56 ![0, 0] t slices_S168x112_o0_0_S56x56 (at2 i k) : EReal)
        + (((extractStridedSlice S56x56 ![0, 56] t slices_S168x112_o0_56_S56x56 (at2 i k) : EReal) + extractStridedSlice S56x56 ![56, 0] t slices_S168x112_o56_0_S56x56 (at2 i k))
          + ((extractStridedSlice S56x56 ![56, 56] t slices_S168x112_o56_56_S56x56 (at2 i k) : EReal)
            + ((extractStridedSlice S56x56 ![112, 0] t slices_S168x112_o112_0_S56x56 (at2 i k) : EReal)
              + transpose S56x56 [1, 0] (extractStridedSlice S56x56 ![112, 0] t slices_S168x112_o112_0_S56x56) transposes_S56x56_p1_0_S56x56 (at2 i k)))) := rfl
  have q : ∀ (a b : ℕ) (h : S168x112.Slices ![a, b] S56x56) (i k : Fin 56) (ha : a + i.val < 168) (hb : b + k.val < 112),
      (extractStridedSlice S56x56 ![a, b] t h (at2 i k) : EReal) = t (at2 ⟨a + i.val, ha⟩ ⟨b + k.val, hb⟩) := fun a b h i k ha hb =>
    extractStridedSlice_apply _ _ h (at2 i k) (at2 ⟨a + i.val, ha⟩ ⟨b + k.val, hb⟩) (fun d => match d with | ⟨0, _⟩ => rfl | ⟨1, _⟩ => rfl)
  rw [e, transpose_apply _ _ _ (at2 i k) (at2 k i) (fun b => match b with | ⟨0, _⟩ => rfl | ⟨1, _⟩ => rfl)]
  rw [q 0 0 _ i k (by omega) (by omega), q 0 56 _ i k (by omega) (by omega), q 56 0 _ i k (by omega) (by omega), q 56 56 _ i k (by omega) (by omega),
    q 112 0 _ i k (by omega) (by omega), q 112 0 _ k i (by omega) (by omega)]
  simp only [Nat.zero_add]

/-- For rows of reals the elimination starts from the sketch's sums of products. -/
theorem pay3_real (i k : Fin 56) (hi : ∀ s, ∃ r : ℝ, yAt m c i s = r) (hk : ∀ s, ∃ r : ℝ, yAt m c k s = r) :
    el (k0_pay3 (F := Ideal) (tAll m c)) i k = gram (yAt m c) i k := by
  rw [pay3_apply, tAll_low m c _ _ i k rfl rfl, tAll_col m c _ _ k (by show 56 ≤ 56 + k.val; omega) (by show (56 + k.val) % 56 = k.val; omega) hk,
    tAll_row m c _ _ i (by show 56 ≤ 56 + i.val; omega) (by show (56 + i.val) % 56 = i.val; omega) hi,
    tAll_row m c _ _ i (by show 56 ≤ 56 + i.val; omega) (by show (56 + i.val) % 56 = i.val; omega) hi,
    tAll_row m c _ _ i (by show 56 ≤ 112 + i.val; omega) (by show (112 + i.val) % 56 = i.val; omega) hi,
    tAll_row m c _ _ k (by show 56 ≤ 112 + k.val; omega) (by show (112 + k.val) % 56 = k.val; omega) hk]
  simp only [add_zero]

/-- A row of the sketch that is not of reals has an infinite sum of squares. -/
theorem gram_inf (y : Fin 56 → Fin 524288 → EReal) (i : Fin 56) (hi : ¬∀ s, ∃ r : ℝ, y i s = r) : Inf (gram y i i) := by
  obtain ⟨s, hs⟩ := not_forall.1 hi
  exact Inf.sum (fun s => y i s * y i s) s (inf_of_not_real hs).sq

/-- For a row that is not of reals the elimination starts from an infinite number on the diagonal. -/
theorem pay3_inf (i : Fin 56) (hi : ¬∀ s, ∃ r : ℝ, yAt m c i s = r) : Inf (el (k0_pay3 (F := Ideal) (tAll m c)) i i) := by
  rw [pay3_apply, tAll_low m c _ _ i i rfl rfl]
  exact (gram_inf (yAt m c) i hi).add _

/-- Where the pivots of the sketch's sums of products are positive, the kernel's inverse factor is the factorization's. -/
theorem inverse_apply (hp : ∀ j : Fin 56, 0 < compE (gram (yAt m c)) j.val j j) (i k : Fin 56) :
    el (invOf (k0_pay3 (F := Ideal) (tAll m c))) i k = (chols (gram (yAt m c)) 56).x i k := by
  obtain ⟨Y, hY⟩ := realPart_exists (yAt m c)
  rw [invOf_apply]
  exact elims_eq_chols_like (RealRow (yAt m c)) (mixed (yAt m c) Y) _ _ (mixed_symm _ Y) (mixed_apart _ Y)
    ⟨fun i k hi hk => (pay3_real m c i k hi hk).trans (mixed_gram _ Y hY i k hi hk), fun i hi => pay3_inf m c i hi⟩
    ⟨mixed_gram _ Y hY, fun i hi => gram_inf _ i hi⟩ hp i k

end

end Cert.FactorIdeal.Value

end
-- ==== Proof.FullRank.lean ====
/-
  What the precondition of the factor's claim says: every pivot of the sketch's Gram matrix is positive.
-/
module

public import proofs.«01_k».proof.Proof.Gram
public import proofs.«01_k».proof.Proof.Gen.Pre_full_rank
public import Idealize.ShloMosaic.Lib.ReduceAll
public import Idealize.ShloMosaic.Lib.Tactic

@[expose] public section

set_option maxRecDepth 16384

noncomputable section

namespace Cert.FullRank

open Cert.Pre_full_rank Cert.Pre_full_rank.Gen Idealize.ShloMosaic Cert.Chunk Cert.Elimination Idealize.ShloMosaic.ValueIdx

/-- A matrix of the precondition. -/
abbrev V56 := FVec Ideal S56x56 .f32

/-- An element of the diagonal lies in the matrix. -/
theorem slice_pivot (j : Fin 56) : S56x56.Slices ![j.val, j.val] S1x1 :=
  ⟨rfl, fun a => match a with | ⟨0, _⟩ => by show j.val + 1 ≤ 56; omega | ⟨1, _⟩ => by show j.val + 1 ≤ 56; omega⟩

/-- A row lies in the matrix. -/
theorem slice_row (j : Fin 56) : S56x56.Slices ![j.val, 0] S1x56 :=
  ⟨rfl, fun a => match a with | ⟨0, _⟩ => by show j.val + 1 ≤ 56; omega | ⟨1, _⟩ => by show 0 + 56 ≤ 56; omega⟩

/-- A column lies in the matrix. -/
theorem slice_col (j : Fin 56) : S56x56.Slices ![0, j.val] S56x1 :=
  ⟨rfl, fun a => match a with | ⟨0, _⟩ => by show 0 + 56 ≤ 56; omega | ⟨1, _⟩ => by show j.val + 1 ≤ 56; omega⟩

/-- The pivot at `j`. -/
def pivV (j : Fin 56) (s : V56) : FVec Ideal S1x1 .f32 := extractStridedSlice S1x1 ![j.val, j.val] s (slice_pivot j)

/-- Whether the pivot at `j` is positive. -/
def posV (j : Fin 56) (s : V56) : IVec S_ 1 :=
  Host.reduce IntOp.andi (cmpf .ogt (pivV j s) (broadcastInDim S1x1 ![] bcast_S_S1x1 (constant S_ .f32 0x00000000#32))) (constantI S_ 1 1#1) reducesTo_S1x1_S_d0_1 h_S_

/-- The Schur complement of the pivot at `j`. -/
def schurV (j : Fin 56) (s : V56) : V56 :=
  subf s (Host.divf (mulf (broadcastInDim S56x56 ![0, 1] bcast_S56x1_S56x56_0_1 (extractStridedSlice S56x1 ![0, j.val] s (slice_col j)))
    (broadcastInDim S56x56 ![0, 1] bcast_S1x56_S56x56_0_1 (extractStridedSlice S1x56 ![j.val, 0] s (slice_row j))))
    (broadcastInDim S56x56 ![0, 1] bcast_S1x1_S56x56_0_1 (pivV j s)))

/-- What is known of the first `n` pivots, and the Schur complement that is left. -/
def run (ok : IVec S_ 1) (s : V56) (n : ℕ) : IVec S_ 1 × V56 :=
  Nat.rec (ok, s) (fun n p => (andi p.1 (posV ⟨min n 55, by omega⟩ p.2), schurV ⟨min n 55, by omega⟩ p.2)) n

/-- The sketch's Gram matrix. -/
def gramV (y : FVec Ideal S56x524288 .f32) : V56 := Host.dotGeneral dot_S56x524288_S56x524288_S56x56_1_1_0_0_n_n (some .fp32) y y

/-- The precondition is the conjunction over the pivots, one after the other. -/
theorem fn_eq (x0 : IVec S1x704x524288 8) (x1 : FVec Ideal S1x524288 .f32) (x2 : FVec Ideal S704x56 .bf16) :
    @Cert.Pre_full_rank.fn Cert.Pre_full_rank.Gen.facts Ideal _ x0 x1 x2
      = (run (constantI S_ 1 1#1) (gramV (Cert.RefForwardIdeal.Read.val_main_v5 (F := Ideal) x0 x1 x2)) 56).1 := by
  sl_kernel_rfl

/-- The pivot is the element of the diagonal. -/
theorem pivV_apply (j : Fin 56) (s : V56) : (pivV j s (at2 0 0) : EReal) = s (at2 j j) :=
  extractStridedSlice_apply _ _ (slice_pivot j) (at2 0 0) (at2 j j) (fun a => match a with | ⟨0, _⟩ => rfl | ⟨1, _⟩ => rfl)

/-- The Schur complement at an element. -/
theorem schurV_apply (j : Fin 56) (s : V56) (i k : Fin 56) :
    (schurV j s (at2 i k) : EReal) = schurE j (fun i k => s (at2 i k)) i k := by
  unfold schurV schurE
  have e : ∀ a b c : V56, (subf s (Host.divf (mulf a b) c) (at2 i k) : EReal) = s (at2 i k) - Ideal.div ((a (at2 i k) : EReal) * b (at2 i k)) (c (at2 i k)) := fun _ _ _ => rfl
  refine (e _ _ _).trans ?_
  rw [broadcastInDim_apply ![0, 1] bcast_S56x1_S56x56_0_1 _ (at2 i k) (at2 i 0) (fun a => match a with | ⟨0, _⟩ => rfl | ⟨1, _⟩ => rfl),
    broadcastInDim_apply ![0, 1] bcast_S1x56_S56x56_0_1 _ (at2 i k) (at2 0 k) (fun a => match a with | ⟨0, _⟩ => rfl | ⟨1, _⟩ => rfl),
    broadcastInDim_apply ![0, 1] bcast_S1x1_S56x56_0_1 _ (at2 i k) (at2 0 0) (fun a => match a with | ⟨0, _⟩ => rfl | ⟨1, _⟩ => rfl),
    pivV_apply, extractStridedSlice_apply _ _ (slice_col j) (at2 i 0) (at2 i j) (fun a => match a with | ⟨0, _⟩ => (Nat.zero_add _).symm | ⟨1, _⟩ => rfl),
    extractStridedSlice_apply _ _ (slice_row j) (at2 0 k) (at2 j k) (fun a => match a with | ⟨0, _⟩ => rfl | ⟨1, _⟩ => (Nat.zero_add _).symm)]

/-- The matrices that are left are the Schur complements. -/
theorem run_snd (ok : IVec S_ 1) (s : V56) : ∀ n, (fun i k => ((run ok s n).2 (at2 i k) : EReal)) = compE (fun i k => s (at2 i k)) n
  | 0 => rfl
  | n + 1 => by
    funext i k
    refine (schurV_apply (ix n) (run ok s n).2 i k).trans ?_
    rw [run_snd ok s n]
    rfl

/-- A shape without axes has one index. -/
instance : Subsingleton S_.Idx := ⟨fun a b => funext fun i => i.elim0⟩

/-- A conjunction that holds holds of each of its parts. -/
theorem run_fst (ok : IVec S_ 1) (s : V56) (i : S_.Idx) : ∀ n, (run ok s n).1 i = 1#1 → ok i = 1#1 ∧ ∀ k, k < n → posV (ix k) (run ok s k).2 i = 1#1
  | 0, h => ⟨h, fun k hk => absurd hk (Nat.not_lt_zero k)⟩
  | n + 1, h => by
    obtain ⟨a, b⟩ := IntOp.andi_eq_one.1 (show IntOp.andi ((run ok s n).1 i) (posV (ix n) (run ok s n).2 i) = 1#1 from h)
    obtain ⟨c, d⟩ := run_fst ok s i n a
    refine ⟨c, fun k hk => ?_⟩
    rcases Nat.lt_succ_iff_lt_or_eq.1 hk with h' | h'
    · exact d k h'
    · rw [h']; exact b

/-- A comparison that holds says that its left side is above its right side. -/
theorem lt_of_gt {x y : EReal} (h : Ideal.cmp .ogt x y = 1#1) : y < x := by
  have h' : BitVec.ofBool (decide (y < x)) = 1#1 := h
  by_contra hn
  rw [decide_eq_false hn] at h'
  exact absurd h' (by decide)

/-- The Gram matrix at an index. -/
theorem gramV_apply (y : FVec Ideal S56x524288 .f32) : (fun i k => (gramV y (at2 i k) : EReal)) = gram (fun i s => y (at2 i s)) :=
  funext fun i => funext fun k => dot_nt dot_S56x524288_S56x524288_S56x56_1_1_0_0_n_n_wf (some .fp32) y y i k

/-- The precondition says that the sketch's Gram matrix has positive pivots. -/
theorem of_fn (x0 : IVec S1x704x524288 8) (x1 : FVec Ideal S1x524288 .f32) (x2 : FVec Ideal S704x56 .bf16)
    (h : @Cert.Pre_full_rank.fn Cert.Pre_full_rank.Gen.facts Ideal _ x0 x1 x2 = fun _ => 1#1) (j : Fin 56) :
    0 < compE (gram fun i s => Cert.RefForwardIdeal.Read.val_main_v5 (F := Ideal) x0 x1 x2 (at2 i s)) j.val j j := by
  rw [fn_eq] at h
  generalize Cert.RefForwardIdeal.Read.val_main_v5 (F := Ideal) x0 x1 x2 = y at h ⊢
  obtain ⟨_, b⟩ := run_fst _ _ (fun a => a.elim0) 56 (congrFun h (fun a => a.elim0))
  have k := Host.reduce_andi_all _ _ _ _ _ (b j.val j.isLt) (at2 0 0)
  have k' := lt_of_gt k
  rw [pivV_apply, ix_val] at k'
  have e := congrFun (congrFun (run_snd (constantI S_ 1 1#1) (gramV y) j.val) j) j
  rw [gramV_apply] at e
  rw [← e]
  exact lt_of_eq_of_lt Ideal.ofBits_zero_f32.symm k'

end Cert.FullRank

end
-- ==== Proof.RefFactorValue.lean ====
/-
  What the factor's reference computes over the extended reals: the factorization's states, one step after the other.
-/
module

public import proofs.«01_k».proof.Proof.Gram
public import proofs.«01_k».proof.Proof.Gen.RefFactorIdeal.StepRun
public import Idealize.ShloMosaic.Lib.DynamicIndex
public import Idealize.ShloMosaic.Lib.Tactic

@[expose] public section

set_option maxRecDepth 16384

noncomputable section

namespace Cert.RefFactor

open Cert.RefFactorIdeal Cert.RefFactorIdeal.Gen Cert.RefFactorIdeal.Step Idealize.ShloMosaic Cert.Chunk Cert.Elimination Idealize.ShloMosaic.ValueIdx

/-- A state of the reference's loop at its elements. -/
def colOfState (s : State Ideal) : Col := ⟨fun i k => s.main_v14_2 (at2 i k), fun i k => s.main_v14_3 (at2 i k), fun i k => s.main_v14_4 (at2 i k)⟩

/-- The loop's index as a slice's start is the index. -/
theorem start_val : ∀ j : Fin 56, (Scalar.select (IntOp.cmpi .slt (BitVec.ofNat 32 j.val) 0#32) (IntOp.addi (BitVec.ofNat 32 j.val) 56#32) (BitVec.ofNat 32 j.val)).toInt = (j.val : Int) := by
  decide +kernel

/-- An element of the diagonal lies in the matrix. -/
theorem slice_pivot (j : Fin 56) : S56x56.Slices ![j.val, j.val] S1x1 :=
  ⟨rfl, fun a => match a with | ⟨0, _⟩ => by show j.val + 1 ≤ 56; omega | ⟨1, _⟩ => by show j.val + 1 ≤ 56; omega⟩

/-- A row lies in the matrix. -/
theorem slice_row (j : Fin 56) : S56x56.Slices ![j.val, 0] S1x56 :=
  ⟨rfl, fun a => match a with | ⟨0, _⟩ => by show j.val + 1 ≤ 56; omega | ⟨1, _⟩ => by show 0 + 56 ≤ 56; omega⟩

/-- A column lies in the matrix. -/
theorem slice_col (j : Fin 56) : S56x56.Slices ![0, j.val] S56x1 :=
  ⟨rfl, fun a => match a with | ⟨0, _⟩ => by show 0 + 56 ≤ 56; omega | ⟨1, _⟩ => by show j.val + 1 ≤ 56; omega⟩

section
variable (j : Fin 56) (s : State Ideal)

/-- The column below the pivot. -/
theorem b9_apply (i : Fin 56) : (b9 j.val s (at2 i 0) : EReal) = s.main_v14_2 (at2 i j) := by
  unfold b9
  rw [Host.dynamicSlice_eq_extractStridedSlice S56x1 s.main_v14_2 _ ![0, j.val] _ (slice_col j) (fun a => match a with | ⟨0, _⟩ => rfl | ⟨1, _⟩ => start_val j)]
  exact extractStridedSlice_apply _ _ (slice_col j) (at2 i 0) (at2 i j) (fun a => match a with | ⟨0, _⟩ => (Nat.zero_add _).symm | ⟨1, _⟩ => rfl)

/-- The pivot. -/
theorem b22_apply : (b22 j.val s (at2 0 0) : EReal) = s.main_v14_2 (at2 j j) := by
  unfold b22
  rw [Host.dynamicSlice_eq_extractStridedSlice S1x1 s.main_v14_2 _ ![j.val, j.val] _ (slice_pivot j) (fun a => match a with | ⟨0, _⟩ => start_val j | ⟨1, _⟩ => start_val j)]
  exact extractStridedSlice_apply _ _ (slice_pivot j) (at2 0 0) (at2 j j) (fun a => match a with | ⟨0, _⟩ => rfl | ⟨1, _⟩ => rfl)

/-- The pivot's row of the second matrix. -/
theorem b33_apply (k : Fin 56) : (b33 j.val s (at2 0 k) : EReal) = s.main_v14_3 (at2 j k) := by
  unfold b33
  rw [Host.dynamicSlice_eq_extractStridedSlice S1x56 s.main_v14_3 _ ![j.val, 0] _ (slice_row j) (fun a => match a with | ⟨0, _⟩ => start_val j | ⟨1, _⟩ => rfl)]
  exact extractStridedSlice_apply _ _ (slice_row j) (at2 0 k) (at2 j k) (fun a => match a with | ⟨0, _⟩ => rfl | ⟨1, _⟩ => (Nat.zero_add _).symm)

/-- The factor's column. -/
theorem b25_apply (i : Fin 56) : (b25 j.val s (at2 i 0) : EReal) = Ideal.div (s.main_v14_2 (at2 i j)) (Ideal.sqrt (s.main_v14_2 (at2 j j))) := by
  have e : (b25 j.val s (at2 i 0) : EReal) = Ideal.div (b9 j.val s (at2 i 0)) (b24 j.val s (at2 i 0)) := rfl
  have e' : (b24 j.val s (at2 i 0) : EReal) = b23 j.val s (at2 0 0) :=
    broadcastInDim_apply ![0, 1] bcast_S1x1_S56x1_0_1 _ (at2 i 0) (at2 0 0) (fun a => match a with | ⟨0, _⟩ => rfl | ⟨1, _⟩ => rfl)
  have e'' : (b23 j.val s (at2 0 0) : EReal) = Ideal.sqrt (b22 j.val s (at2 0 0)) := rfl
  rw [e, e', e'', b9_apply, b22_apply]

/-- The inverse factor's row. -/
theorem b35_apply (k : Fin 56) : (b35 j.val s (at2 0 k) : EReal) = Ideal.div (s.main_v14_3 (at2 j k)) (Ideal.sqrt (s.main_v14_2 (at2 j j))) := by
  have e : (b35 j.val s (at2 0 k) : EReal) = Ideal.div (b33 j.val s (at2 0 k)) (b34 j.val s (at2 0 k)) := rfl
  have e' : (b34 j.val s (at2 0 k) : EReal) = b23 j.val s (at2 0 0) :=
    broadcastInDim_apply ![0, 1] bcast_S1x1_S1x56_0_1 _ (at2 0 k) (at2 0 0) (fun a => match a with | ⟨0, _⟩ => rfl | ⟨1, _⟩ => rfl)
  have e'' : (b23 j.val s (at2 0 0) : EReal) = Ideal.sqrt (b22 j.val s (at2 0 0)) := rfl
  rw [e, e', e'', b33_apply, b22_apply]

/-- The factor's column, repeated across the columns. -/
theorem b37_apply (i k : Fin 56) : (b37 j.val s (at2 i k) : EReal) = b25 j.val s (at2 i 0) :=
  broadcastInDim_apply ![0, 1] bcast_S56x1_S56x56_0_1 _ (at2 i k) (at2 i 0) (fun a => match a with | ⟨0, _⟩ => rfl | ⟨1, _⟩ => rfl)

/-- The factor's column as a row, repeated down the rows. -/
theorem b38_apply (i k : Fin 56) : (b38 j.val s (at2 i k) : EReal) = b25 j.val s (at2 k 0) :=
  (broadcastInDim_apply ![0, 1] bcast_S1x56_S56x56_0_1 _ (at2 i k) (at2 0 k) (fun a => match a with | ⟨0, _⟩ => rfl | ⟨1, _⟩ => rfl)).trans
    (congrArg (b25 j.val s) (funext fun a => Fin.ext (by match a with | ⟨0, _⟩ => rfl | ⟨1, _⟩ => rfl)))

/-- The solved row, repeated down the rows. -/
theorem b42_apply (i k : Fin 56) : (b42 j.val s (at2 i k) : EReal) = b35 j.val s (at2 0 k) :=
  broadcastInDim_apply ![0, 1] bcast_S1x56_S56x56_0_1 _ (at2 i k) (at2 0 k) (fun a => match a with | ⟨0, _⟩ => rfl | ⟨1, _⟩ => rfl)

/-- Whether a row is the loop's, as a bit. -/
theorem row_bit : ∀ i j : Fin 56, IntOp.cmpi .eq (BitVec.ofNat 32 i.val) (BitVec.ofNat 32 j.val) = if i = j then 1#1 else 0#1 := by decide +kernel

/-- The mask of the solved row. -/
theorem b48_apply (i k : Fin 56) : (b48 (F := Ideal) j.val s (at2 i k) : BitVec 1) = if i = j then 1#1 else 0#1 := row_bit i j

/-- One trip of the loop is one step of the factorization. -/
theorem step_apply : colOfState (step j.val s) = chol j (colOfState s) := by
  unfold colOfState chol
  refine congr (congr (congrArg Col.mk (funext fun i => funext fun k => ?_)) (funext fun i => funext fun k => ?_)) (funext fun i => funext fun k => ?_)
  · have e : ((step j.val s).main_v14_2 (at2 i k) : EReal) = s.main_v14_2 (at2 i k) - b37 j.val s (at2 i k) * b38 j.val s (at2 i k) := rfl
    rw [e, b37_apply, b38_apply, b25_apply, b25_apply]
  · have e : ((step j.val s).main_v14_3 (at2 i k) : EReal) = s.main_v14_3 (at2 i k) - b37 j.val s (at2 i k) * b42 j.val s (at2 i k) := rfl
    rw [e, b37_apply, b42_apply, b25_apply, b35_apply]
  · have e : ((step j.val s).main_v14_4 (at2 i k) : EReal) = Scalar.select (b48 (F := Ideal) j.val s (at2 i k)) (b42 j.val s (at2 i k) : EReal) (s.main_v14_4 (at2 i k)) := rfl
    rw [e, b48_apply, b42_apply, b35_apply]
    by_cases h : i = j
    · rw [if_pos h, if_pos h, select_one]
    · rw [if_neg h, if_neg h, select_zero]

end

/-- The loop's states from its first one. -/
def its (s : State Ideal) (n : ℕ) : State Ideal := Nat.rec s (fun n s => step n s) n

/-- The loop's first state is the Gram matrix, the identity and zero. -/
theorem init_apply (x0 : IVec S1x704x524288 8) (x1 : FVec Ideal S1x524288 .f32) (x2 : FVec Ideal S704x56 .bf16) :
    colOfState (init (F := Ideal) x0 x1 x2) = ⟨gram fun i s => Cert.RefForwardIdeal.Read.val_main_v5 (F := Ideal) x0 x1 x2 (at2 i s), up one, fun _ _ => 0⟩ := by
  unfold colOfState
  refine congr (congr (congrArg Col.mk (funext fun i => funext fun k => ?_)) (funext fun i => funext fun k => ?_)) (funext fun i => funext fun k => ?_)
  · have e : (A_main_v11 (F := Ideal) x0 x1 x2) = Cert.RefForwardIdeal.Read.val_main_v5 (F := Ideal) x0 x1 x2 := by sl_kernel_rfl
    have e' : ((init (F := Ideal) x0 x1 x2).main_v14_2 (at2 i k) : EReal) = A_main_v12 (F := Ideal) x0 x1 x2 (at2 i k) := rfl
    rw [e']
    unfold A_main_v12
    rw [e]
    exact dot_nt dot_S56x524288_S56x524288_S56x56_1_1_0_0_n_n_wf (some .fp32) _ _ i k
  · have e : ∀ i k : Fin 56, IntOp.cmpi .eq (IntOp.addi (BitVec.ofNat 32 i.val) 0#32) (BitVec.ofNat 32 k.val) = if i = k then 1#1 else 0#1 := by decide +kernel
    have e' : ((init (F := Ideal) x0 x1 x2).main_v14_3 (at2 i k) : EReal)
      = (((IntOp.cmpi .eq (IntOp.addi (BitVec.ofNat 32 i.val) 0#32) (BitVec.ofNat 32 k.val)).toNat : ℝ) : EReal) := rfl
    rw [e', e]
    show _ = (((if i = k then 1 else 0 : ℝ)) : EReal)
    by_cases h : i = k
    · rw [if_pos h, if_pos h]; simp
    · rw [if_neg h, if_neg h]; simp
  · exact Ideal.ofBits_zero_f32

/-- The loop's states are the factorization's. -/
theorem its_apply (x0 : IVec S1x704x524288 8) (x1 : FVec Ideal S1x524288 .f32) (x2 : FVec Ideal S704x56 .bf16) :
    ∀ n, n ≤ 56 → colOfState (its (init (F := Ideal) x0 x1 x2) n) = chols (gram fun i s => Cert.RefForwardIdeal.Read.val_main_v5 (F := Ideal) x0 x1 x2 (at2 i s)) n
  | 0, _ => init_apply x0 x1 x2
  | n + 1, h => by
    have e := step_apply ⟨n, by omega⟩ (its (init (F := Ideal) x0 x1 x2) n)
    rw [its_apply x0 x1 x2 n (by omega)] at e
    refine e.trans ?_
    show _ = chol (ix n) _
    rw [show ix n = ⟨n, by omega⟩ from ix_val ⟨n, by omega⟩]

end Cert.RefFactor

end
-- ==== Proof.AlgebraicFactor.lean ====
/-
  The value claim of the factor: the forward kernel's second result over the extended reals is the factor's reference.
-/
module

public import proofs.«01_k».proof.Defs
public import proofs.«01_k».proof.Proof.Gen.FactorIdeal
public import proofs.«01_k».proof.Proof.Gen.RefFactorIdeal
public import proofs.«01_k».proof.Proof.FactorState
public import proofs.«01_k».proof.Proof.FullRank
public import proofs.«01_k».proof.Proof.RefFactorValue
public import proofs.«01_k».proof.Proof.References
public import Idealize.ShloMosaic.Lib.IdealHost

@[expose] public section

set_option maxRecDepth 16384

noncomputable section

namespace Cert.Proof

open Idealize.ShloMosaic Idealize.ShloMosaic.TcCoe Idealize.SL.Sem Cert.Chunk Cert.Elimination

/-- The three parts of a matrix of extended reals, stacked and repeated beside blocks `z`. -/
def stackWith (z x : (Sh 56 56).Idx → EReal) : (Sh 168 168).Idx → EReal :=
  let r : (Sh 56 56).Idx → EReal := fun i => x i - x i
  let l : (Sh 56 56).Idx → EReal := fun i => r i - r i
  concatenate (Sh 168 168) 0 [
    ⟨Sh 56 168, concatenate (Sh 56 168) 1 [⟨Sh 56 56, l⟩, ⟨Sh 56 56, z⟩, ⟨Sh 56 56, z⟩] Cert.FactorIdeal.Gen.concatenates_S56x56_S56x56_S56x56_S56x168_d1⟩,
    ⟨Sh 56 168, concatenate (Sh 56 168) 1 [⟨Sh 56 56, r⟩, ⟨Sh 56 56, r⟩, ⟨Sh 56 56, z⟩] Cert.FactorIdeal.Gen.concatenates_S56x56_S56x56_S56x56_S56x168_d1⟩,
    ⟨Sh 56 168, concatenate (Sh 56 168) 1 [⟨Sh 56 56, x⟩, ⟨Sh 56 56, x⟩, ⟨Sh 56 56, x⟩] Cert.FactorIdeal.Gen.concatenates_S56x56_S56x56_S56x56_S56x168_d1⟩]
    Cert.FactorIdeal.Gen.concatenates_S56x168_S56x168_S56x168_S168x168_d0

/-- The kernel's factor over the extended reals is the stack of its matrix's parts. -/
theorem split_kernel (x : (Sh 56 56).Idx → EReal) :
    Cert.FactorIdeal.Value.splitOf x = stackWith (fun _ => Ideal.ofBits .f32 0x00000000#32) x := by
  sl_kernel_rfl

/-- The reference's factor over the extended reals is the same stack. -/
theorem split_ref (s : Cert.RefFactorIdeal.Step.State Ideal) :
    Cert.RefFactorIdeal.Step.R_main_v28 s = stackWith (fun _ => Ideal.ofBits .bf16 0x0000#16) s.main_v14_4 := by
  sl_kernel_rfl

/-- The two stacks are one: both blocks are zero. -/
theorem split_eq (x : (Sh 56 56).Idx → EReal) (s : Cert.RefFactorIdeal.Step.State Ideal) (h : s.main_v14_4 = x) :
    Cert.RefFactorIdeal.Step.R_main_v28 s = Cert.FactorIdeal.Value.splitOf x := by
  rw [split_ref, split_kernel, h, Ideal.ofBits_zero_f32, Ideal.ofBits_zero_bf16]

/-- Where the pivots of the sketch's sums of products are positive, the kernel's inverse factor is the reference's. -/
theorem inverse_eq (m : (ℓ : Loc Cert.FactorIdeal.nD Cert.FactorIdeal.τ Cert.FactorIdeal.sig) → Buf (Elt Ideal) ℓ) (c : Dev Cert.FactorIdeal.nD)
    (x0 : IVec Cert.RefFactorIdeal.S1x704x524288 8) (x1 : FVec Ideal Cert.RefFactorIdeal.S1x524288 .f32) (x2 : FVec Ideal Cert.RefFactorIdeal.S704x56 .bf16)
    (hy : Cert.FactorIdeal.Value.yAt m c = fun j s => Cert.RefForwardIdeal.Read.val_main_v5 (F := Ideal) x0 x1 x2 (at2 j s))
    (hp : ∀ j : Fin 56, 0 < compE (gram (Cert.FactorIdeal.Value.yAt m c)) j.val j j) (i k : Fin 56) :
    (Cert.RefFactor.its (Cert.RefFactorIdeal.Step.init (F := Ideal) x0 x1 x2) 56).main_v14_4 (at2 i k)
      = Cert.FactorIdeal.Value.el (Cert.FactorIdeal.Value.invOf (Cert.FactorIdeal.Gen.k0_pay3 (F := Ideal) (Cert.FactorIdeal.Value.tAll m c))) i k := by
  rw [Cert.FactorIdeal.Value.inverse_apply m c hp]
  have q := Cert.RefFactor.its_apply x0 x1 x2 56 le_rfl
  rw [← hy] at q
  exact congrFun (congrFun (congrArg Col.x q) i) k

/-- Where the pivots of its sums of products are positive, the forward kernel's factor is the reference's. -/
theorem algebraic_factor : @Cert.algebraic_FactorIdeal_RefFactorIdeal_pre_full_rank Cert.FactorIdeal.Gen.facts Cert.RefFactorIdeal.Gen.facts
    Cert.Pre_full_rank.Gen.facts := by
  intro m g m' g' hpre hagree
  refine ⟨Cert.FactorIdeal.Value.pArr m, Cert.FactorIdeal.Value.run_value m g, ?_⟩
  refine (θ_run Cert.RefFactorIdeal.defs _ _).mono (fun r h c => ⟨(h c).1.trans ?_, (h c).2⟩)
    (Cert.RefFactorIdeal.StepRun.run_iter (F := Ideal) m' g' (fun c => Cert.RefFactor.its (Cert.RefFactorIdeal.StepRun.initState m' c)) (fun _ => rfl) (fun _ _ => rfl))
  obtain ⟨e0, e1, e2⟩ := hagree c
  have hp := Cert.FullRank.of_fn _ _ _ (hpre c)
  have hy : Cert.FactorIdeal.Value.yAt m c = fun j s => Cert.RefForwardIdeal.Read.val_main_v5 (F := Ideal)
      (m ((c : Thread Cert.FactorIdeal.nD Cert.FactorIdeal.τ).loc Cert.FactorIdeal.main_arg0))
      (m ((c : Thread Cert.FactorIdeal.nD Cert.FactorIdeal.τ).loc Cert.FactorIdeal.main_arg1))
      (m ((c : Thread Cert.FactorIdeal.nD Cert.FactorIdeal.τ).loc Cert.FactorIdeal.main_arg2)) (at2 j s) :=
    funext fun j => funext fun s => (Cert.References.ysketch _ _ _ (at2 j s)).symm
  refine split_eq _ _ (funext fun i => ?_)
  show (Cert.RefFactor.its (Cert.RefFactorIdeal.Step.init (F := Ideal)
    (m' ((c : Thread Cert.RefFactorIdeal.nD Cert.RefFactorIdeal.τ).loc Cert.RefFactorIdeal.main_arg0))
    (m' ((c : Thread Cert.RefFactorIdeal.nD Cert.RefFactorIdeal.τ).loc Cert.RefFactorIdeal.main_arg1))
    (m' ((c : Thread Cert.RefFactorIdeal.nD Cert.RefFactorIdeal.τ).loc Cert.RefFactorIdeal.main_arg2))) 56).main_v14_4 i = _
  rw [e0, e1, e2, ValueIdx.eq_ix2 i]
  refine inverse_eq m c _ _ _ hy ?_ (i 0) (i 1)
  rw [hy]
  exact hp

end Cert.Proof

end
-- ==== Proof.lean ====
/- The proof of the certificate: the two kernels and the three references run and leave their arguments, the kernels' rewritings
   preserve their meaning, and over the extended reals each kernel's results are its reference's. -/
module

public import proofs.«01_k».proof.Defs
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.Backward
public import proofs.«01_k».proof.Proof.Gen.Backward.Skeleton
public import proofs.«01_k».proof.Proof.Gen.Backward.Launch
public import proofs.«01_k».proof.Proof.Gen.Backward.Points
public import proofs.«01_k».proof.Proof.Gen.Backward.Frame
public import proofs.«01_k».proof.Proof.Gen.BackwardIdeal
public import proofs.«01_k».proof.Proof.Gen.BackwardIdeal.Skeleton
public import proofs.«01_k».proof.Proof.Gen.BackwardIdeal.Launch
public import proofs.«01_k».proof.Proof.Gen.BackwardIdeal.Points
public import proofs.«01_k».proof.Proof.Gen.BackwardIdeal.Frame
public import proofs.«01_k».proof.Proof.Gen.Factor
public import proofs.«01_k».proof.Proof.Gen.Factor.Skeleton
public import proofs.«01_k».proof.Proof.Gen.Factor.Launch
public import proofs.«01_k».proof.Proof.Gen.Factor.Points
public import proofs.«01_k».proof.Proof.Gen.Factor.Frame
public import proofs.«01_k».proof.Proof.Gen.FactorIdeal
public import proofs.«01_k».proof.Proof.Gen.FactorIdeal.Skeleton
public import proofs.«01_k».proof.Proof.Gen.FactorIdeal.Launch
public import proofs.«01_k».proof.Proof.Gen.FactorIdeal.Points
public import proofs.«01_k».proof.Proof.Gen.FactorIdeal.Frame
public import proofs.«01_k».proof.Proof.Gen.RefForwardIdeal
public import proofs.«01_k».proof.Proof.Gen.RefFactorIdeal
public import proofs.«01_k».proof.Proof.Gen.RefBackwardIdeal
public import proofs.«01_k».proof.Proof.Gen.Pre_finite
public import proofs.«01_k».proof.Proof.Gen.Pre_full_rank
public import proofs.«01_k».proof.Proof.Algebraic
public import proofs.«01_k».proof.Proof.AlgebraicFactor
public import Idealize.ShloMosaic.Adequacy
public import Idealize.ShloMosaic.Init

@[expose] public section

noncomputable section

namespace Cert.Proof

open Idealize.ShloMosaic Idealize.SL.Sem

/-- The forward reference runs and leaves its arguments; it declares no semaphore. -/
theorem frame_ref_forward : @Cert.quiescent_RefForwardIdeal Cert.RefForwardIdeal.Gen.facts := fun m ρ _ =>
  (θ_run Cert.RefForwardIdeal.defs _ _).mono (fun r h => ⟨fun c => (h c).2, sem_eq_zero_of_no_sems (by decide) r.2⟩)
    (Cert.RefForwardIdeal.Value.run (F := Ideal) m ρ)

/-- The backward reference runs and leaves its arguments; it declares no semaphore. -/
theorem frame_ref_backward : @Cert.quiescent_RefBackwardIdeal Cert.RefBackwardIdeal.Gen.facts := fun m ρ _ =>
  (θ_run Cert.RefBackwardIdeal.defs _ _).mono (fun r h => ⟨fun c => (h c).2.2, sem_eq_zero_of_no_sems (by decide) r.2⟩)
    (Cert.RefBackwardIdeal.Value.run (F := Ideal) m ρ)

/-- The factor's reference runs and leaves its arguments; it declares no semaphore. -/
theorem frame_ref_factor : @Cert.quiescent_RefFactorIdeal Cert.RefFactorIdeal.Gen.facts := fun m ρ _ =>
  (θ_run Cert.RefFactorIdeal.defs _ _).mono (fun r h => ⟨fun c => (h c).2, sem_eq_zero_of_no_sems (by decide) r.2⟩)
    (Cert.RefFactorIdeal.Value.run (F := Ideal) m ρ)

/-- Everything the certificate claims. -/
theorem claim : Cert.Claim := ⟨Cert.Forward.Gen.facts, Cert.ForwardIdeal.Gen.facts, Cert.Factor.Gen.facts, Cert.FactorIdeal.Gen.facts,
  Cert.Backward.Gen.facts, Cert.BackwardIdeal.Gen.facts, Cert.RefForwardIdeal.Gen.facts, Cert.RefFactorIdeal.Gen.facts, Cert.RefBackwardIdeal.Gen.facts,
  Cert.Pre_full_rank.Gen.facts, Cert.Pre_finite.Gen.facts,
  fun m ρ _ => Cert.Forward.Gen.frame m ρ, fun m ρ _ => Cert.ForwardIdeal.Gen.frame m ρ, fun m ρ _ => Cert.Factor.Gen.frame m ρ,
  fun m ρ _ => Cert.FactorIdeal.Gen.frame m ρ, fun m ρ _ => Cert.FactorIdeal.Gen.frame m ρ, fun m ρ _ => Cert.Backward.Gen.frame m ρ,
  fun m ρ _ => Cert.BackwardIdeal.Gen.frame m ρ, fun m ρ _ => Cert.BackwardIdeal.Gen.frame m ρ,
  frame_ref_forward, frame_ref_factor, fun m ρ _ => frame_ref_factor m ρ trivial, frame_ref_backward, fun m ρ _ => frame_ref_backward m ρ trivial,
  ⟨IdealRules.bf16_pack.statement _, IdealRules.bf16_pack.statement _⟩, ⟨IdealRules.bf16_pack.statement _, IdealRules.bf16_pack.statement _⟩,
  IdealRules.bf16_pack.statement _, algebraic_forward, algebraic_factor, algebraic_backward⟩

end Cert.Proof

end
